-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "q_thresh" .f32 0x3F23D70B#32 ((1475739569874923725 / 2305843009213693952 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x3x3 : Shape := ⟨3, ![16384, 3, 3]⟩
abbrev S16384x3 : Shape := ⟨2, ![16384, 3]⟩
abbrev S1024x4x4 : Shape := ⟨3, ![1024, 4, 4]⟩
abbrev S16384x3x1 : Shape := ⟨3, ![16384, 3, 1]⟩
abbrev S3x16384 : Shape := ⟨2, ![3, 16384]⟩
abbrev S1024x16 : Shape := ⟨2, ![1024, 16]⟩
abbrev S4x16384 : Shape := ⟨2, ![4, 16384]⟩
abbrev S16384 : Shape := ⟨1, ![16384]⟩
abbrev S1x16384 : Shape := ⟨2, ![1, 16384]⟩
abbrev S1024x11 : Shape := ⟨2, ![1024, 11]⟩
abbrev S1024x1 : Shape := ⟨2, ![1024, 1]⟩
abbrev S128x16 : Shape := ⟨2, ![128, 16]⟩
abbrev S128x11 : Shape := ⟨2, ![128, 11]⟩
abbrev S128x1 : Shape := ⟨2, ![128, 1]⟩
abbrev S128x16384 : Shape := ⟨2, ![128, 16384]⟩
abbrev S128x3 : Shape := ⟨2, ![128, 3]⟩
abbrev S128 : Shape := ⟨1, ![128]⟩
abbrev S128x128 : Shape := ⟨2, ![128, 128]⟩
abbrev S3x1024 : Shape := ⟨2, ![3, 1024]⟩
abbrev S128x1024 : Shape := ⟨2, ![128, 1024]⟩
abbrev S1x128 : Shape := ⟨2, ![1, 128]⟩
abbrev S128x9 : Shape := ⟨2, ![128, 9]⟩
abbrev S1 : Shape := ⟨1, ![1]⟩
abbrev S1x1 : Shape := ⟨2, ![1, 1]⟩
abbrev S1024 : Shape := ⟨1, ![1024]⟩

abbrev nBuf : Space → Nat
  | .hbm => 15
  | .vmem => 16
  | .smem => 0
  | _ => 0

abbrev bufTy : (tb : Table) → Fin (tcTables nBuf tb) → BufTy
  | .hbm, ⟨0, _⟩ => ⟨S16384x3x3, .f32⟩
  | .hbm, ⟨1, _⟩ => ⟨S16384x3, .f32⟩
  | .hbm, ⟨2, _⟩ => ⟨S1024x4x4, .f32⟩
  | .hbm, ⟨3, _⟩ => ⟨S16384x3x1, .f32⟩
  | .hbm, ⟨4, _⟩ => ⟨S16384x3, .f32⟩
  | .hbm, ⟨5, _⟩ => ⟨S3x16384, .f32⟩
  | .hbm, ⟨6, _⟩ => ⟨S3x16384, .f32⟩
  | .hbm, ⟨7, _⟩ => ⟨S1024x16, .f32⟩
  | .hbm, ⟨8, _⟩ => ⟨S3x16384, .f32⟩
  | .hbm, ⟨9, _⟩ => ⟨S4x16384, .f32⟩
  | .hbm, ⟨10, _⟩ => ⟨S1024x11, .f32⟩
  | .hbm, ⟨11, _⟩ => ⟨S1024x1, .i32⟩
  | .hbm, ⟨12, _⟩ => ⟨S1024x1, .i32⟩
  | .hbm, ⟨13, _⟩ => ⟨S1024, .i32⟩
  | .hbm, ⟨14, _⟩ => ⟨S1024, .i32⟩
  | .local _ .vmem, ⟨0, _⟩ => ⟨S3x16384, .f32⟩
  | .local _ .vmem, ⟨1, _⟩ => ⟨S3x16384, .f32⟩
  | .local _ .vmem, ⟨2, _⟩ => ⟨S3x16384, .f32⟩
  | .local _ .vmem, ⟨3, _⟩ => ⟨S4x16384, .f32⟩
  | .local _ .vmem, ⟨4, _⟩ => ⟨S3x16384, .f32⟩
  | .local _ .vmem, ⟨5, _⟩ => ⟨S4x16384, .f32⟩
  | .local _ .vmem, ⟨6, _⟩ => ⟨S128x16, .f32⟩
  | .local _ .vmem, ⟨7, _⟩ => ⟨S128x16, .f32⟩
  | .local _ .vmem, ⟨8, _⟩ => ⟨S128x11, .f32⟩
  | .local _ .vmem, ⟨9, _⟩ => ⟨S128x11, .f32⟩
  | .local _ .vmem, ⟨10, _⟩ => ⟨S128x1, .i32⟩
  | .local _ .vmem, ⟨11, _⟩ => ⟨S128x1, .i32⟩
  | .local _ .vmem, ⟨12, _⟩ => ⟨S128x1, .i32⟩
  | .local _ .vmem, ⟨13, _⟩ => ⟨S128x1, .i32⟩
  | .local _ .vmem, ⟨14, _⟩ => ⟨S128x16384, .f32⟩
  | .local _ .vmem, ⟨15, _⟩ => ⟨S128x16384, .f32⟩
  | _, _ => ⟨S16384x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := .none

abbrev stage0_0 : Fin 1 → Memref sig .tc .vmem S3x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![8], ![false]⟩

def k1_off1 (c0_i32_26 : BitVec 32) : Fin 2 → Nat :=
  let c0_27 : Index := 0#32
  let c128_i32 : BitVec 32 := 128#32
  let v52 : BitVec 32 := Scalar.muli c0_i32_26 c128_i32
  let v53 : Index := Scalar.indexCast v52
  ![0, v53.toNat]
def k1_off2 (c0_i32_26 : BitVec 32) : Fin 2 → Nat :=
  let c3 : Index := 3#32
  let c128_i32 : BitVec 32 := 128#32
  let v52 : BitVec 32 := Scalar.muli c0_i32_26 c128_i32
  let v59 : Index := Scalar.indexCast v52
  ![3, v59.toNat]
@[reducible] def k1_t1_loop : Scf.Loop 32 :=
  let c0_i32_1725 : BitVec 32 := 0#32
  let c128_i32_1726 : BitVec 32 := 128#32
  let v4493 : BitVec 32 := Scalar.addi c0_i32_1725 c128_i32_1726
  let c1_i32_1727 : BitVec 32 := 1#32
  ⟨c0_i32_1725, v4493, c1_i32_1727⟩
def k1_off3 (k1_t1 : Fin k1_t1_loop.trips) : Fin 2 → Nat :=
  let c0_1748 : Index := 0#32
  let c0_i32_1725 : BitVec 32 := 0#32
  let c1_i32_1727 : BitVec 32 := 1#32
  let arg9 : BitVec 32 := Scf.iv c0_i32_1725 c1_i32_1727 k1_t1
  let c128_i32_1747 : BitVec 32 := 128#32
  let v4529 : BitVec 32 := Scalar.muli arg9 c128_i32_1747
  let v4530 : Index := Scalar.indexCast v4529
  ![0, v4530.toNat]
@[reducible] def k1_t2_loop : Scf.Loop 32 :=
  let c0_i32_1731 : BitVec 32 := 0#32
  let c128_i32_1732 : BitVec 32 := 128#32
  let v4499 : BitVec 32 := Scalar.addi c0_i32_1731 c128_i32_1732
  let c1_i32_1733 : BitVec 32 := 1#32
  ⟨c0_i32_1731, v4499, c1_i32_1733⟩
def k1_off4 (k1_t2 : Fin k1_t2_loop.trips) : Fin 2 → Nat :=
  let c0_1748 : Index := 0#32
  let c0_i32_1731 : BitVec 32 := 0#32
  let c1_i32_1733 : BitVec 32 := 1#32
  let arg9 : BitVec 32 := Scf.iv c0_i32_1731 c1_i32_1733 k1_t2
  let c128_i32_1747 : BitVec 32 := 128#32
  let v4529 : BitVec 32 := Scalar.muli arg9 c128_i32_1747
  let v4530 : Index := Scalar.indexCast v4529
  ![0, v4530.toNat]
def k1_off5 (k1_t2 : Fin k1_t2_loop.trips) : Fin 2 → Nat :=
  let c3_1751 : Index := 3#32
  let c0_i32_1731 : BitVec 32 := 0#32
  let c1_i32_1733 : BitVec 32 := 1#32
  let arg9 : BitVec 32 := Scf.iv c0_i32_1731 c1_i32_1733 k1_t2
  let c128_i32_1747 : BitVec 32 := 128#32
  let v4529 : BitVec 32 := Scalar.muli arg9 c128_i32_1747
  let v4536 : Index := Scalar.indexCast v4529
  ![3, v4536.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S3x16384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x16384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x11 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "q_thresh" => some ((1475739569874923725 / 2305843009213693952 : ℝ) : EReal)
  | _ => none
-- ==== ReferenceIdeal.lean ====
abbrev S16384x3x3 : Shape := ⟨3, ![16384, 3, 3]⟩
abbrev S16384x3 : Shape := ⟨2, ![16384, 3]⟩
abbrev S1024x4x4 : Shape := ⟨3, ![1024, 4, 4]⟩
abbrev S1024x3x3 : Shape := ⟨3, ![1024, 3, 3]⟩
abbrev S1024x3x1 : Shape := ⟨3, ![1024, 3, 1]⟩
abbrev S1024x3 : Shape := ⟨2, ![1024, 3]⟩
abbrev S_ : Shape := ⟨0, ![]⟩
abbrev S1024 : Shape := ⟨1, ![1024]⟩
abbrev S1024x1 : Shape := ⟨2, ![1024, 1]⟩
abbrev S16384x3x1 : Shape := ⟨3, ![16384, 3, 1]⟩
abbrev S16384 : Shape := ⟨1, ![16384]⟩
abbrev S16384x1 : Shape := ⟨2, ![16384, 1]⟩
abbrev S3x16384 : Shape := ⟨2, ![3, 16384]⟩
abbrev S1024x16384 : Shape := ⟨2, ![1024, 16384]⟩
abbrev S1x16384 : Shape := ⟨2, ![1, 16384]⟩
abbrev S1024x1x1 : Shape := ⟨3, ![1024, 1, 1]⟩
abbrev S1 : Shape := ⟨1, ![1]⟩
abbrev S1x1x1 : Shape := ⟨3, ![1, 1, 1]⟩
abbrev S1024x9 : Shape := ⟨2, ![1024, 9]⟩
abbrev S1024x11 : Shape := ⟨2, ![1024, 11]⟩

abbrev nBuf : Space → Nat
  | .hbm => 142
  | .vmem => 0
  | .smem => 0
  | _ => 0

abbrev hbmTy0_0 (i : Nat) : BufTy := match i % 128 with
  | 0 => ⟨S16384x3x3, .f32⟩
  | 1 => ⟨S16384x3, .f32⟩
  | 2 => ⟨S1024x4x4, .f32⟩
  | 3 => ⟨S1024x3x3, .f32⟩
  | 4 => ⟨S1024x3x1, .f32⟩
  | 5 => ⟨S1024x3, .f32⟩
  | 6 => ⟨S1024x3, .f32⟩
  | 7 => ⟨S_, .f32⟩
  | 8 => ⟨S1024, .f32⟩
  | 9 => ⟨S1024x1, .f32⟩
  | 10 => ⟨S1024x1, .f32⟩
  | 11 => ⟨S_, .f32⟩
  | 12 => ⟨S1024x1, .f32⟩
  | 13 => ⟨S1024x1, .f32⟩
  | 14 => ⟨S1024x3, .f32⟩
  | 15 => ⟨S1024x3, .f32⟩
  | 16 => ⟨S1024x3x1, .f32⟩
  | 17 => ⟨S1024x3, .f32⟩
  | 18 => ⟨S16384x3x1, .f32⟩
  | 19 => ⟨S16384x3, .f32⟩
  | 20 => ⟨S16384x3, .f32⟩
  | 21 => ⟨S_, .f32⟩
  | 22 => ⟨S16384, .f32⟩
  | 23 => ⟨S16384x1, .f32⟩
  | 24 => ⟨S16384x1, .f32⟩
  | 25 => ⟨S_, .f32⟩
  | 26 => ⟨S16384x1, .f32⟩
  | 27 => ⟨S16384x1, .f32⟩
  | 28 => ⟨S16384x3, .f32⟩
  | 29 => ⟨S16384x3, .f32⟩
  | 30 => ⟨S3x16384, .f32⟩
  | 31 => ⟨S1024x16384, .f32⟩
  | 32 => ⟨S_, .f32⟩
  | 33 => ⟨S_, .f32⟩
  | 34 => ⟨S_, .f32⟩
  | 35 => ⟨S1024x16384, .f32⟩
  | 36 => ⟨S1024x16384, .f32⟩
  | 37 => ⟨S_, .f32⟩
  | 38 => ⟨S1024x16384, .f32⟩
  | 39 => ⟨S1024x16384, .f32⟩
  | 40 => ⟨S1024x16384, .f32⟩
  | 41 => ⟨S1024x3, .f32⟩
  | 42 => ⟨S_, .f32⟩
  | 43 => ⟨S1024, .f32⟩
  | 44 => ⟨S1024x1, .f32⟩
  | 45 => ⟨S16384x3, .f32⟩
  | 46 => ⟨S_, .f32⟩
  | 47 => ⟨S16384, .f32⟩
  | 48 => ⟨S1x16384, .f32⟩
  | 49 => ⟨S3x16384, .f32⟩
  | 50 => ⟨S1024x16384, .f32⟩
  | 51 => ⟨S1024x16384, .f32⟩
  | 52 => ⟨S1024x16384, .f32⟩
  | 53 => ⟨S1024x16384, .f32⟩
  | 54 => ⟨S_, .f32⟩
  | 55 => ⟨S1024x16384, .f32⟩
  | 56 => ⟨S1024x16384, .f32⟩
  | 57 => ⟨S1024x16384, .f32⟩
  | 58 => ⟨S_, .f32⟩
  | 59 => ⟨S1024x16384, .f32⟩
  | 60 => ⟨S1024x16384, .f32⟩
  | 61 => ⟨S_, .f32⟩
  | 62 => ⟨S1024x16384, .f32⟩
  | 63 => ⟨S1024x16384, .f32⟩
  | 64 => ⟨S1024x16384, .f32⟩
  | 65 => ⟨S_, .f32⟩
  | 66 => ⟨S1024x16384, .f32⟩
  | 67 => ⟨S1024x16384, .i1⟩
  | 68 => ⟨S_, .i1⟩
  | 69 => ⟨S1024, .i1⟩
  | 70 => ⟨S1024x1, .i1⟩
  | 71 => ⟨S1024x16384, .i1⟩
  | 72 => ⟨S1024x16384, .i1⟩
  | 73 => ⟨S1024x16384, .i1⟩
  | 74 => ⟨S_, .f32⟩
  | 75 => ⟨S_, .f32⟩
  | 76 => ⟨S1024x16384, .f32⟩
  | 77 => ⟨S1024x16384, .f32⟩
  | 78 => ⟨S_, .f32⟩
  | 79 => ⟨S_, .f32⟩
  | 80 => ⟨S1024x16384, .f32⟩
  | 81 => ⟨S1024x16384, .f32⟩
  | 82 => ⟨S1024x16384, .i32⟩
  | 83 => ⟨S_, .f32⟩
  | 84 => ⟨S_, .i32⟩
  | 85 => ⟨S1024, .f32⟩
  | 86 => ⟨S1024, .i32⟩
  | 87 => ⟨S1024x1, .i32⟩
  | 88 => ⟨S_, .i32⟩
  | 89 => ⟨S1024x1, .i32⟩
  | 90 => ⟨S1024x1, .i1⟩
  | 91 => ⟨S_, .i32⟩
  | 92 => ⟨S1024x1, .i32⟩
  | 93 => ⟨S1024x1, .i32⟩
  | 94 => ⟨S1024x1, .i32⟩
  | 95 => ⟨S1024x1x1, .i32⟩
  | 96 => ⟨S1, .i32⟩
  | 97 => ⟨S_, .i32⟩
  | 98 => ⟨S1024x1x1, .i32⟩
  | 99 => ⟨S1024x1x1, .i1⟩
  | 100 => ⟨S1x1x1, .i32⟩
  | 101 => ⟨S1024x1x1, .i32⟩
  | 102 => ⟨S1024x1x1, .i1⟩
  | 103 => ⟨S1024x1x1, .i1⟩
  | 104 => ⟨S_, .i1⟩
  | 105 => ⟨S1024x1, .i1⟩
  | 106 => ⟨S1024x1, .f32⟩
  | 107 => ⟨S_, .f32⟩
  | 108 => ⟨S1024x1, .f32⟩
  | 109 => ⟨S1024x1, .f32⟩
  | 110 => ⟨S1024, .f32⟩
  | 111 => ⟨S1024x1, .i32⟩
  | 112 => ⟨S_, .i32⟩
  | 113 => ⟨S1024x1, .i32⟩
  | 114 => ⟨S1024x1, .i1⟩
  | 115 => ⟨S_, .i32⟩
  | 116 => ⟨S1024x1, .i32⟩
  | 117 => ⟨S1024x1, .i32⟩
  | 118 => ⟨S1024x1, .i32⟩
  | 119 => ⟨S1024x1x1, .i32⟩
  | 120 => ⟨S1, .i32⟩
  | 121 => ⟨S_, .i32⟩
  | 122 => ⟨S1024x1x1, .i32⟩
  | 123 => ⟨S1024x1x1, .i1⟩
  | 124 => ⟨S1x1x1, .i32⟩
  | 125 => ⟨S1024x1x1, .i32⟩
  | 126 => ⟨S1024x1x1, .i1⟩
  | 127 => ⟨S1024x1x1, .i1⟩
  | _ => ⟨S16384x3x3, .f32⟩

abbrev hbmTy0_1 (i : Nat) : BufTy := match i % 128 with
  | 0 => ⟨S_, .i1⟩
  | 1 => ⟨S1024x1, .i1⟩
  | 2 => ⟨S1024x1, .f32⟩
  | 3 => ⟨S_, .f32⟩
  | 4 => ⟨S1024x1, .f32⟩
  | 5 => ⟨S1024x1, .f32⟩
  | 6 => ⟨S1024, .f32⟩
  | 7 => ⟨S1024x16384, .i32⟩
  | 8 => ⟨S_, .i32⟩
  | 9 => ⟨S1024, .i32⟩
  | 10 => ⟨S1024x1, .f32⟩
  | 11 => ⟨S1024x1, .f32⟩
  | 12 => ⟨S1024x9, .f32⟩
  | 13 => ⟨S1024x11, .f32⟩
  | _ => ⟨S16384x3x3, .f32⟩

abbrev hbmTy (i : Nat) : BufTy := match i / 128 with
  | 0 => hbmTy0_0 i
  | 1 => hbmTy0_1 i
  | _ => ⟨S16384x3x3, .f32⟩

abbrev bufTy : (tb : Table) → Fin (tcTables nBuf tb) → BufTy
  | .hbm, ⟨i, _⟩ => hbmTy i
  | _, _ => ⟨S16384x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_cst_2 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_c : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_call3_v0 : Ref sig .tc := ⟨.hbm, 75, rfl⟩
abbrev main_call3_v1 : Ref sig .tc := ⟨.hbm, 76, rfl⟩
abbrev main_v47 : Ref sig .tc := ⟨.hbm, 77, rfl⟩
abbrev main_cst_10 : Ref sig .tc := ⟨.hbm, 78, rfl⟩
abbrev main_call4_v0 : Ref sig .tc := ⟨.hbm, 79, rfl⟩
abbrev main_call4_v1 : Ref sig .tc := ⟨.hbm, 80, rfl⟩
abbrev main_v48 : Ref sig .tc := ⟨.hbm, 81, rfl⟩
abbrev main_call5_v0 : Ref sig .tc := ⟨.hbm, 82, rfl⟩
abbrev main_call5_cst : Ref sig .tc := ⟨.hbm, 83, rfl⟩
abbrev main_call5_c : Ref sig .tc := ⟨.hbm, 84, rfl⟩
abbrev main_call5_v1_0 : Ref sig .tc := ⟨.hbm, 85, rfl⟩
abbrev main_v49 : Ref sig .tc := ⟨.hbm, 86, rfl⟩
abbrev main_v50 : Ref sig .tc := ⟨.hbm, 87, rfl⟩
abbrev main_call6_c : Ref sig .tc := ⟨.hbm, 88, rfl⟩
abbrev main_call6_v0 : Ref sig .tc := ⟨.hbm, 89, rfl⟩
abbrev main_call6_v1 : Ref sig .tc := ⟨.hbm, 90, rfl⟩
abbrev main_call6_c_0 : Ref sig .tc := ⟨.hbm, 91, rfl⟩
abbrev main_call6_v2 : Ref sig .tc := ⟨.hbm, 92, rfl⟩
abbrev main_call6_v3 : Ref sig .tc := ⟨.hbm, 93, rfl⟩
abbrev main_call6_v4 : Ref sig .tc := ⟨.hbm, 94, rfl⟩
abbrev main_call6_v5 : Ref sig .tc := ⟨.hbm, 95, rfl⟩
abbrev main_call6_c_1 : Ref sig .tc := ⟨.hbm, 96, rfl⟩
abbrev main_call6_c_2 : Ref sig .tc := ⟨.hbm, 97, rfl⟩
abbrev main_call6_v6 : Ref sig .tc := ⟨.hbm, 98, rfl⟩
abbrev main_call6_v7 : Ref sig .tc := ⟨.hbm, 99, rfl⟩
abbrev main_call6_v8 : Ref sig .tc := ⟨.hbm, 100, rfl⟩
abbrev main_call6_v9 : Ref sig .tc := ⟨.hbm, 101, rfl⟩
abbrev main_call6_v10 : Ref sig .tc := ⟨.hbm, 102, rfl⟩
abbrev main_call6_v11 : Ref sig .tc := ⟨.hbm, 103, rfl⟩
abbrev main_call6_c_3 : Ref sig .tc := ⟨.hbm, 104, rfl⟩
abbrev main_call6_v12 : Ref sig .tc := ⟨.hbm, 105, rfl⟩
abbrev main_call6_v13 : Ref sig .tc := ⟨.hbm, 106, rfl⟩
abbrev main_call6_cst : Ref sig .tc := ⟨.hbm, 107, rfl⟩
abbrev main_call6_v14 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_call7_c : Ref sig .tc := ⟨.hbm, 112, rfl⟩
abbrev main_call7_v0 : Ref sig .tc := ⟨.hbm, 113, rfl⟩
abbrev main_call7_v1 : Ref sig .tc := ⟨.hbm, 114, rfl⟩
abbrev main_call7_c_0 : Ref sig .tc := ⟨.hbm, 115, rfl⟩
abbrev main_call7_v2 : Ref sig .tc := ⟨.hbm, 116, rfl⟩
abbrev main_call7_v3 : Ref sig .tc := ⟨.hbm, 117, rfl⟩
abbrev main_call7_v4 : Ref sig .tc := ⟨.hbm, 118, rfl⟩
abbrev main_call7_v5 : Ref sig .tc := ⟨.hbm, 119, rfl⟩
abbrev main_call7_c_1 : Ref sig .tc := ⟨.hbm, 120, rfl⟩
abbrev main_call7_c_2 : Ref sig .tc := ⟨.hbm, 121, rfl⟩
abbrev main_call7_v6 : Ref sig .tc := ⟨.hbm, 122, rfl⟩
abbrev main_call7_v7 : Ref sig .tc := ⟨.hbm, 123, rfl⟩
abbrev main_call7_v8 : Ref sig .tc := ⟨.hbm, 124, rfl⟩
abbrev main_call7_v9 : Ref sig .tc := ⟨.hbm, 125, rfl⟩
abbrev main_call7_v10 : Ref sig .tc := ⟨.hbm, 126, rfl⟩
abbrev main_call7_v11 : Ref sig .tc := ⟨.hbm, 127, rfl⟩
abbrev main_call7_c_3 : Ref sig .tc := ⟨.hbm, 128, rfl⟩
abbrev main_call7_v12 : Ref sig .tc := ⟨.hbm, 129, rfl⟩
abbrev main_call7_v13 : Ref sig .tc := ⟨.hbm, 130, rfl⟩
abbrev main_call7_cst : Ref sig .tc := ⟨.hbm, 131, rfl⟩
abbrev main_call7_v14 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_c_11 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩

abbrev nD : Nat := 1
abbrev τ : Topo := Topo.v7x

variable {F : FTy → Type} [FloatOps F]
-- ==== Proof.Own.Body1.lean ====
module

public import proofs.«01_k».proof.Proof.Gen.KernelIdeal.Loops
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A memref's buffer on core `c`: its contents, and it held whole at `f`. -/
abbrev Bf (F : FTy → Type) [FloatOps F] (c : Dev nD) {sp : Space} {S : Shape} {e : EltTy} (M : Memref sig .tc sp S e) : Type := Buf (Elt F) (M.view.loc (c : Thread nD τ))
/-- A memref's buffer held whole. -/
abbrev pt (c : Dev nD) {sp : Space} {S : Shape} {e : EltTy} (M : Memref sig .tc sp S e) (f : Bf F c M) : sProp 𝕄 :=
  M.view.loc (c : Thread nD τ) ↦{fullShare} f

/-- The same through the memref's own cells, as the loops' invariants hold it. -/
abbrev pw (c : Dev nD) {sp : Space} {S : Shape} {e : EltTy} (M : Memref sig .tc sp S e) (f : Bf F c M) : sProp 𝕄 :=
  M.view.loc (c : Thread nD τ) ↦[M.view.set]{fullShare} f

/-- What the body still has to run once the sweep's results are stored: the recovery under its guard. -/
def tailProg (i : grid1.Coords)
    (M1 : Memref sig .tc .vmem S3x16384 .f32) (h1 : M1.IsWhole) (M2 : Memref sig .tc .vmem S4x16384 .f32) (h2 : M2.IsWhole)
    (M3 : Memref sig .tc .vmem S128x16 .f32) (h3 : M3.IsWhole) (M4 : Memref sig .tc .vmem S128x11 .f32) (h4 : M4.IsWhole)
    (M5 : Memref sig .tc .vmem S128x1 .i32) (h5 : M5.IsWhole) (M6 : Memref sig .tc .vmem S128x1 .i32) (h6 : M6.IsWhole)
    (M7 : Memref sig .tc .vmem S128x16384 .f32) (h7 : M7.IsWhole) (M8 : Memref sig .tc .vmem S128x16384 .f32) (h8 : M8.IsWhole)
    (guard : BitVec 1) (o2 : FVec F S128x1 .f32) (lane sent : IVec S128x128 32) (zf : FVec F S128x128 .f32)
    (anyIn : IVec S128x1 1) (mx : FVec F S128x1 .f32) (ix : IVec S128x1 32) (qx : FVec F S128x1 .f32) (tr9 : FVec F S128x9 .f32) :
    Prog (TpuEff nD τ sig (Elt F) Λ₀ .tc) PUnit := do
  if guard = 1#1 then do
    let v4510 : IVec S128x1 32 ← k1_part1_skel i M1 h1 M2 h2 M3 h3 M4 h4 M5 h5 M6 h6 M7 h7 M8 h8 o2 lane sent zf anyIn mx ix qx tr9
    let v4528 : Vec F S128x1 .i32 ← Prog.lift (.load M5 (Rect.unit (s := S128x1) ![0, 0] S128x1.size inb_S128x1_S128x1_0_0).toLoadRect (View.loadsAt_vmem h_S128x1))
    Prog.lift (.store M5 (Rect.unit (s := S128x1) ![0, 0] S128x1.size inb_S128x1_S128x1_0_0) v4510 Finset.univ (View.stores_vmem_bits_univ h_S128x1 rfl) (.inl rfl))
    pure ⟨⟩
  else do
    pure ⟨⟩
  pure ⟨⟩

/-- What takes the sweep's words. -/
abbrev Tail (F : FTy → Type) [FloatOps F] [Named F] : Type 1 :=
  BitVec 1 → FVec F S128x1 .f32 → IVec S128x128 32 → IVec S128x128 32 → FVec F S128x128 .f32 → IVec S128x1 1 → FVec F S128x1 .f32 → IVec S128x1 32 → FVec F S128x1 .f32 → FVec F S128x9 .f32 →
  Prog (TpuEff nD τ sig (Elt F) Λ₀ .tc) PUnit

/-- The printed body with what follows its last store named. -/
def cutProg (i : grid1.Coords)
    (M1 : Memref sig .tc .vmem S3x16384 .f32) (h1 : M1.IsWhole) (M2 : Memref sig .tc .vmem S4x16384 .f32) (h2 : M2.IsWhole)
    (M3 : Memref sig .tc .vmem S128x16 .f32) (h3 : M3.IsWhole) (M4 : Memref sig .tc .vmem S128x11 .f32) (h4 : M4.IsWhole)
    (M5 : Memref sig .tc .vmem S128x1 .i32) (h5 : M5.IsWhole) (M6 : Memref sig .tc .vmem S128x1 .i32) (h6 : M6.IsWhole)
    (M7 : Memref sig .tc .vmem S128x16384 .f32) (h7 : M7.IsWhole) (M8 : Memref sig .tc .vmem S128x16384 .f32) (h8 : M8.IsWhole)
    (K : Tail F) :
    Prog (TpuEff nD τ sig (Elt F) Λ₀ .tc) PUnit := do
  let ⟨v1, v13, v17, v20, v21, v22, v23, v2514, v2521, v2522, v2523⟩ : Σ' (v1 : FVec F S128x16 .f32) (v13 : FVec F S128x3 .f32) (v17 : FVec F S128x3 .f32) (v20 : FVec F S128x1 .f32) (v21 : IVec S128x128 32) (v22 : IVec S128x128 32) (v23 : FVec F S128x128 .f32) (v2514 : IVec S128x128 32) (v2521 : FVec F S128x128 .f32) (v2522 : IVec S128x128 32), FVec F S128x128 .f32 ← k1_part108 i M1 h1 M2 h2 M3 h3 M4 h4 M5 h5 M6 h6 M7 h7 M8 h8
  let ⟨v4445, v4447, v4449, v4455, v4461, v4470, v4475, v4476, v4477⟩ : Σ' (v4445 : IVec S128x1 32) (v4447 : IVec S128x1 1) (v4449 : FVec F S128x1 .f32) (v4455 : IVec S128x1 32) (v4461 : FVec F S128x1 .f32) (v4470 : FVec F S128x1 .f32) (v4475 : FVec F S128x1 .f32) (v4476 : FVec F S128x3 .f32), FVec F S128x3 .f32 ← k1_part109 i M1 h1 M2 h2 M3 h3 M4 h4 M5 h5 M6 h6 M7 h7 M8 h8 v1 v13 v17 v20 v21 v2514 v2521 v2522 v2523
  let v4481 : Vec F S128x11 .f32 ← Prog.lift (.load M4 (Rect.unit (s := S128x11) ![0, 0] S128x11.size inb_S128x11_S128x11_0_0).toLoadRect (View.loadsAt_vmem h_S128x11))
  Prog.lift (.store M4 (Rect.unit (s := S128x11) ![0, 0] S128x11.size inb_S128x11_S128x11_0_0) (k1_pay2 v1 v4470 v4475 v4476 v4477) Finset.univ (View.stores_vmem_bits_univ h_S128x11 rfl) (.inl rfl))
  let v4482 : Vec F S128x1 .i32 ← Prog.lift (.load M5 (Rect.unit (s := S128x1) ![0, 0] S128x1.size inb_S128x1_S128x1_0_0).toLoadRect (View.loadsAt_vmem h_S128x1))
  Prog.lift (.store M5 (Rect.unit (s := S128x1) ![0, 0] S128x1.size inb_S128x1_S128x1_0_0) v4455 Finset.univ (View.stores_vmem_bits_univ h_S128x1 rfl) (.inl rfl))
  let v4483 : Vec F S128x1 .i32 ← Prog.lift (.load M6 (Rect.unit (s := S128x1) ![0, 0] S128x1.size inb_S128x1_S128x1_0_0).toLoadRect (View.loadsAt_vmem h_S128x1))
  Prog.lift (.store M6 (Rect.unit (s := S128x1) ![0, 0] S128x1.size inb_S128x1_S128x1_0_0) v4445 Finset.univ (View.stores_vmem_bits_univ h_S128x1 rfl) (.inl rfl))
  let v4488 : BitVec 32 := extractAt ![0, 0] (k1_pay3 v4445) inpos_S1x1_p0_0
  let v4489 : BitVec 1 := Scalar.cmpi .sle v4488 0#32
  let v4490 : BitVec 32 := Scalar.extui v4489
  let v4491 : BitVec 1 := Scalar.cmpi .ne v4490 0#32
  K v4491 v20 v21 v22 v23 v4447 v4449 v4455 v4461 (k1_pay1 v1 v4476 v4477)

set_option maxRecDepth 65536 in
/-- The body is its two parts, one after the other. -/
theorem cut_eq (i : grid1.Coords)
    (M1 : Memref sig .tc .vmem S3x16384 .f32) (h1 : M1.IsWhole) (M2 : Memref sig .tc .vmem S4x16384 .f32) (h2 : M2.IsWhole)
    (M3 : Memref sig .tc .vmem S128x16 .f32) (h3 : M3.IsWhole) (M4 : Memref sig .tc .vmem S128x11 .f32) (h4 : M4.IsWhole)
    (M5 : Memref sig .tc .vmem S128x1 .i32) (h5 : M5.IsWhole) (M6 : Memref sig .tc .vmem S128x1 .i32) (h6 : M6.IsWhole)
    (M7 : Memref sig .tc .vmem S128x16384 .f32) (h7 : M7.IsWhole) (M8 : Memref sig .tc .vmem S128x16384 .f32) (h8 : M8.IsWhole) :
    cc1__main_kernel (F := F) i M1 h1 M2 h2 M3 h3 M4 h4 M5 h5 M6 h6 M7 h7 M8 h8 = cutProg (F := F) i M1 h1 M2 h2 M3 h3 M4 h4 M5 h5 M6 h6 M7 h7 M8 h8 (tailProg i M1 h1 M2 h2 M3 h3 M4 h4 M5 h5 M6 h6 M7 h7 M8 h8) := rfl

/-- What the sweep leaves: the words the recovery takes, and the contents of the buffers it wrote. -/
structure Swept (F : FTy → Type) [FloatOps F] (c : Dev nD) (M4 : Memref sig .tc .vmem S128x11 .f32) (M5 M6 : Memref sig .tc .vmem S128x1 .i32)
    (M7 M8 : Memref sig .tc .vmem S128x16384 .f32) where
  guard : BitVec 1
  o2 : FVec F S128x1 .f32
  lane : IVec S128x128 32
  sent : IVec S128x128 32
  zf : FVec F S128x128 .f32
  anyIn : IVec S128x1 1
  mx : FVec F S128x1 .f32
  ix : IVec S128x1 32
  qx : FVec F S128x1 .f32
  tr9 : FVec F S128x9 .f32
  b4 : Bf F c M4
  b5 : Bf F c M5
  b6 : Bf F c M6
  b7 : Bf F c M7
  b8 : Bf F c M8

set_option sl_exec.resultNames true in
noncomputable def sweep (c : Dev nD) (i : grid1.Coords)
    (M1 : Memref sig .tc .vmem S3x16384 .f32) (h1 : M1.IsWhole) (M2 : Memref sig .tc .vmem S4x16384 .f32) (h2 : M2.IsWhole)
    (M3 : Memref sig .tc .vmem S128x16 .f32) (h3 : M3.IsWhole) (M4 : Memref sig .tc .vmem S128x11 .f32) (h4 : M4.IsWhole)
    (M5 : Memref sig .tc .vmem S128x1 .i32) (h5 : M5.IsWhole) (M6 : Memref sig .tc .vmem S128x1 .i32) (h6 : M6.IsWhole)
    (M7 : Memref sig .tc .vmem S128x16384 .f32) (h7 : M7.IsWhole) (M8 : Memref sig .tc .vmem S128x16384 .f32) (h8 : M8.IsWhole)
    (f1 : Bf F c M1) (f2 : Bf F c M2) (f3 : Bf F c M3) :
    { W : Swept F c M4 M5 M6 M7 M8 //
      ∀ (K : Tail F) (f4 : Bf F c M4) (f5 : Bf F c M5) (f6 : Bf F c M6) (f7 : Bf F c M7) (f8 : Bf F c M8) (Q : PUnit → sProp 𝕄),
        iprop(pt c M1 f1 ∗ pt c M2 f2 ∗ pt c M3 f3 ∗ pt c M4 f4 ∗ pt c M5 f5 ∗ pt c M6 f6 ∗ pt c M7 f7 ∗ pt c M8 f8
          ∗ (iprop(pt c M1 f1 ∗ pt c M2 f2 ∗ pt c M3 f3 ∗ pt c M4 W.b4 ∗ pt c M5 W.b5 ∗ pt c M6 W.b6 ∗ pt c M7 W.b7 ∗ pt c M8 W.b8)
            -∗ wp frame (wpE (defs₀ (F := F)) Variants.none c none) Set.univ
                (K W.guard W.o2 W.lane W.sent W.zf W.anyIn W.mx W.ix W.qx W.tr9) Q))
        ⊢ wp frame (wpE (defs₀ (F := F)) Variants.none c none) Set.univ
            (cutProg i M1 h1 M2 h2 M3 h3 M4 h4 M5 h5 M6 h6 M7 h7 M8 h8 K) Q } := by
  refine ⟨⟨?_, ?_, ?_, ?_, ?_, ?_, ?_, ?_, ?_, ?_, ?_, ?_, ?_, ?_, ?_⟩, fun K f4 f5 f6 f7 f8 Q => ?run⟩
  case run =>
    iintro ⟨H1, H2, H3, H4, H5, H6, H7, H8, Hk⟩
    sl_unfold [cutProg]
    sl_exec_parts!
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

set_option sl_exec.resultNames true in
/-- The recovery, where the guard holds: what it leaves in the two buffers it writes again. -/
noncomputable def recover (c : Dev nD) (i : grid1.Coords)
    (M1 : Memref sig .tc .vmem S3x16384 .f32) (h1 : M1.IsWhole) (M2 : Memref sig .tc .vmem S4x16384 .f32) (h2 : M2.IsWhole)
    (M3 : Memref sig .tc .vmem S128x16 .f32) (h3 : M3.IsWhole) (M4 : Memref sig .tc .vmem S128x11 .f32) (h4 : M4.IsWhole)
    (M5 : Memref sig .tc .vmem S128x1 .i32) (h5 : M5.IsWhole) (M6 : Memref sig .tc .vmem S128x1 .i32) (h6 : M6.IsWhole)
    (M7 : Memref sig .tc .vmem S128x16384 .f32) (h7 : M7.IsWhole) (M8 : Memref sig .tc .vmem S128x16384 .f32) (h8 : M8.IsWhole)
    (o2 : FVec F S128x1 .f32) (lane sent : IVec S128x128 32) (zf : FVec F S128x128 .f32)
    (anyIn : IVec S128x1 1) (mx : FVec F S128x1 .f32) (ix : IVec S128x1 32) (qx : FVec F S128x1 .f32) (tr9 : FVec F S128x9 .f32)
    (f2 : Bf F c M2) (f7 : Bf F c M7) (f8 : Bf F c M8) :
    { W : Bf F c M4 × Bf F c M5 //
      ∀ (guard : BitVec 1) (hg : guard = 1#1) (f4 : Bf F c M4) (f5 : Bf F c M5) (Q : PUnit → sProp 𝕄),
        iprop(pw c M2 f2 ∗ pt c M4 f4 ∗ pt c M5 f5 ∗ pw c M7 f7 ∗ pw c M8 f8
          ∗ (iprop(pw c M2 f2 ∗ pt c M4 W.1 ∗ pt c M5 W.2 ∗ pw c M7 f7 ∗ pw c M8 f8) -∗ Q ⟨⟩))
        ⊢ wp frame (wpE (defs₀ (F := F)) Variants.none c none) Set.univ
            (tailProg i M1 h1 M2 h2 M3 h3 M4 h4 M5 h5 M6 h6 M7 h7 M8 h8 guard o2 lane sent zf anyIn mx ix qx tr9) Q } := by
  refine ⟨⟨?_, ?_⟩, fun guard hg f4 f5 Q => ?run⟩
  case run =>
    iintro ⟨H2, H4, H5, H7, H8, Hk⟩
    sl_unfold [tailProg]
    rw [if_pos hg]
    sl_unfold [k1_part1_skel]
    simp only [Prog.bind_assoc]
    sl_exec!
    sl_exec_parts!
    sl_step
    iapply Hk
    isplitl [H2]; · iexact H2
    isplitl [H4]; · iexact H4
    isplitl [H5]; · iexact H5
    isplitl [H7]; · iexact H7
    iexact H8

end Cert.Proof

end
-- ==== Proof.Own.Run1.lean ====
module

public import proofs.«01_k».proof.Proof.Own.Body1

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The recovery at the sweep's words and buffers. -/
abbrev recovered (c : Dev nD) (i : grid1.Coords)
    (M1 : Memref sig .tc .vmem S3x16384 .f32) (h1 : M1.IsWhole) (M2 : Memref sig .tc .vmem S4x16384 .f32) (h2 : M2.IsWhole)
    (M3 : Memref sig .tc .vmem S128x16 .f32) (h3 : M3.IsWhole) (M4 : Memref sig .tc .vmem S128x11 .f32) (h4 : M4.IsWhole)
    (M5 : Memref sig .tc .vmem S128x1 .i32) (h5 : M5.IsWhole) (M6 : Memref sig .tc .vmem S128x1 .i32) (h6 : M6.IsWhole)
    (M7 : Memref sig .tc .vmem S128x16384 .f32) (h7 : M7.IsWhole) (M8 : Memref sig .tc .vmem S128x16384 .f32) (h8 : M8.IsWhole)
    (f1 : Bf F c M1) (f2 : Bf F c M2) (f3 : Bf F c M3) : Bf F c M4 × Bf F c M5 :=
  let W := (sweep c i M1 h1 M2 h2 M3 h3 M4 h4 M5 h5 M6 h6 M7 h7 M8 h8 f1 f2 f3).1
  (recover c i M1 h1 M2 h2 M3 h3 M4 h4 M5 h5 M6 h6 M7 h7 M8 h8 W.o2 W.lane W.sent W.zf W.anyIn W.mx W.ix W.qx W.tr9 f2 W.b7 W.b8).1

/-- What the whole body leaves in the three buffers it writes back. -/
def left4 (c : Dev nD) (i : grid1.Coords)
    (M1 : Memref sig .tc .vmem S3x16384 .f32) (h1 : M1.IsWhole) (M2 : Memref sig .tc .vmem S4x16384 .f32) (h2 : M2.IsWhole)
    (M3 : Memref sig .tc .vmem S128x16 .f32) (h3 : M3.IsWhole) (M4 : Memref sig .tc .vmem S128x11 .f32) (h4 : M4.IsWhole)
    (M5 : Memref sig .tc .vmem S128x1 .i32) (h5 : M5.IsWhole) (M6 : Memref sig .tc .vmem S128x1 .i32) (h6 : M6.IsWhole)
    (M7 : Memref sig .tc .vmem S128x16384 .f32) (h7 : M7.IsWhole) (M8 : Memref sig .tc .vmem S128x16384 .f32) (h8 : M8.IsWhole)
    (f1 : Bf F c M1) (f2 : Bf F c M2) (f3 : Bf F c M3) : Bf F c M4 :=
  if (sweep c i M1 h1 M2 h2 M3 h3 M4 h4 M5 h5 M6 h6 M7 h7 M8 h8 f1 f2 f3).1.guard = 1#1 then (recovered c i M1 h1 M2 h2 M3 h3 M4 h4 M5 h5 M6 h6 M7 h7 M8 h8 f1 f2 f3).1 else (sweep c i M1 h1 M2 h2 M3 h3 M4 h4 M5 h5 M6 h6 M7 h7 M8 h8 f1 f2 f3).1.b4
/-- See `left4`: the index buffer. -/
def left5 (c : Dev nD) (i : grid1.Coords)
    (M1 : Memref sig .tc .vmem S3x16384 .f32) (h1 : M1.IsWhole) (M2 : Memref sig .tc .vmem S4x16384 .f32) (h2 : M2.IsWhole)
    (M3 : Memref sig .tc .vmem S128x16 .f32) (h3 : M3.IsWhole) (M4 : Memref sig .tc .vmem S128x11 .f32) (h4 : M4.IsWhole)
    (M5 : Memref sig .tc .vmem S128x1 .i32) (h5 : M5.IsWhole) (M6 : Memref sig .tc .vmem S128x1 .i32) (h6 : M6.IsWhole)
    (M7 : Memref sig .tc .vmem S128x16384 .f32) (h7 : M7.IsWhole) (M8 : Memref sig .tc .vmem S128x16384 .f32) (h8 : M8.IsWhole)
    (f1 : Bf F c M1) (f2 : Bf F c M2) (f3 : Bf F c M3) : Bf F c M5 :=
  if (sweep c i M1 h1 M2 h2 M3 h3 M4 h4 M5 h5 M6 h6 M7 h7 M8 h8 f1 f2 f3).1.guard = 1#1 then (recovered c i M1 h1 M2 h2 M3 h3 M4 h4 M5 h5 M6 h6 M7 h7 M8 h8 f1 f2 f3).2 else (sweep c i M1 h1 M2 h2 M3 h3 M4 h4 M5 h5 M6 h6 M7 h7 M8 h8 f1 f2 f3).1.b5
/-- See `left4`: the count buffer. -/
def left6 (c : Dev nD) (i : grid1.Coords)
    (M1 : Memref sig .tc .vmem S3x16384 .f32) (h1 : M1.IsWhole) (M2 : Memref sig .tc .vmem S4x16384 .f32) (h2 : M2.IsWhole)
    (M3 : Memref sig .tc .vmem S128x16 .f32) (h3 : M3.IsWhole) (M4 : Memref sig .tc .vmem S128x11 .f32) (h4 : M4.IsWhole)
    (M5 : Memref sig .tc .vmem S128x1 .i32) (h5 : M5.IsWhole) (M6 : Memref sig .tc .vmem S128x1 .i32) (h6 : M6.IsWhole)
    (M7 : Memref sig .tc .vmem S128x16384 .f32) (h7 : M7.IsWhole) (M8 : Memref sig .tc .vmem S128x16384 .f32) (h8 : M8.IsWhole)
    (f1 : Bf F c M1) (f2 : Bf F c M2) (f3 : Bf F c M3) : Bf F c M6 :=
  (sweep c i M1 h1 M2 h2 M3 h3 M4 h4 M5 h5 M6 h6 M7 h7 M8 h8 f1 f2 f3).1.b6

/-- The whole body, from its buffers held whole. -/
theorem body1_run (c : Dev nD) (i : grid1.Coords)
    (M1 : Memref sig .tc .vmem S3x16384 .f32) (h1 : M1.IsWhole) (M2 : Memref sig .tc .vmem S4x16384 .f32) (h2 : M2.IsWhole)
    (M3 : Memref sig .tc .vmem S128x16 .f32) (h3 : M3.IsWhole) (M4 : Memref sig .tc .vmem S128x11 .f32) (h4 : M4.IsWhole)
    (M5 : Memref sig .tc .vmem S128x1 .i32) (h5 : M5.IsWhole) (M6 : Memref sig .tc .vmem S128x1 .i32) (h6 : M6.IsWhole)
    (M7 : Memref sig .tc .vmem S128x16384 .f32) (h7 : M7.IsWhole) (M8 : Memref sig .tc .vmem S128x16384 .f32) (h8 : M8.IsWhole)
    (f1 : Bf F c M1) (f2 : Bf F c M2) (f3 : Bf F c M3) (f4 : Bf F c M4) (f5 : Bf F c M5) (f6 : Bf F c M6)
    (f7 : Bf F c M7) (f8 : Bf F c M8) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8
      ∗ (iprop(pt c M1 f1 ∗ pt c M2 f2 ∗ pt c M3 f3 ∗ pt c M4 (left4 c i M1 h1 M2 h2 M3 h3 M4 h4 M5 h5 M6 h6 M7 h7 M8 h8 f1 f2 f3)
          ∗ pt c M5 (left5 c i M1 h1 M2 h2 M3 h3 M4 h4 M5 h5 M6 h6 M7 h7 M8 h8 f1 f2 f3) ∗ pt c M6 (left6 c i M1 h1 M2 h2 M3 h3 M4 h4 M5 h5 M6 h6 M7 h7 M8 h8 f1 f2 f3)
          ∗ (∃ f, pt c M7 f) ∗ (∃ f, pt c M8 f)) -∗ Q ⟨⟩))
      ⊢ wp frame (wpE (defs₀ (F := F)) Variants.none c none) Set.univ (cc1__main_kernel i M1 h1 M2 h2 M3 h3 M4 h4 M5 h5 M6 h6 M7 h7 M8 h8) Q := by
  rw [cut_eq]
  refine BIBase.Entails.trans ?_ ((sweep c i M1 h1 M2 h2 M3 h3 M4 h4 M5 h5 M6 h6 M7 h7 M8 h8 f1 f2 f3).2 (tailProg i M1 h1 M2 h2 M3 h3 M4 h4 M5 h5 M6 h6 M7 h7 M8 h8) f4 f5 f6 f7 f8 Q)
  iintro ⟨H1, H2, H3, H4, H5, H6, H7, H8, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold left4 left5 left6 recovered
  generalize (sweep c i M1 h1 M2 h2 M3 h3 M4 h4 M5 h5 M6 h6 M7 h7 M8 h8 f1 f2 f3).1 = W
  iintro ⟨H1, H2, H3, H4, H5, H6, H7, H8⟩
  by_cases hg : W.guard = 1#1
  · iapply ((recover c i M1 h1 M2 h2 M3 h3 M4 h4 M5 h5 M6 h6 M7 h7 M8 h8 W.o2 W.lane W.sent W.zf W.anyIn W.mx W.ix W.qx W.tr9 f2 W.b7 W.b8).2 W.guard hg W.b4 W.b5 Q)
    rw [if_pos hg, if_pos hg]
    simp only [pw, h2.set_eq_univ, h7.set_eq_univ, h8.set_eq_univ]
    isplitl [H2]; · iexact H2
    isplitl [H4]; · iexact H4
    isplitl [H5]; · iexact H5
    isplitl [H7]; · iexact H7
    isplitl [H8]; · iexact H8
    iintro ⟨H2, H4, H5, H7, H8⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · unfold tailProg
    simp only [if_neg hg]
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

end Cert.Proof

end
-- ==== Proof.Own.Run0.lean ====
module

public import proofs.«01_k».proof.Proof.Own.Run1
public import Idealize.ShloMosaic.Lib.Pipeline.Frame

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the preparing body leaves in its two result buffers, and its run from the four buffers held whole. -/
def prep (c : Dev nD)
    (M1 : Memref sig .tc .vmem S3x16384 .f32) (h1 : M1.IsWhole) (M2 : Memref sig .tc .vmem S3x16384 .f32) (h2 : M2.IsWhole)
    (M3 : Memref sig .tc .vmem S3x16384 .f32) (h3 : M3.IsWhole) (M4 : Memref sig .tc .vmem S4x16384 .f32) (h4 : M4.IsWhole)
    (f1 : Bf F c M1) (f2 : Bf F c M2) :
    { W : Bf F c M3 × Bf F c M4 // ∀ (f3 : Bf F c M3) (f4 : Bf F c M4) (Q : PUnit → sProp 𝕄),
        iprop(pt c M1 f1 ∗ pt c M2 f2 ∗ pt c M3 f3 ∗ pt c M4 f4
          ∗ (iprop(pt c M1 f1 ∗ pt c M2 f2 ∗ pt c M3 W.1 ∗ pt c M4 W.2) -∗ Q ⟨⟩))
          ⊢ wp frame (wpE (defs₀ (F := F)) Variants.none c none) Set.univ (cc0__prep_kernel M1 h1 M2 h2 M3 h3 M4 h4) Q } := by
  refine ⟨⟨?_, ?_⟩, fun f3 f4 Q => ?run⟩
  case run =>
    iintro ⟨H1, H2, H3, H4, Hk⟩
    rw [cc0__prep_kernel_eq_skeleton]
    sl_unfold [cc0__prep_kernel_skel]
    sl_exec!
    sl_step
    iapply Hk
    isplitl [H1]; · iexact H1
    isplitl [H2]; · iexact H2
    isplitl [H3]; · iexact H3
    iexact H4

/-- A whole memref owned at `X` is its buffer held at the contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = pt c M (h.unread X) := by
  have e1 : (owns (c : Thread nD τ) M fullShare X : sProp 𝕄) ⊢ pt c M (h.unread X) := by
    unfold owns
    iintro ⟨%f, %hf, H⟩
    obtain rfl := h.eq_unread hf
    rw [h.set_eq_univ]
    iexact H
  have e2 : pt c M (h.unread X) ⊢ (owns (c : Thread nD τ) M fullShare X : sProp 𝕄) := by
    unfold owns
    rw [h.set_eq_univ]
    iintro H
    iexists _
    isplitr; · ipureintro; exact h.read_unread X
    iexact H
  exact BI.equiv_iff.mp ⟨e1, e2⟩

end Cert.Proof

end
-- ==== Proof.Own.Data.lean ====
module

public import proofs.«01_k».proof.Proof.Own.Run0
public import proofs.«01_k».proof.Proof.Gen.KernelIdeal.Points
public import proofs.«01_k».proof.Proof.Gen.KernelIdeal.Regions
public import Idealize.ShloMosaic.Lib.Pipeline.FrameBody

@[expose] public section

set_option maxRecDepth 65536

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What one point of each region computes -/

/-- The preparing region's two results, from the two arrays it reads. -/
def made (c : Dev nD) (X0 X1 : S3x16384.Idx → F .f32) : (S3x16384.Idx → F .f32) × (S4x16384.Idx → F .f32) :=
  let W := (prep c (stage0_0 0) (hstage0_0 0) (stage0_1 0) (hstage0_1 0) (stage0_2 0) (hstage0_2 0) (stage0_3 0) (hstage0_3 0)
    ((hstage0_0 0).unread X0) ((hstage0_1 0).unread X1)).1
  ((stage0_2 0).view.read (Elt F) W.1, (stage0_3 0).view.read (Elt F) W.2)

/-- The main region's floating result at point `t`, from what the point's three input blocks hold. -/
def found3 (c : Dev nD) (t : Fin cfg1.N) (X0 : S3x16384.Idx → F .f32) (X1 : S4x16384.Idx → F .f32) (X2 : S128x16.Idx → F .f32) : S128x11.Idx → F .f32 :=
  (st1_3 t).view.read (Elt F) (left4 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (Memref.whole cc1_scratch0) (Memref.isWhole_whole _) (Memref.whole cc1_scratch1) (Memref.isWhole_whole _)
    ((hstage1_0 ((cfg1.slots t 0).cast nbuf1_0)).unread X0) ((hstage1_1 ((cfg1.slots t 1).cast nbuf1_1)).unread X1) ((hstage1_2 ((cfg1.slots t 2).cast nbuf1_2)).unread X2))
/-- Its index result. -/
def found4 (c : Dev nD) (t : Fin cfg1.N) (X0 : S3x16384.Idx → F .f32) (X1 : S4x16384.Idx → F .f32) (X2 : S128x16.Idx → F .f32) : S128x1.Idx → BitVec 32 :=
  (st1_4 t).view.read (Elt F) (left5 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (Memref.whole cc1_scratch0) (Memref.isWhole_whole _) (Memref.whole cc1_scratch1) (Memref.isWhole_whole _)
    ((hstage1_0 ((cfg1.slots t 0).cast nbuf1_0)).unread X0) ((hstage1_1 ((cfg1.slots t 1).cast nbuf1_1)).unread X1) ((hstage1_2 ((cfg1.slots t 2).cast nbuf1_2)).unread X2))
/-- Its count result. -/
def found5 (c : Dev nD) (t : Fin cfg1.N) (X0 : S3x16384.Idx → F .f32) (X1 : S4x16384.Idx → F .f32) (X2 : S128x16.Idx → F .f32) : S128x1.Idx → BitVec 32 :=
  (st1_5 t).view.read (Elt F) (left6 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (Memref.whole cc1_scratch0) (Memref.isWhole_whole _) (Memref.whole cc1_scratch1) (Memref.isWhole_whole _)
    ((hstage1_0 ((cfg1.slots t 0).cast nbuf1_0)).unread X0) ((hstage1_1 ((cfg1.slots t 1).cast nbuf1_1)).unread X1) ((hstage1_2 ((cfg1.slots t 2).cast nbuf1_2)).unread X2))

/-! ## The proof data, from the valuation a region is entered at -/

variable (V : Dev nD → Valuation τ sig (Elt F))

/-- The scoped buffers region 0 does not stage. -/
abbrev rest0 (c : Dev nD) : sProp 𝕄 := Pipeline.scopedRest (Ix := Unit) (Name := ℕ) (U := UR sig nD τ) (Lvl := ℕ) (Val := Elt F) spec0 c
/-- The scoped buffers region 1 does not stage. -/
abbrev rest1 (c : Dev nD) : sProp 𝕄 := Pipeline.scopedRest (Ix := Unit) (Name := ℕ) (U := UR sig nD τ) (Lvl := ℕ) (Val := Elt F) spec1 c

/-- A block of an array of region 0 as the region finds it. -/
abbrev blk0 (c : Dev nD) (w : Fin cfg0.W) (t : Fin cfg0.N) := ((cfg0.win w).blk t).view.read (Elt F) (V c (Pipeline.arrRef spec0 w))
/-- A block of an array of region 1 as the region finds it. -/
abbrev blk1 (c : Dev nD) (w : Fin cfg1.W) (t : Fin cfg1.N) := ((cfg1.win w).blk t).view.read (Elt F) (V c (Pipeline.arrRef spec1 w))

/-- Region 0's proof data. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (made c (blk0 V c 0 t) (blk0 V c 1 t)).1
    | ⟨3, _⟩ => (made c (blk0 V c 0 t) (blk0 V c 1 t)).2
  Φ _ := rest0 c
  q _ := fullShare
  owed _ := 0

/-- Region 1's proof data. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => found3 c t (blk1 V c 0 t) (blk1 V c 1 t) (blk1 V c 2 t)
    | ⟨4, _⟩ => found4 c t (blk1 V c 0 t) (blk1 V c 1 t) (blk1 V c 2 t)
    | ⟨5, _⟩ => found5 c t (blk1 V c 0 t) (blk1 V c 1 t) (blk1 V c 2 t)
  Φ _ := rest1 c
  q _ := fullShare
  owed _ := 0

/-- The body region 0 is called with. -/
theorem prog0 (t : Fin cfg0.N) : defs₀ (F := F) .tc cfg0.body (cfg0.bodyArgs t (cfg0.slots t)) = bodyAt0 t := rfl
/-- The body region 1 is called with. -/
theorem prog1 (t : Fin cfg1.N) : defs₀ (F := F) .tc cfg1.body (cfg1.bodyArgs t (cfg1.slots t)) = bodyAt1 t := rfl

/-- Region 0's body obligation. -/
theorem body0 (c : Dev nD) : BodyObligation (dat0 V c) (defs₀ (F := F)) Variants.none () Set.univ := fun t => by
  obtain rfl := fin_N0 t
  rw [bigSep_W0, bigSep_W0, prog0]
  have b0 (d) : (dat0 V c).before 0 t0_0 d = blk0 V c 0 t0_0 := by unfold Dat.before; rw [if_pos (by decide)]; rfl
  have b1 (d) : (dat0 V c).before 1 t0_0 d = blk0 V c 1 t0_0 := by unfold Dat.before; rw [if_pos (by decide)]; rfl
  show iprop(rest0 c ∗ (dat0 V c).owesAt () t0_0.castSucc
    ∗ (∃ d, owns c (stage0_0 0) fullShare ((dat0 V c).before 0 t0_0 d)) ∗ (∃ d, owns c (stage0_1 0) fullShare ((dat0 V c).before 1 t0_0 d))
    ∗ (∃ d, owns c (stage0_2 0) fullShare ((dat0 V c).before 2 t0_0 d)) ∗ (∃ d, owns c (stage0_3 0) fullShare ((dat0 V c).before 3 t0_0 d)))
    ⊢ wp frame (wpE (defs₀ (F := F)) Variants.none c none) Set.univ (bodyAt0 t0_0) fun _ =>
      iprop(rest0 c ∗ (dat0 V c).owesAt () t0_0.castSucc
        ∗ owns c (stage0_0 0) fullShare ((dat0 V c).after 0 t0_0) ∗ owns c (stage0_1 0) fullShare ((dat0 V c).after 1 t0_0)
        ∗ owns c (stage0_2 0) fullShare ((dat0 V c).after 2 t0_0)
        ∗ owns c (stage0_3 0) fullShare ((dat0 V c).after 3 t0_0))
  have a0 : (dat0 V c).after 0 t0_0 = blk0 V c 0 t0_0 := by dsimp only [dat0]
  have a1 : (dat0 V c).after 1 t0_0 = blk0 V c 1 t0_0 := by dsimp only [dat0]
  have a2 : (dat0 V c).after 2 t0_0 = (made c (blk0 V c 0 t0_0) (blk0 V c 1 t0_0)).1 := by dsimp only [dat0]
  have a3 : (dat0 V c).after 3 t0_0 = (made c (blk0 V c 0 t0_0) (blk0 V c 1 t0_0)).2 := by dsimp only [dat0]
  simp only [b0, b1]
  rw [a0, a1, a2, a3]
  rw [owns_pt c _ (hstage0_2 0) (made c (blk0 V c 0 t0_0) (blk0 V c 1 t0_0)).1, owns_pt c _ (hstage0_3 0) (made c (blk0 V c 0 t0_0) (blk0 V c 1 t0_0)).2,
    owns_pt c _ (hstage0_0 0) (blk0 V c 0 t0_0), owns_pt c _ (hstage0_1 0) (blk0 V c 1 t0_0)]
  unfold made
  simp only [(hstage0_2 0).unread_read, (hstage0_3 0).unread_read]
  have o2 (d) : (owns (c : Thread nD τ) (stage0_2 0) fullShare ((dat0 V c).before 2 t0_0 d) : sProp 𝕄) = _ := owns_pt c _ (hstage0_2 0) _
  have o3 (d) : (owns (c : Thread nD τ) (stage0_3 0) fullShare ((dat0 V c).before 3 t0_0 d) : sProp 𝕄) = _ := owns_pt c _ (hstage0_3 0) _
  simp only [o2, o3]
  iintro ⟨HΦ, Howes, ⟨%d0, H0⟩, ⟨%d1, H1⟩, ⟨%d2, H2⟩, ⟨%d3, H3⟩⟩
  iapply ((prep c (stage0_0 0) (hstage0_0 0) (stage0_1 0) (hstage0_1 0) (stage0_2 0) (hstage0_2 0) (stage0_3 0) (hstage0_3 0) _ _).2 _ _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- At every point region 1's body finds window 0's block of the array. -/
theorem before1_0 (c : Dev nD) (t : Fin cfg1.N) (d) : (dat1 V c).before 0 t d = blk1 V c 0 t :=
  (dat1 V c).before_in_eq_fetched 0 rfl (fun _ => rfl) (fun _ _ _ => rfl) (fun _ => by dsimp only [dat1]; rfl) t d
/-- See `before1_0`. -/
theorem before1_1 (c : Dev nD) (t : Fin cfg1.N) (d) : (dat1 V c).before 1 t d = blk1 V c 1 t :=
  (dat1 V c).before_in_eq_fetched 1 rfl (fun _ => rfl) (fun _ _ _ => rfl) (fun _ => by dsimp only [dat1]; rfl) t d
/-- See `before1_0`. -/
theorem before1_2 (c : Dev nD) (t : Fin cfg1.N) (d) : (dat1 V c).before 2 t d = blk1 V c 2 t :=
  (dat1 V c).before_in_eq_fetched 2 rfl (fun _ => rfl) (fun _ _ _ => rfl) (fun _ => by dsimp only [dat1]; rfl) t d

/-- Owning result 0 of point `t` is holding its buffer at what the body leaves. -/
theorem owns_found3 (c : Dev nD) (t : Fin cfg1.N) (X0 : S3x16384.Idx → F .f32) (X1 : S4x16384.Idx → F .f32) (X2 : S128x16.Idx → F .f32) :
    (owns (c : Thread nD τ) (stage1_3 (cfg1.slots t 3)) fullShare (found3 c t X0 X1 X2) : sProp 𝕄)
      = pt c (st1_3 t) (left4 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (Memref.whole cc1_scratch0) (Memref.isWhole_whole _) (Memref.whole cc1_scratch1) (Memref.isWhole_whole _)
          ((hstage1_0 ((cfg1.slots t 0).cast nbuf1_0)).unread X0) ((hstage1_1 ((cfg1.slots t 1).cast nbuf1_1)).unread X1) ((hstage1_2 ((cfg1.slots t 2).cast nbuf1_2)).unread X2)) := by
  have g : (stage1_3 (cfg1.slots t 3)).IsWhole := hstage1_3 ((cfg1.slots t 3).cast nbuf1_3)
  rw [owns_pt c _ g]
  unfold found3
  exact congrArg _ (g.unread_read _)

/-- Owning result 1 of point `t` is holding its buffer at what the body leaves. -/
theorem owns_found4 (c : Dev nD) (t : Fin cfg1.N) (X0 : S3x16384.Idx → F .f32) (X1 : S4x16384.Idx → F .f32) (X2 : S128x16.Idx → F .f32) :
    (owns (c : Thread nD τ) (stage1_4 (cfg1.slots t 4)) fullShare (found4 c t X0 X1 X2) : sProp 𝕄)
      = pt c (st1_4 t) (left5 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (Memref.whole cc1_scratch0) (Memref.isWhole_whole _) (Memref.whole cc1_scratch1) (Memref.isWhole_whole _)
          ((hstage1_0 ((cfg1.slots t 0).cast nbuf1_0)).unread X0) ((hstage1_1 ((cfg1.slots t 1).cast nbuf1_1)).unread X1) ((hstage1_2 ((cfg1.slots t 2).cast nbuf1_2)).unread X2)) := by
  have g : (stage1_4 (cfg1.slots t 4)).IsWhole := hstage1_4 ((cfg1.slots t 4).cast nbuf1_4)
  rw [owns_pt c _ g]
  unfold found4
  exact congrArg _ (g.unread_read _)

/-- Owning result 2 of point `t` is holding its buffer at what the body leaves. -/
theorem owns_found5 (c : Dev nD) (t : Fin cfg1.N) (X0 : S3x16384.Idx → F .f32) (X1 : S4x16384.Idx → F .f32) (X2 : S128x16.Idx → F .f32) :
    (owns (c : Thread nD τ) (stage1_5 (cfg1.slots t 5)) fullShare (found5 c t X0 X1 X2) : sProp 𝕄)
      = pt c (st1_5 t) (left6 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (Memref.whole cc1_scratch0) (Memref.isWhole_whole _) (Memref.whole cc1_scratch1) (Memref.isWhole_whole _)
          ((hstage1_0 ((cfg1.slots t 0).cast nbuf1_0)).unread X0) ((hstage1_1 ((cfg1.slots t 1).cast nbuf1_1)).unread X1) ((hstage1_2 ((cfg1.slots t 2).cast nbuf1_2)).unread X2)) := by
  have g : (stage1_5 (cfg1.slots t 5)).IsWhole := hstage1_5 ((cfg1.slots t 5).cast nbuf1_5)
  rw [owns_pt c _ g]
  unfold found5
  exact congrArg _ (g.unread_read _)

/-- Region 1's body obligation. -/
theorem body1 (c : Dev nD) : BodyObligation (dat1 V c) (defs₀ (F := F)) Variants.none () Set.univ := fun t => by
  rw [bigSep_W1, bigSep_W1, prog1]
  have b0 := before1_0 V c t
  have b1 := before1_1 V c t
  have b2 := before1_2 V c t
  rw [show (dat1 V c).owesAt () t.succ = (dat1 V c).owesAt () t.castSucc from rfl, show (dat1 V c).Φ t.castSucc = rest1 c from rfl, show (dat1 V c).Φ t.succ = rest1 c from rfl]
  have hid (w i) : cfg1.idle w i = false := rfl
  simp only [hid]
  have a0 : (dat1 V c).after 0 t = blk1 V c 0 t := by dsimp only [dat1]
  have a1 : (dat1 V c).after 1 t = blk1 V c 1 t := by dsimp only [dat1]
  have a2 : (dat1 V c).after 2 t = blk1 V c 2 t := by dsimp only [dat1]
  have a3 : (dat1 V c).after 3 t = found3 c t (blk1 V c 0 t) (blk1 V c 1 t) (blk1 V c 2 t) := by dsimp only [dat1]
  have a4 : (dat1 V c).after 4 t = found4 c t (blk1 V c 0 t) (blk1 V c 1 t) (blk1 V c 2 t) := by dsimp only [dat1]
  have a5 : (dat1 V c).after 5 t = found5 c t (blk1 V c 0 t) (blk1 V c 1 t) (blk1 V c 2 t) := by dsimp only [dat1]
  rw [a0, a1, a2, a3, a4, a5]
  simp only [b0, b1, b2]
  generalize blk1 V c 0 t = X0
  generalize blk1 V c 1 t = X1
  generalize blk1 V c 2 t = X2
  have g0 : (stage1_0 (cfg1.slots t 0)).IsWhole := hstage1_0 ((cfg1.slots t 0).cast nbuf1_0)
  have g1 : (stage1_1 (cfg1.slots t 1)).IsWhole := hstage1_1 ((cfg1.slots t 1).cast nbuf1_1)
  have g2 : (stage1_2 (cfg1.slots t 2)).IsWhole := hstage1_2 ((cfg1.slots t 2).cast nbuf1_2)
  have g3 : (stage1_3 (cfg1.slots t 3)).IsWhole := hstage1_3 ((cfg1.slots t 3).cast nbuf1_3)
  have g4 : (stage1_4 (cfg1.slots t 4)).IsWhole := hstage1_4 ((cfg1.slots t 4).cast nbuf1_4)
  have g5 : (stage1_5 (cfg1.slots t 5)).IsWhole := hstage1_5 ((cfg1.slots t 5).cast nbuf1_5)
  rw [show (owns (c : Thread nD τ) (stage1_0 (cfg1.slots t 0)) fullShare X0 : sProp 𝕄) = _ from owns_pt c (stage1_0 (cfg1.slots t 0)) g0 X0,
    show (owns (c : Thread nD τ) (stage1_1 (cfg1.slots t 1)) fullShare X1 : sProp 𝕄) = _ from owns_pt c (stage1_1 (cfg1.slots t 1)) g1 X1,
    show (owns (c : Thread nD τ) (stage1_2 (cfg1.slots t 2)) fullShare X2 : sProp 𝕄) = _ from owns_pt c (stage1_2 (cfg1.slots t 2)) g2 X2,
    owns_found3 c t X0 X1 X2,
    owns_found4 c t X0 X1 X2,
    owns_found5 c t X0 X1 X2]
  have o3 (d) : (owns (c : Thread nD τ) (stage1_3 (cfg1.slots t 3)) fullShare ((dat1 V c).before 3 t d) : sProp 𝕄) = _ := owns_pt c (stage1_3 (cfg1.slots t 3)) g3 _
  have o4 (d) : (owns (c : Thread nD τ) (stage1_4 (cfg1.slots t 4)) fullShare ((dat1 V c).before 4 t d) : sProp 𝕄) = _ := owns_pt c (stage1_4 (cfg1.slots t 4)) g4 _
  have o5 (d) : (owns (c : Thread nD τ) (stage1_5 (cfg1.slots t 5)) fullShare ((dat1 V c).before 5 t d) : sProp 𝕄) = _ := owns_pt c (stage1_5 (cfg1.slots t 5)) g5 _
  simp only [o3, o4, o5]
  rw [show (rest1 c : sProp 𝕄) = _ from scopedRest1_eq c]
  iintro ⟨⟨Ha, Hb, Hc, Hd, ⟨%f7, H7⟩, ⟨%f8, H8⟩⟩, Howes, ⟨%d0, H0⟩, ⟨%d1, H1⟩, ⟨%d2, H2⟩, ⟨%d3, H3⟩, ⟨%d4, H4⟩, ⟨%d5, H5⟩⟩
  iapply (body1_run c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (Memref.whole cc1_scratch0) (Memref.isWhole_whole _) (Memref.whole cc1_scratch1) (Memref.isWhole_whole _)
    (g0.unread X0) (g1.unread X1) (g2.unread X2) _ _ _ f7 f8 _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  iintro ⟨H0, H1, H2, H3, H4, H5, H7, H8⟩
  isplitl [Ha Hb Hc Hd H7 H8]
  · isplitl [Ha]; · iexact Ha
    isplitl [Hb]; · iexact Hb
    isplitl [Hc]; · iexact Hc
    isplitl [Hd]; · iexact Hd
    isplitl [H7]; · iexact H7
    iexact H8
  isplitl [Howes]; · iexact Howes
  isplitl [H0]; · iexact H0
  isplitl [H1]; · iexact H1
  isplitl [H2]; · iexact H2
  isplitl [H3]; · iexact H3
  isplitl [H4]; · iexact H4
  iexact H5

end Cert.Proof

end
-- ==== Proof.Own.Region.lean ====
module

public import proofs.«01_k».proof.Proof.Own.Data
public import Idealize.ShloMosaic.Lib.Pipeline.RegionArraysS

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- No core owes another anything: no level is assigned. -/
abbrev noL : GSem nD τ sig → Finset Unit := fun _ => ∅
/-- Every level is zero: none is used. -/
abbrev nolv : GSem nD τ sig → Unit → ℕ := fun _ _ => 0

/-- What rides beside the buffers: the core owes nothing. -/
abbrev beside (c : Dev nD) : sProp 𝕄 := iprop(∃ W, owes (c : Thread nD τ) (0 : CellTallies nD τ sig Unit) W)

variable (pdats : (p : Fin 2) → (c : Dev nD) → Dat τ (Elt F) Unit ℕ (UR sig nD τ) ℕ (cfgs p) c)

set_option backward.isDefEq.respectTransparency.types false in
/-- A region of this program, entered with every unscoped buffer at `W c` and left with them as the region leaves them
    (`Pipeline.afterRegion`), its invariant the scoped buffers it does not stage, nothing owed. -/
def region (p : Fin 2) (kit : Pipeline.LaunchFacts (nD := nD) (τ := τ) cfgs p) (hpre : ((pcfgs (F := F)) p).pre.K = 0)
    (hbody : ∀ c, BodyObligation (pdats p c) (defs₀ (F := F)) Variants.none () Set.univ)
    (howed : ∀ c t, (pdats p c).owed t = 0) (hrec : ∀ c, (pdats p c).recorded 0 = Set.univ)
    (hshare : ∀ c w, (pdats p c).share w = fullShare)
    (hΦ : ∀ c t, (pdats p c).Φ t = Pipeline.scopedRest (cfgs p).spec c)
    (W : Dev nD → Valuation τ sig (Elt F))
    (hW : ∀ c w, (pdats p c).arrAt w 0 = W c (Proc.devRef .tc (Pipeline.arrRef (cfgs p).spec w))) :
    Pipeline.RegionSeg (pcfgs (F := F)) adm pdats () defs₀ Variants.none noL nolv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ noL nolv p howed
  pre c := iprop(StableHlo.held (c : Thread nD τ) (Pipeline.ucRefs τ sig) (W c) ∗ beside c)
  post c := iprop(StableHlo.held (c : Thread nD τ) (Pipeline.ucRefs τ sig) (Pipeline.afterRegion (pdats p c) (W c)) ∗ beside c)
  X _ := BI.emp
  Y _ := BI.emp
  Z c := StableHlo.held (c : Thread nD τ) (Pipeline.ucRefs τ sig \ Pipeline.arrRefs (cfgs p).spec) (W c)
  hentry c := by
    have hsub : Pipeline.arrRefs (τ := τ) (cfgs p).spec ⊆ Pipeline.ucRefs τ sig := Pipeline.arrRefs_sub_ucRefs _ kit.win.arr_unscoped
    have ha := Pipeline.arrays_held (pcfgs (F := F)) adm pdats p kit.toP c (hshare c) ((pdats p c).arrAt · 0) (W c) (hW c)
    rw [Pipeline.ownSems0_none, Pipeline.prefHeld_of_none _ hpre, StableHlo.held_sub_split (c : Thread nD τ) hsub (W c)]
    iintro ⟨⟨⟨Ha, Hr⟩, HO⟩, -, -⟩
    imodintro
    isplitl [Ha]; · rw [ha]; iexact Ha
    isplitr; · iempintro
    isplitl [HO]
    · unfold Pipeline.Dat.owesAt Pipeline.owesWithin Pipeline.Dat.bound
      rw [howed c 0, hrec c]
      icases HO with ⟨%w, HO⟩; iexists w; isplitr; · ipureintro; exact fun _ _ => Or.inl trivial
      iexact HO
    isplitr; · iempintro
    iexact Hr
  hin c := by
    rw [show (pdats p c).Φ 0 = _ from hΦ c 0]
    iintro ⟨-, -, Hr⟩; iexact Hr
  hout c := by
    rw [Pipeline.ownSems0_none, show (pdats p c).Φ (Fin.last _) = _ from hΦ c _]
    iintro Hr
    isplitr; · iempintro
    isplitr; · iempintro
    iexact Hr
  hexit c := by
    have hsub : Pipeline.arrRefs (τ := τ) (cfgs p).spec ⊆ Pipeline.ucRefs τ sig := Pipeline.arrRefs_sub_ucRefs _ kit.win.arr_unscoped
    have ha := Pipeline.arrays_held (pcfgs (F := F)) adm pdats p kit.toP c (hshare c) ((pdats p c).arrAt · (cfgs p).N)
      (Pipeline.afterRegion (pdats p c) (W c)) (fun w => (Pipeline.afterRegion_arr (pdats p c) (W c) kit.win.arr_inj w).symm)
    rw [StableHlo.held_sub_split (c : Thread nD τ) hsub (Pipeline.afterRegion (pdats p c) (W c)),
      StableHlo.held_congr (c : Thread nD τ) (S := Pipeline.ucRefs τ sig \ Pipeline.arrRefs (cfgs p).spec)
        (V := Pipeline.afterRegion (pdats p c) (W c)) (V' := W c) (Pipeline.afterRegion_off (pdats p c) (W c) _)]
    iintro ⟨Ha, HO, -, Hr⟩
    imodintro
    isplitl [Ha Hr]
    · isplitl [Ha]; · rw [← ha]; iexact Ha
      iexact Hr
    unfold Pipeline.Dat.owesAt Pipeline.owesWithin
    rw [howed c (Fin.last _)]
    icases HO with ⟨%w, -, HO⟩; iexists w; iexact HO

end Cert.Proof

end
-- ==== Proof.Own.Launched.lean ====
module

public import proofs.«01_k».proof.Proof.Own.Region

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- What region 0 leaves in every buffer. -/
def mid (c : Dev nD) : Valuation τ sig (Elt F) := Pipeline.afterRegion (dat0 (V1 m) c) (V1 m c)
/-- What region 0 leaves, as the unknowns of the launch. -/
def outs0 : Outs (F := F) := fun _ r c => mid m c r
/-- What region 1 leaves in every buffer. -/
def last (c : Dev nD) : Valuation τ sig (Elt F) := Pipeline.afterRegion (dat1 (V2 m (outs0 m)) c) (V2 m (outs0 m) c)
/-- What the two regions leave. -/
def outs : Outs (F := F) := fun J r c => match J with
  | 2 => mid m c r
  | _ => last m c r

/-- The second region finds the same whatever it leaves. -/
theorem V2_outs : V2 m (outs m) = V2 m (outs0 m) := rfl

/-- The two regions' proof data. -/
def pdats : (p : Fin 2) → (c : Dev nD) → Dat τ (Elt F) Unit ℕ (UR sig nD τ) ℕ (cfgs p) c
  | ⟨0, _⟩ => fun c => dat0 (V1 m) c
  | ⟨1, _⟩ => fun c => dat1 (V2 m (outs0 m)) c

/-- Different buffers have different places. -/
theorem devRef_ne {r r' : Ref sig .tc} (h : r ≠ r') : (Proc.tc.devRef r : DevRef τ sig) ≠ Proc.tc.devRef r' := StableHlo.devRef_ne_of_ne h

/-- What the second region finds in the first table. -/
theorem V2_0 (o : Outs (F := F)) (c : Dev nD) : V2 m o c (Proc.tc.devRef main_v5_0) = o 2 main_v5_0 c := by
  unfold V2
  rw [Function.update_of_ne (devRef_ne (r := main_v5_0) (r' := main_v5_1) (by decide)), Function.update_self]
/-- And in the second table. -/
theorem V2_1 (o : Outs (F := F)) (c : Dev nD) : V2 m o c (Proc.tc.devRef main_v5_1) = o 2 main_v5_1 c := by
  unfold V2
  rw [Function.update_self]
/-- The floating array after it. -/
theorem V3_0 (o : Outs (F := F)) (c : Dev nD) : V3 m o c (Proc.tc.devRef main_v6_0) = o 3 main_v6_0 c := by
  unfold V3
  rw [Function.update_of_ne (devRef_ne (r := main_v6_0) (r' := main_v6_2) (by decide)),
    Function.update_of_ne (devRef_ne (r := main_v6_0) (r' := main_v6_1) (by decide)), Function.update_self]
/-- The candidates' array after it. -/
theorem V3_1 (o : Outs (F := F)) (c : Dev nD) : V3 m o c (Proc.tc.devRef main_v6_1) = o 3 main_v6_1 c := by
  unfold V3
  rw [Function.update_of_ne (devRef_ne (r := main_v6_1) (r' := main_v6_2) (by decide)), Function.update_self]
/-- The counts' array after it. -/
theorem V3_2 (o : Outs (F := F)) (c : Dev nD) : V3 m o c (Proc.tc.devRef main_v6_2) = o 3 main_v6_2 c := by
  unfold V3
  rw [Function.update_self]

/-- Region 0 leaves the unscoped buffers as the launch's valuation after it says. -/
theorem mid_eq (c : Dev nD) : ∀ b ∈ Pipeline.ucRefs τ sig, mid m c b = V2 m (outs m) c b := by
  intro b hb
  obtain ⟨r, -, rfl⟩ := Finset.mem_map.mp (Finset.mem_filter.mp hb).1
  by_cases h1 : r = main_v5_1
  · subst h1; exact (V2_1 m (outs m) c).symm
  by_cases h0 : r = main_v5_0
  · subst h0; exact (V2_0 m (outs m) c).symm
  refine Eq.trans ?_ (V2_of m (outs m) c r (by simp [h0, h1])).symm
  refine Pipeline.afterRegion_keeps (dat0 (V1 m) c) (V1 m c) winFacts0.arr_inj (fun w => by dsimp only [dat0]) r (fun w hw => ?_)
  fin_cases w
  · rfl
  · rfl
  · exact absurd hw.symm h0
  · exact absurd hw.symm h1

/-- Region 1 leaves the unscoped buffers as the launch's valuation after it says. -/
theorem last_eq (c : Dev nD) : ∀ b ∈ Pipeline.ucRefs τ sig, last m c b = V3 m (outs m) c b := by
  intro b hb
  obtain ⟨r, -, rfl⟩ := Finset.mem_map.mp (Finset.mem_filter.mp hb).1
  by_cases h2 : r = main_v6_2
  · subst h2; exact (V3_2 m (outs m) c).symm
  by_cases h1 : r = main_v6_1
  · subst h1; exact (V3_1 m (outs m) c).symm
  by_cases h0 : r = main_v6_0
  · subst h0; exact (V3_0 m (outs m) c).symm
  refine Eq.trans ?_ (V3_of m (outs m) c r (by simp [h0, h1, h2])).symm
  refine Pipeline.afterRegion_keeps (dat1 (V2 m (outs0 m)) c) (V2 m (outs0 m) c) winFacts1.arr_inj (fun w => by dsimp only [dat1]) r (fun w hw => ?_)
  fin_cases w
  · rfl
  · rfl
  · rfl
  · exact absurd hw.symm h0
  · exact absurd hw.symm h1
  · exact absurd hw.symm h2

/-- Region 0's record. -/
def reg0 : Pipeline.RegionSeg (pcfgs (F := F)) adm (pdats m) () defs₀ Variants.none noL nolv 0 :=
  region (pdats m) 0 launch0 rfl (fun c => body0 (V1 m) c) (fun _ _ => rfl) (fun _ => rfl) (fun c => (dat0 (V1 m) c).share_full fun _ => rfl)
    (fun _ _ => rfl) (V1 m) (fun _ _ => by dsimp only [pdats, dat0, Dat.arrAt]; rfl)
/-- Region 1's record. -/
def reg1 : Pipeline.RegionSeg (pcfgs (F := F)) adm (pdats m) () defs₀ Variants.none noL nolv 1 :=
  region (pdats m) 1 launch1 rfl (fun c => body1 (V2 m (outs0 m)) c) (fun _ _ => rfl) (fun _ => rfl) (fun c => (dat1 (V2 m (outs0 m)) c).share_full fun _ => rfl)
    (fun _ _ => rfl) (V2 m (outs0 m)) (fun _ _ => by dsimp only [pdats, dat1, Dat.arrAt]; rfl)

/-- The first region ends where the second begins. -/
theorem leaves0 (c : Dev nD) : (reg0 m).post c ⊢ (reg1 m).pre c := by
  show iprop(StableHlo.held (c : Thread nD τ) (Pipeline.ucRefs τ sig) (mid m c) ∗ beside c)
      ⊢ iprop(StableHlo.held (c : Thread nD τ) (Pipeline.ucRefs τ sig) (V2 m (outs m) c) ∗ beside c)
  rw [StableHlo.held_congr (c : Thread nD τ) (mid_eq m c)]
/-- The second ends where the host goes on. -/
theorem leaves1 (c : Dev nD) : (reg1 m).post c
    ⊢ iprop(StableHlo.held (c : Thread nD τ) (Pipeline.ucRefs τ sig) (V3 m (outs m) c) ∗ beside c) := by
  show iprop(StableHlo.held (c : Thread nD τ) (Pipeline.ucRefs τ sig) (last m c) ∗ beside c) ⊢ _
  rw [StableHlo.held_congr (c : Thread nD τ) (last_eq m c)]

/-- The pipeline's algebra is the whole user algebra. -/
abbrev theE : Emb (URounds (GSem nD τ sig) Unit) 𝕄 := (Emb.refl _).trans (uEmb (nD := nD) (sig := sig) (Ix := Unit) (Val := Elt F) (Name := ℕ) (U := UR sig nD τ) (Lvl := ℕ)).toEmb

/-- The launch element of the pipeline's algebra. -/
def u₀ : UR sig nD τ := initOf (Pipeline.cells cfgs cellOf_inj) (Pipeline.launchToks cfgs cellOf_inj)

set_option backward.isDefEq.respectTransparency.types false in
/-- The whole program's run: it ends, each unscoped buffer at what the launch's last valuation says, every counter at zero. -/
theorem run (ρ : Dev nD → PrngReg) :
    θ_run defs (onTc (τ := τ) (main (F := F))) ⟨m, fun _ => 0, ρ⟩ (fun r => (∀ c : Dev nD, ∀ b : Ref sig .tc, b.isScoped = false →
      r.2.mem ((c.tc : Thread nD τ).loc b) = V4 m (outs m) c b) ∧ r.2.sem = fun _ => 0) := by
  refine Pipeline.θ_run_regions_kit_dev_sems (pcfgs (F := F)) adm (pdats m) () cellOf_inj theE defs₀ Variants.none noL nolv m ρ main
    (segs m (outs m) Variants.none noL nolv (fun _ => beside) () (pdats m) (reg0 m) (reg1 m))
    (fun c Q => by
      rewrite [main_chain c, Pipeline.Seg.run_eq_chain]
      exact .rfl)
    (fun c => by simp only [segs, Pipeline.Seg.pipes_host, Pipeline.Seg.pipes_region, Pipeline.Seg.pipes_nil]; decide) 0 (fun _ _ => rfl)
    (fun _ => iprop(emp)) u₀ ?_
    (T₀ := fun c => iprop(StableHlo.held (c : Thread nD τ) (Pipeline.ucRefs τ sig) (V0 m c) ∗ beside c))
    (Tₙ := fun c => StableHlo.held (c : Thread nD τ) (Pipeline.ucRefs τ sig) (V4 m (outs m) c))
    (hch := fun c => ⟨.rfl, .rfl, leaves0 m c, leaves1 m c, .rfl⟩)
    (hinit := ?_) (QY := fun c s => ∀ b : Ref sig .tc, b.isScoped = false → s.mem ((c.tc : Thread nD τ).loc b) = V4 m (outs m) c b)
    (hfin := fun c s' => ?_) (hQ := fun _ h hz => ⟨h, funext fun g => hz g (.inr (regions_no_unscoped g.2))⟩)
  · iintro Hu
    imodintro
    isplitl [Hu]; · iapply (show ownU (u₀ : UR sig nD τ) ⊢ (BI.own ((theE (F := F)).toFun (initOf (Pipeline.cells (Pipeline.pin (pcfgs (F := F)) adm) cellOf_inj) (Pipeline.launchToks (Pipeline.pin (pcfgs (F := F)) adm) cellOf_inj))) : sProp 𝕄) from BI.Entails.refl _); iexact Hu
    iapply (show (BI.emp : sProp 𝕄) ⊢ bigSep Finset.univ (fun _ : Dev nD => (BI.emp : sProp 𝕄)) from by rw [BI.bigSep_emp_const])
    iempintro
  · refine Pipeline.initEach noL nolv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      intro b hb
      exact h (Proc.devRef .tc b) (Finset.mem_filter.mpr ⟨StableHlo.devRef_mem_tcRefs b, fun h' => Bool.false_ne_true (hb.symm.trans h')⟩)
    · iexact HSI

end Cert.Proof

end
-- ==== Proof.Own.RefRun.lean ====
module

public import proofs.«01_k».proof.ReferenceIdeal
public import proofs.«01_k».proof.Proof.Gen.ReferenceIdeal
public import Idealize.ShloMosaic.Lib.StableHlo.Run
public import Idealize.ShloMosaic.Lib.Pipeline.Frame

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The reference's stages, as functions of tensors -/

/-- The third columns of the target rotations. -/
def rot (P : FVec F S1024x4x4 .f32) : FVec F S1024x3x3 .f32 :=
  extractStridedSlice S1024x3x3 ![0, 0, 0] P slices_S1024x4x4_S1024x3x3_0_0_0
/-- The target viewing directions before normalising. -/
def axisT (P : FVec F S1024x4x4 .f32) : FVec F S1024x3 .f32 :=
  shapeCast S1024x3 (extractStridedSlice S1024x3x1 ![0, 0, 2] (rot P) slices_S1024x3x3_S1024x3x1_0_0_2) shapeCasts_S1024x3x1_S1024x3
/-- Rows divided by their length, as the target's directions are. -/
def unitT (x : FVec F S1024x3 .f32) : FVec F S1024x3 .f32 :=
  Host.divf x (broadcastInDim S1024x3 ![0, 1] bcast_S1024x1_S1024x3_0_1
    (addf (Host.sqrt (broadcastInDim S1024x1 ![0] bcast_S1024_S1024x1_0
        (Host.reduceAdd (mulf x x) (constant S_ .f32 0x00000000#32) reducesTo_S1024x3_S1024_d1 h_S_)))
      (broadcastInDim S1024x1 ![] bcast_S_S1024x1 (constant S_ .f32 0x322BCC77#32))))
/-- The target origins. -/
def orgT (P : FVec F S1024x4x4 .f32) : FVec F S1024x3 .f32 :=
  shapeCast S1024x3 (extractStridedSlice S1024x3x1 ![0, 0, 3] P slices_S1024x4x4_S1024x3x1_0_0_3) shapeCasts_S1024x3x1_S1024x3
/-- The candidates' viewing directions before normalising. -/
def axisC (R : FVec F S16384x3x3 .f32) : FVec F S16384x3 .f32 :=
  shapeCast S16384x3 (extractStridedSlice S16384x3x1 ![0, 0, 2] R slices_S16384x3x3_S16384x3x1_0_0_2) shapeCasts_S16384x3x1_S16384x3
/-- Rows divided by their length, as the candidates' directions are. -/
def unitC (x : FVec F S16384x3 .f32) : FVec F S16384x3 .f32 :=
  Host.divf x (broadcastInDim S16384x3 ![0, 1] bcast_S16384x1_S16384x3_0_1
    (addf (Host.sqrt (broadcastInDim S16384x1 ![0] bcast_S16384_S16384x1_0
        (Host.reduceAdd (mulf x x) (constant S_ .f32 0x00000000#32) reducesTo_S16384x3_S16384_d1 h_S_)))
      (broadcastInDim S16384x1 ![] bcast_S_S16384x1 (constant S_ .f32 0x322BCC77#32))))
/-- The clipped cosines. -/
def cosines (d : FVec F S1024x3 .f32) (e : FVec F S16384x3 .f32) : FVec F S1024x16384 .f32 :=
  minimumf (broadcastInDim S1024x16384 ![] bcast_S_S1024x16384 (constant S_ .f32 0x3F7FFFEF#32))
    (maximumf (broadcastInDim S1024x16384 ![] bcast_S_S1024x16384 (constant S_ .f32 0xBF7FFFEF#32))
      (Host.dotGeneral dot_S1024x3_S3x16384_S1024x16384_1_0_0_1_n_n none d (transpose S3x16384 [1, 0] e transposes_S16384x3_S3x16384_1_0)))
/-- The squared distances in their expanded form. -/
def squares (o : FVec F S1024x3 .f32) (T : FVec F S16384x3 .f32) : FVec F S1024x16384 .f32 :=
  subf (addf
      (broadcastInDim S1024x16384 ![0, 1] bcast_S1024x1_S1024x16384_0_1 (broadcastInDim S1024x1 ![0] bcast_S1024_S1024x1_0
        (Host.reduceAdd (mulf o o) (constant S_ .f32 0x00000000#32) reducesTo_S1024x3_S1024_d1 h_S_)))
      (broadcastInDim S1024x16384 ![0, 1] bcast_S1x16384_S1024x16384_0_1 (broadcastInDim S1x16384 ![1] bcast_S16384_S1x16384_1
        (Host.reduceAdd (mulf T T) (constant S_ .f32 0x00000000#32) reducesTo_S16384x3_S16384_d1 h_S_))))
    (mulf (broadcastInDim S1024x16384 ![] bcast_S_S1024x16384 (constant S_ .f32 0x40000000#32))
      (Host.dotGeneral dot_S1024x3_S3x16384_S1024x16384_1_0_0_1_n_n none o (transpose S3x16384 [1, 0] T transposes_S16384x3_S3x16384_1_0)))
/-- The distances. -/
def dists (q : FVec F S1024x16384 .f32) : FVec F S1024x16384 .f32 :=
  Host.sqrt (addf (maximumf q (broadcastInDim S1024x16384 ![] bcast_S_S1024x16384 (constant S_ .f32 0x00000000#32)))
    (broadcastInDim S1024x16384 ![] bcast_S_S1024x16384 (constant S_ .f32 0x2B8CBCCC#32)))
/-- Which candidates lie within the radius. -/
def within (d : FVec F S1024x16384 .f32) : IVec S1024x16384 1 :=
  cmpf .ole d (broadcastInDim S1024x16384 ![] bcast_S_S1024x16384 (constant S_ .f32 0x3F4CCCCD#32))
/-- Which candidates are put aside: those outside, in rows where one is inside. -/
def aside (w : IVec S1024x16384 1) : IVec S1024x16384 1 :=
  andi (broadcastInDim S1024x16384 ![0, 1] bcast_S1024x1_S1024x16384_0_1 (broadcastInDim S1024x1 ![0] bcast_S1024_S1024x1_0
    (Host.reduce IntOp.ori w (constantI S_ 1 0#1) reducesTo_S1024x16384_S1024_d1 h_S_))) (noti w)
/-- A table with the candidates put aside at ten thousand. -/
def masked (a : IVec S1024x16384 1) (x : FVec F S1024x16384 .f32) : FVec F S1024x16384 .f32 :=
  select a (broadcastInDim S1024x16384 ![] bcast_S_S1024x16384 (constant S_ .f32 0x461C4000#32)) x
/-- The least entry's place in each row. -/
def least (x : FVec F S1024x16384 .f32) : IVec S1024 32 := fun j =>
  (Host.argReduce reducer_argmin_f32_i32 x (iotaInDim S1024x16384 32 1) (constant S_ .f32 0x7F800000#32) (constantI S_ 32 0#32)
    reducesTo_S1024x16384_S1024_d1 h_S_ j).2
/-- A row's place as a gather's start. -/
def start (i : IVec S1024x1 32) : IVec S1024x1x1 32 :=
  shapeCast S1024x1x1 (select (cmpi .slt i (broadcastInDim S1024x1 ![] bcast_S_S1024x1 (constantI S_ 32 0#32)))
    (addi i (broadcastInDim S1024x1 ![] bcast_S_S1024x1 (constantI S_ 32 16384#32))) i) shapeCasts_S1024x1_S1024x1x1
/-- The entries of a table at one place a row. -/
def taken (x : FVec F S1024x16384 .f32) (i : IVec S1024 32) : FVec F S1024 .f32 :=
  let st := start (broadcastInDim S1024x1 ![0] bcast_S1024_S1024x1_0 i)
  shapeCast S1024 (select
    (Host.reduce IntOp.andi (andi (cmpi .sge st (broadcastInDim S1024x1x1 ![] bcast_S_S1024x1x1 (constantI S_ 32 0#32)))
        (cmpi .sle st (broadcastInDim S1024x1x1 ![0, 1, 2] bcast_S1x1x1_S1024x1x1_0_1_2
          (broadcastInDim S1x1x1 ![2] bcast_S1_S1x1x1_2 (constantI S1 32 16383#32)))))
      (constantI S_ 1 1#1) reducesTo_S1024x1x1_S1024x1_d2 h_S_)
    (Host.gather gather_S1024x16384_S1024x1x1_S1024x1_n_1_0_0_1_2_11 x st)
    (broadcastInDim S1024x1 ![] bcast_S_S1024x1 (constant S_ .f32 0x7FC00000#32))) shapeCasts_S1024x1_S1024
/-- How many candidates lie within the radius. -/
def howMany (w : IVec S1024x16384 1) : IVec S1024 32 :=
  Host.reduce IntOp.addi (extui 32 w natLt_1_32) (constantI S_ 32 0#32) reducesTo_S1024x16384_S1024_d1 h_S_
/-- Angle, distance and the target rotation's nine entries side by side. -/
def joined (a d : FVec F S1024 .f32) (R : FVec F S1024x3x3 .f32) : FVec F S1024x11 .f32 :=
  concatenate S1024x11 1 [⟨S1024x1, broadcastInDim S1024x1 ![0] bcast_S1024_S1024x1_0 a⟩,
    ⟨S1024x1, broadcastInDim S1024x1 ![0] bcast_S1024_S1024x1_0 d⟩,
    ⟨S1024x9, shapeCast S1024x9 R shapeCasts_S1024x3x3_S1024x9⟩] concatenates_S1024x1_S1024x1_S1024x9_S1024x11_d1

/-! ## The operations, in ten windows -/

/-- Operations 1 to 15. -/
abbrev wA : List (HloOp τ sig (Elt F)) :=
  [ unary main_arg2 main_v0 ((extractStridedSlice S1024x3x3 ![0, 0, 0] · slices_S1024x4x4_S1024x3x3_0_0_0) : (⟨S1024x4x4, .f32⟩ : BufTy).Contents (Elt F) → (⟨S1024x3x3, .f32⟩ : BufTy).Contents (Elt F)),
    unary main_v0 main_v1 ((extractStridedSlice S1024x3x1 ![0, 0, 2] · slices_S1024x3x3_S1024x3x1_0_0_2) : (⟨S1024x3x3, .f32⟩ : BufTy).Contents (Elt F) → (⟨S1024x3x1, .f32⟩ : BufTy).Contents (Elt F)),
    reshape main_v1 main_v2 (rfl : (.f32 : EltTy) = .f32) shapeCasts_S1024x3x1_S1024x3,
    binary main_v2 main_v2 main_call0_v0 mulf,
    nullary main_call0_cst (constant S_ .f32 0x00000000#32),
    binary main_call0_v0 main_call0_cst main_call0_v1 (fun x v => Host.reduceAdd x v reducesTo_S1024x3_S1024_d1 h_S_),
    unary main_call0_v1 main_call0_v2 (broadcastInDim S1024x1 ![0] bcast_S1024_S1024x1_0),
    unary main_call0_v2 main_v3 Host.sqrt,
    nullary main_cst (constant S_ .f32 0x322BCC77#32),
    unary main_cst main_v4 (broadcastInDim S1024x1 ![] bcast_S_S1024x1 : (⟨S_, .f32⟩ : BufTy).Contents (Elt F) → (⟨S1024x1, .f32⟩ : BufTy).Contents (Elt F)),
    binary main_v3 main_v4 main_v5 (addf : (⟨S1024x1, .f32⟩ : BufTy).Contents (Elt F) → (⟨S1024x1, .f32⟩ : BufTy).Contents (Elt F) → (⟨S1024x1, .f32⟩ : BufTy).Contents (Elt F)),
    unary main_v5 main_v6 (broadcastInDim S1024x3 ![0, 1] bcast_S1024x1_S1024x3_0_1 : (⟨S1024x1, .f32⟩ : BufTy).Contents (Elt F) → (⟨S1024x3, .f32⟩ : BufTy).Contents (Elt F)),
    binary main_v2 main_v6 main_v7 (Host.divf : (⟨S1024x3, .f32⟩ : BufTy).Contents (Elt F) → (⟨S1024x3, .f32⟩ : BufTy).Contents (Elt F) → (⟨S1024x3, .f32⟩ : BufTy).Contents (Elt F)),
    unary main_arg2 main_v8 ((extractStridedSlice S1024x3x1 ![0, 0, 3] · slices_S1024x4x4_S1024x3x1_0_0_3) : (⟨S1024x4x4, .f32⟩ : BufTy).Contents (Elt F) → (⟨S1024x3x1, .f32⟩ : BufTy).Contents (Elt F)),
    reshape main_v8 main_v9 (rfl : (.f32 : EltTy) = .f32) shapeCasts_S1024x3x1_S1024x3 ]

/-- Operations 16 to 28. -/
abbrev wB : List (HloOp τ sig (Elt F)) :=
  [ unary main_arg0 main_v10 ((extractStridedSlice S16384x3x1 ![0, 0, 2] · slices_S16384x3x3_S16384x3x1_0_0_2) : (⟨S16384x3x3, .f32⟩ : BufTy).Contents (Elt F) → (⟨S16384x3x1, .f32⟩ : BufTy).Contents (Elt F)),
    reshape main_v10 main_v11 (rfl : (.f32 : EltTy) = .f32) shapeCasts_S16384x3x1_S16384x3,
    binary main_v11 main_v11 main_call1_v0 mulf,
    nullary main_call1_cst (constant S_ .f32 0x00000000#32),
    binary main_call1_v0 main_call1_cst main_call1_v1 (fun x v => Host.reduceAdd x v reducesTo_S16384x3_S16384_d1 h_S_),
    unary main_call1_v1 main_call1_v2 (broadcastInDim S16384x1 ![0] bcast_S16384_S16384x1_0),
    unary main_call1_v2 main_v12 Host.sqrt,
    nullary main_cst_0 (constant S_ .f32 0x322BCC77#32),
    unary main_cst_0 main_v13 (broadcastInDim S16384x1 ![] bcast_S_S16384x1 : (⟨S_, .f32⟩ : BufTy).Contents (Elt F) → (⟨S16384x1, .f32⟩ : BufTy).Contents (Elt F)),
    binary main_v12 main_v13 main_v14 (addf : (⟨S16384x1, .f32⟩ : BufTy).Contents (Elt F) → (⟨S16384x1, .f32⟩ : BufTy).Contents (Elt F) → (⟨S16384x1, .f32⟩ : BufTy).Contents (Elt F)),
    unary main_v14 main_v15 (broadcastInDim S16384x3 ![0, 1] bcast_S16384x1_S16384x3_0_1 : (⟨S16384x1, .f32⟩ : BufTy).Contents (Elt F) → (⟨S16384x3, .f32⟩ : BufTy).Contents (Elt F)),
    binary main_v11 main_v15 main_v16 (Host.divf : (⟨S16384x3, .f32⟩ : BufTy).Contents (Elt F) → (⟨S16384x3, .f32⟩ : BufTy).Contents (Elt F) → (⟨S16384x3, .f32⟩ : BufTy).Contents (Elt F)),
    unary main_v16 main_v17 ((transpose S3x16384 [1, 0] · transposes_S16384x3_S3x16384_1_0) : (⟨S16384x3, .f32⟩ : BufTy).Contents (Elt F) → (⟨S3x16384, .f32⟩ : BufTy).Contents (Elt F)) ]

/-- Operations 29 to 38. -/
abbrev wC : List (HloOp τ sig (Elt F)) :=
  [ binary main_v7 main_v17 main_v18 ((fun l r => Host.dotGeneral dot_S1024x3_S3x16384_S1024x16384_1_0_0_1_n_n none l r) : (⟨S1024x3, .f32⟩ : BufTy).Contents (Elt F) → (⟨S3x16384, .f32⟩ : BufTy).Contents (Elt F) → (⟨S1024x16384, .f32⟩ : BufTy).Contents (Elt F)),
    nullary main_cst_1 (constant S_ .f32 0xBF7FFFEF#32),
    nullary main_cst_2 (constant S_ .f32 0x3F7FFFEF#32),
    unary main_cst_1 main_call2_v0 id,
    unary main_call2_v0 main_call2_v1 (broadcastInDim S1024x16384 ![] bcast_S_S1024x16384),
    binary main_call2_v1 main_v18 main_call2_v2 maximumf,
    unary main_cst_2 main_call2_v3 id,
    unary main_call2_v3 main_call2_v4 (broadcastInDim S1024x16384 ![] bcast_S_S1024x16384),
    binary main_call2_v4 main_call2_v2 main_v19 minimumf,
    unary main_v19 main_v20 (Host.acos : (⟨S1024x16384, .f32⟩ : BufTy).Contents (Elt F) → (⟨S1024x16384, .f32⟩ : BufTy).Contents (Elt F)) ]

/-- Operations 39 to 55. -/
abbrev wD : List (HloOp τ sig (Elt F)) :=
  [ binary main_v9 main_v9 main_v21 (mulf : (⟨S1024x3, .f32⟩ : BufTy).Contents (Elt F) → (⟨S1024x3, .f32⟩ : BufTy).Contents (Elt F) → (⟨S1024x3, .f32⟩ : BufTy).Contents (Elt F)),
    nullary main_cst_3 (constant S_ .f32 0x00000000#32),
    binary main_v21 main_cst_3 main_v22 ((fun x v => Host.reduceAdd x v reducesTo_S1024x3_S1024_d1 h_S_) : (⟨S1024x3, .f32⟩ : BufTy).Contents (Elt F) → (⟨S_, .f32⟩ : BufTy).Contents (Elt F) → (⟨S1024, .f32⟩ : BufTy).Contents (Elt F)),
    unary main_v22 main_v23 (broadcastInDim S1024x1 ![0] bcast_S1024_S1024x1_0 : (⟨S1024, .f32⟩ : BufTy).Contents (Elt F) → (⟨S1024x1, .f32⟩ : BufTy).Contents (Elt F)),
    binary main_arg1 main_arg1 main_v24 (mulf : (⟨S16384x3, .f32⟩ : BufTy).Contents (Elt F) → (⟨S16384x3, .f32⟩ : BufTy).Contents (Elt F) → (⟨S16384x3, .f32⟩ : BufTy).Contents (Elt F)),
    nullary main_cst_4 (constant S_ .f32 0x00000000#32),
    binary main_v24 main_cst_4 main_v25 ((fun x v => Host.reduceAdd x v reducesTo_S16384x3_S16384_d1 h_S_) : (⟨S16384x3, .f32⟩ : BufTy).Contents (Elt F) → (⟨S_, .f32⟩ : BufTy).Contents (Elt F) → (⟨S16384, .f32⟩ : BufTy).Contents (Elt F)),
    unary main_v25 main_v26 (broadcastInDim S1x16384 ![1] bcast_S16384_S1x16384_1 : (⟨S16384, .f32⟩ : BufTy).Contents (Elt F) → (⟨S1x16384, .f32⟩ : BufTy).Contents (Elt F)),
    unary main_arg1 main_v27 ((transpose S3x16384 [1, 0] · transposes_S16384x3_S3x16384_1_0) : (⟨S16384x3, .f32⟩ : BufTy).Contents (Elt F) → (⟨S3x16384, .f32⟩ : BufTy).Contents (Elt F)),
    binary main_v9 main_v27 main_v28 ((fun l r => Host.dotGeneral dot_S1024x3_S3x16384_S1024x16384_1_0_0_1_n_n none l r) : (⟨S1024x3, .f32⟩ : BufTy).Contents (Elt F) → (⟨S3x16384, .f32⟩ : BufTy).Contents (Elt F) → (⟨S1024x16384, .f32⟩ : BufTy).Contents (Elt F)),
    unary main_v23 main_v29 (broadcastInDim S1024x16384 ![0, 1] bcast_S1024x1_S1024x16384_0_1 : (⟨S1024x1, .f32⟩ : BufTy).Contents (Elt F) → (⟨S1024x16384, .f32⟩ : BufTy).Contents (Elt F)),
    unary main_v26 main_v30 (broadcastInDim S1024x16384 ![0, 1] bcast_S1x16384_S1024x16384_0_1 : (⟨S1x16384, .f32⟩ : BufTy).Contents (Elt F) → (⟨S1024x16384, .f32⟩ : BufTy).Contents (Elt F)),
    binary main_v29 main_v30 main_v31 (addf : (⟨S1024x16384, .f32⟩ : BufTy).Contents (Elt F) → (⟨S1024x16384, .f32⟩ : BufTy).Contents (Elt F) → (⟨S1024x16384, .f32⟩ : BufTy).Contents (Elt F)),
    nullary main_cst_5 (constant S_ .f32 0x40000000#32),
    unary main_cst_5 main_v32 (broadcastInDim S1024x16384 ![] bcast_S_S1024x16384 : (⟨S_, .f32⟩ : BufTy).Contents (Elt F) → (⟨S1024x16384, .f32⟩ : BufTy).Contents (Elt F)),
    binary main_v32 main_v28 main_v33 (mulf : (⟨S1024x16384, .f32⟩ : BufTy).Contents (Elt F) → (⟨S1024x16384, .f32⟩ : BufTy).Contents (Elt F) → (⟨S1024x16384, .f32⟩ : BufTy).Contents (Elt F)),
    binary main_v31 main_v33 main_v34 (subf : (⟨S1024x16384, .f32⟩ : BufTy).Contents (Elt F) → (⟨S1024x16384, .f32⟩ : BufTy).Contents (Elt F) → (⟨S1024x16384, .f32⟩ : BufTy).Contents (Elt F)) ]

/-- Operations 56 to 65. -/
abbrev wE : List (HloOp τ sig (Elt F)) :=
  [ nullary main_cst_6 (constant S_ .f32 0x00000000#32),
    unary main_cst_6 main_v35 (broadcastInDim S1024x16384 ![] bcast_S_S1024x16384 : (⟨S_, .f32⟩ : BufTy).Contents (Elt F) → (⟨S1024x16384, .f32⟩ : BufTy).Contents (Elt F)),
    binary main_v34 main_v35 main_v36 (maximumf : (⟨S1024x16384, .f32⟩ : BufTy).Contents (Elt F) → (⟨S1024x16384, .f32⟩ : BufTy).Contents (Elt F) → (⟨S1024x16384, .f32⟩ : BufTy).Contents (Elt F)),
    nullary main_cst_7 (constant S_ .f32 0x2B8CBCCC#32),
    unary main_cst_7 main_v37 (broadcastInDim S1024x16384 ![] bcast_S_S1024x16384 : (⟨S_, .f32⟩ : BufTy).Contents (Elt F) → (⟨S1024x16384, .f32⟩ : BufTy).Contents (Elt F)),
    binary main_v36 main_v37 main_v38 (addf : (⟨S1024x16384, .f32⟩ : BufTy).Contents (Elt F) → (⟨S1024x16384, .f32⟩ : BufTy).Contents (Elt F) → (⟨S1024x16384, .f32⟩ : BufTy).Contents (Elt F)),
    unary main_v38 main_v39 (Host.sqrt : (⟨S1024x16384, .f32⟩ : BufTy).Contents (Elt F) → (⟨S1024x16384, .f32⟩ : BufTy).Contents (Elt F)),
    nullary main_cst_8 (constant S_ .f32 0x3F4CCCCD#32),
    unary main_cst_8 main_v40 (broadcastInDim S1024x16384 ![] bcast_S_S1024x16384 : (⟨S_, .f32⟩ : BufTy).Contents (Elt F) → (⟨S1024x16384, .f32⟩ : BufTy).Contents (Elt F)),
    binary main_v39 main_v40 main_v41 (cmpf .ole : (⟨S1024x16384, .f32⟩ : BufTy).Contents (Elt F) → (⟨S1024x16384, .f32⟩ : BufTy).Contents (Elt F) → (⟨S1024x16384, .i1⟩ : BufTy).Contents (Elt F)) ]

/-- Operations 66 to 79. -/
abbrev wG : List (HloOp τ sig (Elt F)) :=
  [ nullary main_c (constantI S_ 1 0#1),
    binary main_v41 main_c main_v42 ((fun x v => Host.reduce IntOp.ori x v reducesTo_S1024x16384_S1024_d1 h_S_) : (⟨S1024x16384, .i1⟩ : BufTy).Contents (Elt F) → (⟨S_, .i1⟩ : BufTy).Contents (Elt F) → (⟨S1024, .i1⟩ : BufTy).Contents (Elt F)),
    unary main_v42 main_v43 (broadcastInDim S1024x1 ![0] bcast_S1024_S1024x1_0 : (⟨S1024, .i1⟩ : BufTy).Contents (Elt F) → (⟨S1024x1, .i1⟩ : BufTy).Contents (Elt F)),
    unary main_v41 main_v44 (noti : (⟨S1024x16384, .i1⟩ : BufTy).Contents (Elt F) → (⟨S1024x16384, .i1⟩ : BufTy).Contents (Elt F)),
    unary main_v43 main_v45 (broadcastInDim S1024x16384 ![0, 1] bcast_S1024x1_S1024x16384_0_1 : (⟨S1024x1, .i1⟩ : BufTy).Contents (Elt F) → (⟨S1024x16384, .i1⟩ : BufTy).Contents (Elt F)),
    binary main_v45 main_v44 main_v46 (andi : (⟨S1024x16384, .i1⟩ : BufTy).Contents (Elt F) → (⟨S1024x16384, .i1⟩ : BufTy).Contents (Elt F) → (⟨S1024x16384, .i1⟩ : BufTy).Contents (Elt F)),
    nullary main_cst_9 (constant S_ .f32 0x461C4000#32),
    unary main_cst_9 main_call3_v0 id,
    unary main_call3_v0 main_call3_v1 (broadcastInDim S1024x16384 ![] bcast_S_S1024x16384),
    ternary main_v46 main_call3_v1 main_v20 main_v47 select,
    nullary main_cst_10 (constant S_ .f32 0x461C4000#32),
    unary main_cst_10 main_call4_v0 id,
    unary main_call4_v0 main_call4_v1 (broadcastInDim S1024x16384 ![] bcast_S_S1024x16384),
    ternary main_v46 main_call4_v1 main_v39 main_v48 select ]

/-- Operations 80 to 84. -/
abbrev wH : List (HloOp τ sig (Elt F)) :=
  [ nullary main_call5_v0 (iotaInDim S1024x16384 32 1),
    nullary main_call5_cst (constant S_ .f32 0x7F800000#32),
    nullary main_call5_c (constantI S_ 32 0#32),
    quaternary main_v47 main_call5_v0 main_call5_cst main_call5_c main_call5_v1_0 (fun x y u v j => (Host.argReduce reducer_argmin_f32_i32 x y u v reducesTo_S1024x16384_S1024_d1 h_S_ j).1),
    quaternary main_v47 main_call5_v0 main_call5_cst main_call5_c main_v49 (fun x y u v j => (Host.argReduce reducer_argmin_f32_i32 x y u v reducesTo_S1024x16384_S1024_d1 h_S_ j).2) ]

/-- Operations 85 to 108. -/
abbrev wI : List (HloOp τ sig (Elt F)) :=
  [ unary main_v49 main_v50 (broadcastInDim S1024x1 ![0] bcast_S1024_S1024x1_0 : (⟨S1024, .i32⟩ : BufTy).Contents (Elt F) → (⟨S1024x1, .i32⟩ : BufTy).Contents (Elt F)),
    nullary main_call6_c (constantI S_ 32 0#32),
    unary main_call6_c main_call6_v0 (broadcastInDim S1024x1 ![] bcast_S_S1024x1),
    binary main_v50 main_call6_v0 main_call6_v1 (cmpi .slt),
    nullary main_call6_c_0 (constantI S_ 32 16384#32),
    unary main_call6_c_0 main_call6_v2 (broadcastInDim S1024x1 ![] bcast_S_S1024x1),
    binary main_v50 main_call6_v2 main_call6_v3 addi,
    ternary main_call6_v1 main_call6_v3 main_v50 main_call6_v4 select,
    reshape main_call6_v4 main_call6_v5 (rfl : (.i32 : EltTy) = .i32) shapeCasts_S1024x1_S1024x1x1,
    nullary main_call6_c_1 (constantI S1 32 16383#32),
    nullary main_call6_c_2 (constantI S_ 32 0#32),
    unary main_call6_c_2 main_call6_v6 (broadcastInDim S1024x1x1 ![] bcast_S_S1024x1x1),
    binary main_call6_v5 main_call6_v6 main_call6_v7 (cmpi .sge),
    unary main_call6_c_1 main_call6_v8 (broadcastInDim S1x1x1 ![2] bcast_S1_S1x1x1_2),
    unary main_call6_v8 main_call6_v9 (broadcastInDim S1024x1x1 ![0, 1, 2] bcast_S1x1x1_S1024x1x1_0_1_2),
    binary main_call6_v5 main_call6_v9 main_call6_v10 (cmpi .sle),
    binary main_call6_v7 main_call6_v10 main_call6_v11 andi,
    nullary main_call6_c_3 (constantI S_ 1 1#1),
    binary main_call6_v11 main_call6_c_3 main_call6_v12 (fun x v => Host.reduce IntOp.andi x v reducesTo_S1024x1x1_S1024x1_d2 h_S_),
    binary main_v47 main_call6_v5 main_call6_v13 (fun x i => Host.gather gather_S1024x16384_S1024x1x1_S1024x1_n_1_0_0_1_2_11 x i),
    nullary main_call6_cst (constant S_ .f32 0x7FC00000#32),
    unary main_call6_cst main_call6_v14 (broadcastInDim S1024x1 ![] bcast_S_S1024x1),
    ternary main_call6_v12 main_call6_v13 main_call6_v14 main_v51 select,
    reshape main_v51 main_v52 (rfl : (.f32 : EltTy) = .f32) shapeCasts_S1024x1_S1024 ]

/-- Operations 109 to 132. -/
abbrev wJ : List (HloOp τ sig (Elt F)) :=
  [ unary main_v49 main_v53 (broadcastInDim S1024x1 ![0] bcast_S1024_S1024x1_0 : (⟨S1024, .i32⟩ : BufTy).Contents (Elt F) → (⟨S1024x1, .i32⟩ : BufTy).Contents (Elt F)),
    nullary main_call7_c (constantI S_ 32 0#32),
    unary main_call7_c main_call7_v0 (broadcastInDim S1024x1 ![] bcast_S_S1024x1),
    binary main_v53 main_call7_v0 main_call7_v1 (cmpi .slt),
    nullary main_call7_c_0 (constantI S_ 32 16384#32),
    unary main_call7_c_0 main_call7_v2 (broadcastInDim S1024x1 ![] bcast_S_S1024x1),
    binary main_v53 main_call7_v2 main_call7_v3 addi,
    ternary main_call7_v1 main_call7_v3 main_v53 main_call7_v4 select,
    reshape main_call7_v4 main_call7_v5 (rfl : (.i32 : EltTy) = .i32) shapeCasts_S1024x1_S1024x1x1,
    nullary main_call7_c_1 (constantI S1 32 16383#32),
    nullary main_call7_c_2 (constantI S_ 32 0#32),
    unary main_call7_c_2 main_call7_v6 (broadcastInDim S1024x1x1 ![] bcast_S_S1024x1x1),
    binary main_call7_v5 main_call7_v6 main_call7_v7 (cmpi .sge),
    unary main_call7_c_1 main_call7_v8 (broadcastInDim S1x1x1 ![2] bcast_S1_S1x1x1_2),
    unary main_call7_v8 main_call7_v9 (broadcastInDim S1024x1x1 ![0, 1, 2] bcast_S1x1x1_S1024x1x1_0_1_2),
    binary main_call7_v5 main_call7_v9 main_call7_v10 (cmpi .sle),
    binary main_call7_v7 main_call7_v10 main_call7_v11 andi,
    nullary main_call7_c_3 (constantI S_ 1 1#1),
    binary main_call7_v11 main_call7_c_3 main_call7_v12 (fun x v => Host.reduce IntOp.andi x v reducesTo_S1024x1x1_S1024x1_d2 h_S_),
    binary main_v48 main_call7_v5 main_call7_v13 (fun x i => Host.gather gather_S1024x16384_S1024x1x1_S1024x1_n_1_0_0_1_2_11 x i),
    nullary main_call7_cst (constant S_ .f32 0x7FC00000#32),
    unary main_call7_cst main_call7_v14 (broadcastInDim S1024x1 ![] bcast_S_S1024x1),
    ternary main_call7_v12 main_call7_v13 main_call7_v14 main_v54 select,
    reshape main_v54 main_v55 (rfl : (.f32 : EltTy) = .f32) shapeCasts_S1024x1_S1024 ]

/-- Operations 133 to 139. -/
abbrev wK : List (HloOp τ sig (Elt F)) :=
  [ unary main_v41 main_v56 ((extui 32 · natLt_1_32) : (⟨S1024x16384, .i1⟩ : BufTy).Contents (Elt F) → (⟨S1024x16384, .i32⟩ : BufTy).Contents (Elt F)),
    nullary main_c_11 (constantI S_ 32 0#32),
    binary main_v56 main_c_11 main_v57 ((fun x v => Host.reduce IntOp.addi x v reducesTo_S1024x16384_S1024_d1 h_S_) : (⟨S1024x16384, .i32⟩ : BufTy).Contents (Elt F) → (⟨S_, .i32⟩ : BufTy).Contents (Elt F) → (⟨S1024, .i32⟩ : BufTy).Contents (Elt F)),
    unary main_v52 main_v58 (broadcastInDim S1024x1 ![0] bcast_S1024_S1024x1_0 : (⟨S1024, .f32⟩ : BufTy).Contents (Elt F) → (⟨S1024x1, .f32⟩ : BufTy).Contents (Elt F)),
    unary main_v55 main_v59 (broadcastInDim S1024x1 ![0] bcast_S1024_S1024x1_0 : (⟨S1024, .f32⟩ : BufTy).Contents (Elt F) → (⟨S1024x1, .f32⟩ : BufTy).Contents (Elt F)),
    reshape main_v0 main_v60 (rfl : (.f32 : EltTy) = .f32) shapeCasts_S1024x3x3_S1024x9,
    nary ![main_v58, main_v59, main_v60] main_v61 (fun u => (concatenate S1024x11 1 [⟨S1024x1, (u 0 : (⟨S1024x1, .f32⟩ : BufTy).Contents (Elt F))⟩, ⟨S1024x1, (u 1 : (⟨S1024x1, .f32⟩ : BufTy).Contents (Elt F))⟩, ⟨S1024x9, (u 2 : (⟨S1024x9, .f32⟩ : BufTy).Contents (Elt F))⟩] concatenates_S1024x1_S1024x1_S1024x9_S1024x11_d1 : (⟨S1024x11, .f32⟩ : BufTy).Contents (Elt F))) ]

/-- Window A touches the core's own buffers. -/
theorem wA_sub : (wA : List (HloOp τ sig (Elt F))).Forall fun op => op.bufs ⊆ tcRefs τ sig :=
  ⟨unary_bufs_sub .., unary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub ..⟩
/-- Window A makes no buffer. -/
theorem wA_fresh : (wA : List (HloOp τ sig (Elt F))).Forall fun op => op.fresh = ∅ :=
  ⟨rfl, rfl, rfl, rfl, rfl, rfl, rfl, rfl, rfl, rfl, rfl, rfl, rfl, rfl, rfl⟩
/-- What window A does not write it keeps. -/
theorem wA_keeps (V : Valuation τ sig (Elt F)) {r : Ref sig .tc} (hr : r ∉ [main_v0, main_v1, main_v2, main_call0_v0, main_call0_cst, main_call0_v1, main_call0_v2, main_v3, main_cst, main_v4, main_v5, main_v6, main_v7, main_v8, main_v9]) :
    after wA V (Proc.devRef .tc r) = V (Proc.devRef .tc r) :=
  after_of_writes_sub _ V (forall_writes_sub_of_map rfl) hr

/-- Window B touches the core's own buffers. -/
theorem wB_sub : (wB : List (HloOp τ sig (Elt F))).Forall fun op => op.bufs ⊆ tcRefs τ sig :=
  ⟨unary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub ..⟩
/-- Window B makes no buffer. -/
theorem wB_fresh : (wB : List (HloOp τ sig (Elt F))).Forall fun op => op.fresh = ∅ :=
  ⟨rfl, rfl, rfl, rfl, rfl, rfl, rfl, rfl, rfl, rfl, rfl, rfl, rfl⟩
/-- What window B does not write it keeps. -/
theorem wB_keeps (V : Valuation τ sig (Elt F)) {r : Ref sig .tc} (hr : r ∉ [main_v10, main_v11, main_call1_v0, main_call1_cst, main_call1_v1, main_call1_v2, main_v12, main_cst_0, main_v13, main_v14, main_v15, main_v16, main_v17]) :
    after wB V (Proc.devRef .tc r) = V (Proc.devRef .tc r) :=
  after_of_writes_sub _ V (forall_writes_sub_of_map rfl) hr

/-- Window C touches the core's own buffers. -/
theorem wC_sub : (wC : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., unary_bufs_sub ..⟩
/-- Window C makes no buffer. -/
theorem wC_fresh : (wC : List (HloOp τ sig (Elt F))).Forall fun op => op.fresh = ∅ :=
  ⟨rfl, rfl, rfl, rfl, rfl, rfl, rfl, rfl, rfl, rfl⟩
/-- What window C does not write it keeps. -/
theorem wC_keeps (V : Valuation τ sig (Elt F)) {r : Ref sig .tc} (hr : r ∉ [main_v18, main_cst_1, main_cst_2, main_call2_v0, main_call2_v1, main_call2_v2, main_call2_v3, main_call2_v4, main_v19, main_v20]) :
    after wC V (Proc.devRef .tc r) = V (Proc.devRef .tc r) :=
  after_of_writes_sub _ V (forall_writes_sub_of_map rfl) hr

/-- Window D touches the core's own buffers. -/
theorem wD_sub : (wD : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
/-- Window D makes no buffer. -/
theorem wD_fresh : (wD : List (HloOp τ sig (Elt F))).Forall fun op => op.fresh = ∅ :=
  ⟨rfl, rfl, rfl, rfl, rfl, rfl, rfl, rfl, rfl, rfl, rfl, rfl, rfl, rfl, rfl, rfl, rfl⟩
/-- What window D does not write it keeps. -/
theorem wD_keeps (V : Valuation τ sig (Elt F)) {r : Ref sig .tc} (hr : r ∉ [main_v21, main_cst_3, main_v22, main_v23, main_v24, main_cst_4, main_v25, main_v26, main_v27, main_v28, main_v29, main_v30, main_v31, main_cst_5, main_v32, main_v33, main_v34]) :
    after wD V (Proc.devRef .tc r) = V (Proc.devRef .tc r) :=
  after_of_writes_sub _ V (forall_writes_sub_of_map rfl) hr

/-- Window E touches the core's own buffers. -/
theorem wE_sub : (wE : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub ..⟩
/-- Window E makes no buffer. -/
theorem wE_fresh : (wE : List (HloOp τ sig (Elt F))).Forall fun op => op.fresh = ∅ :=
  ⟨rfl, rfl, rfl, rfl, rfl, rfl, rfl, rfl, rfl, rfl⟩
/-- What window E does not write it keeps. -/
theorem wE_keeps (V : Valuation τ sig (Elt F)) {r : Ref sig .tc} (hr : r ∉ [main_cst_6, main_v35, main_v36, main_cst_7, main_v37, main_v38, main_v39, main_cst_8, main_v40, main_v41]) :
    after wE V (Proc.devRef .tc r) = V (Proc.devRef .tc r) :=
  after_of_writes_sub _ V (forall_writes_sub_of_map rfl) hr

/-- Window G touches the core's own buffers. -/
theorem wG_sub : (wG : List (HloOp τ sig (Elt F))).Forall fun op => op.bufs ⊆ tcRefs τ sig :=
  ⟨nullary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub ..⟩
/-- Window G makes no buffer. -/
theorem wG_fresh : (wG : List (HloOp τ sig (Elt F))).Forall fun op => op.fresh = ∅ :=
  ⟨rfl, rfl, rfl, rfl, rfl, rfl, rfl, rfl, rfl, rfl, rfl, rfl, rfl, rfl⟩
/-- What window G does not write it keeps. -/
theorem wG_keeps (V : Valuation τ sig (Elt F)) {r : Ref sig .tc} (hr : r ∉ [main_c, main_v42, main_v43, main_v44, main_v45, main_v46, main_cst_9, main_call3_v0, main_call3_v1, main_v47, main_cst_10, main_call4_v0, main_call4_v1, main_v48]) :
    after wG V (Proc.devRef .tc r) = V (Proc.devRef .tc r) :=
  after_of_writes_sub _ V (forall_writes_sub_of_map rfl) hr

/-- Window H touches the core's own buffers. -/
theorem wH_sub : (wH : List (HloOp τ sig (Elt F))).Forall fun op => op.bufs ⊆ tcRefs τ sig :=
  ⟨nullary_bufs_sub .., nullary_bufs_sub .., nullary_bufs_sub .., quaternary_bufs_sub .., quaternary_bufs_sub ..⟩
/-- Window H makes no buffer. -/
theorem wH_fresh : (wH : List (HloOp τ sig (Elt F))).Forall fun op => op.fresh = ∅ :=
  ⟨rfl, rfl, rfl, rfl, rfl⟩
/-- What window H does not write it keeps. -/
theorem wH_keeps (V : Valuation τ sig (Elt F)) {r : Ref sig .tc} (hr : r ∉ [main_call5_v0, main_call5_cst, main_call5_c, main_call5_v1_0, main_v49]) :
    after wH V (Proc.devRef .tc r) = V (Proc.devRef .tc r) :=
  after_of_writes_sub _ V (forall_writes_sub_of_map rfl) hr

/-- Window I touches the core's own buffers. -/
theorem wI_sub : (wI : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩
/-- Window I makes no buffer. -/
theorem wI_fresh : (wI : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- What window I does not write it keeps. -/
theorem wI_keeps (V : Valuation τ sig (Elt F)) {r : Ref sig .tc} (hr : r ∉ [main_v50, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v51, main_v52]) :
    after wI V (Proc.devRef .tc r) = V (Proc.devRef .tc r) :=
  after_of_writes_sub _ V (forall_writes_sub_of_map rfl) hr

/-- Window J touches the core's own buffers. -/
theorem wJ_sub : (wJ : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩
/-- Window J makes no buffer. -/
theorem wJ_fresh : (wJ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- What window J does not write it keeps. -/
theorem wJ_keeps (V : Valuation τ sig (Elt F)) {r : Ref sig .tc} (hr : r ∉ [main_v53, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v54, main_v55]) :
    after wJ V (Proc.devRef .tc r) = V (Proc.devRef .tc r) :=
  after_of_writes_sub _ V (forall_writes_sub_of_map rfl) hr

/-- Window K touches the core's own buffers. -/
theorem wK_sub : (wK : List (HloOp τ sig (Elt F))).Forall fun op => op.bufs ⊆ tcRefs τ sig :=
  ⟨unary_bufs_sub .., nullary_bufs_sub .., binary_bufs_sub .., unary_bufs_sub .., unary_bufs_sub .., reshape_bufs_sub .., nary_bufs_sub ..⟩
/-- Window K makes no buffer. -/
theorem wK_fresh : (wK : List (HloOp τ sig (Elt F))).Forall fun op => op.fresh = ∅ :=
  ⟨rfl, rfl, rfl, rfl, rfl, rfl, rfl⟩
/-- What window K does not write it keeps. -/
theorem wK_keeps (V : Valuation τ sig (Elt F)) {r : Ref sig .tc} (hr : r ∉ [main_v56, main_c_11, main_v57, main_v58, main_v59, main_v60, main_v61]) :
    after wK V (Proc.devRef .tc r) = V (Proc.devRef .tc r) :=
  after_of_writes_sub _ V (forall_writes_sub_of_map rfl) hr

/-- What window A leaves in `main_v0`. -/
theorem wA_v0 (V : Valuation τ sig (Elt F)) : after wA V (main_v0 : DevRef τ sig) = rot (V (main_arg2 : DevRef τ sig)) := by
  after_results
  rfl
/-- What window A leaves in `main_v7`. -/
theorem wA_v7 (V : Valuation τ sig (Elt F)) : after wA V (main_v7 : DevRef τ sig) = unitT (axisT (V (main_arg2 : DevRef τ sig))) := by
  after_results
  rfl
/-- What window A leaves in `main_v9`. -/
theorem wA_v9 (V : Valuation τ sig (Elt F)) : after wA V (main_v9 : DevRef τ sig) = orgT (V (main_arg2 : DevRef τ sig)) := by
  after_results
  rfl
/-- What window B leaves in `main_v17`. -/
theorem wB_v17 (V : Valuation τ sig (Elt F)) : after wB V (main_v17 : DevRef τ sig) = transpose S3x16384 [1, 0] (unitC (axisC (V (main_arg0 : DevRef τ sig)))) transposes_S16384x3_S3x16384_1_0 := by
  after_results
  rfl
/-- What window C leaves in `main_v20`. -/
theorem wC_v20 (V : Valuation τ sig (Elt F)) : after wC V (main_v20 : DevRef τ sig) = Host.acos (minimumf (broadcastInDim S1024x16384 ![] bcast_S_S1024x16384 (constant S_ .f32 0x3F7FFFEF#32)) (maximumf (broadcastInDim S1024x16384 ![] bcast_S_S1024x16384 (constant S_ .f32 0xBF7FFFEF#32)) (Host.dotGeneral dot_S1024x3_S3x16384_S1024x16384_1_0_0_1_n_n none (V (main_v7 : DevRef τ sig)) (V (main_v17 : DevRef τ sig))))) := by
  after_results
  rfl
/-- What window D leaves in `main_v34`. -/
theorem wD_v34 (V : Valuation τ sig (Elt F)) : after wD V (main_v34 : DevRef τ sig) = squares (V (main_v9 : DevRef τ sig)) (V (main_arg1 : DevRef τ sig)) := by
  after_results
  rfl
/-- What window E leaves in `main_v39`. -/
theorem wE_v39 (V : Valuation τ sig (Elt F)) : after wE V (main_v39 : DevRef τ sig) = dists (V (main_v34 : DevRef τ sig)) := by
  after_results
  rfl
/-- What window E leaves in `main_v41`. -/
theorem wE_v41 (V : Valuation τ sig (Elt F)) : after wE V (main_v41 : DevRef τ sig) = within (dists (V (main_v34 : DevRef τ sig))) := by
  after_results
  rfl
/-- What window G leaves in `main_v47`. -/
theorem wG_v47 (V : Valuation τ sig (Elt F)) : after wG V (main_v47 : DevRef τ sig) = masked (aside (V (main_v41 : DevRef τ sig))) (V (main_v20 : DevRef τ sig)) := by
  after_results
  rfl
/-- What window G leaves in `main_v48`. -/
theorem wG_v48 (V : Valuation τ sig (Elt F)) : after wG V (main_v48 : DevRef τ sig) = masked (aside (V (main_v41 : DevRef τ sig))) (V (main_v39 : DevRef τ sig)) := by
  after_results
  rfl
/-- What window H leaves in `main_v49`. -/
theorem wH_v49 (V : Valuation τ sig (Elt F)) : after wH V (main_v49 : DevRef τ sig) = least (V (main_v47 : DevRef τ sig)) := by
  after_results
  rfl
/-- What window I leaves in `main_v52`. -/
theorem wI_v52 (V : Valuation τ sig (Elt F)) : after wI V (main_v52 : DevRef τ sig) = taken (V (main_v47 : DevRef τ sig)) (V (main_v49 : DevRef τ sig)) := by
  after_results
  rfl
/-- What window J leaves in `main_v55`. -/
theorem wJ_v55 (V : Valuation τ sig (Elt F)) : after wJ V (main_v55 : DevRef τ sig) = taken (V (main_v48 : DevRef τ sig)) (V (main_v49 : DevRef τ sig)) := by
  after_results
  rfl
/-- What window K leaves in `main_v57`. -/
theorem wK_v57 (V : Valuation τ sig (Elt F)) : after wK V (main_v57 : DevRef τ sig) = howMany (V (main_v41 : DevRef τ sig)) := by
  after_results
  rfl
/-- What window K leaves in `main_v61`. -/
theorem wK_v61 (V : Valuation τ sig (Elt F)) : after wK V (main_v61 : DevRef τ sig) = joined (V (main_v52 : DevRef τ sig)) (V (main_v55 : DevRef τ sig)) (V (main_v0 : DevRef τ sig)) := by
  after_results
  rfl

/-- The reference's operations, in order. -/
abbrev ops : List (HloOp τ sig (Elt F)) := wA ++ (wB ++ (wC ++ (wD ++ (wE ++ (wG ++ (wH ++ (wI ++ (wJ ++ (wK)))))))))

set_option maxRecDepth 16384 in
set_option maxHeartbeats 4000000 in
/-- The program is its operations in turn. -/
theorem main_eq (c : Dev nD) : main (F := F) c = seq ops := rfl

/-- The reference has no scoped buffer. -/
theorem scopedRefs_eq : (Finset.univ.filter fun b : Ref sig .tc => b.isScoped) = ∅ := by decide
/-- Nor a scoped semaphore. -/
theorem scopedSems_eq : (Finset.univ.filter fun sm : SemLoc sig => sm.isScoped .tc) = ∅ := by decide
/-- Every operation touches the core's own buffers. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp wA_sub op h, List.forall_iff_forall_mem.mp wB_sub op h, List.forall_iff_forall_mem.mp wC_sub op h, List.forall_iff_forall_mem.mp wD_sub op h, List.forall_iff_forall_mem.mp wE_sub op h, List.forall_iff_forall_mem.mp wG_sub op h, List.forall_iff_forall_mem.mp wH_sub op h, List.forall_iff_forall_mem.mp wI_sub op h, List.forall_iff_forall_mem.mp wJ_sub op h, List.forall_iff_forall_mem.mp wK_sub op h]
/-- No operation makes a buffer. -/
theorem ops_fresh : ∀ op ∈ (ops : List (HloOp τ sig (Elt F))), op.fresh = ∅ :=
  List.forall_iff_forall_mem.mp (List.forall_iff_forall_mem.mpr fun op h => by
    simp only [ops, List.mem_append] at h
    rcases h with h | h | h | h | h | h | h | h | h | h
    exacts [List.forall_iff_forall_mem.mp wA_fresh op h, List.forall_iff_forall_mem.mp wB_fresh op h, List.forall_iff_forall_mem.mp wC_fresh op h, List.forall_iff_forall_mem.mp wD_fresh op h, List.forall_iff_forall_mem.mp wE_fresh op h, List.forall_iff_forall_mem.mp wG_fresh op h, List.forall_iff_forall_mem.mp wH_fresh op h, List.forall_iff_forall_mem.mp wI_fresh op h, List.forall_iff_forall_mem.mp wJ_fresh op h, List.forall_iff_forall_mem.mp wK_fresh op h])

/-! ## What the whole line leaves -/

variable (V : Valuation τ sig (Elt F))

/-- The contents after window A. -/
def VA : Valuation τ sig (Elt F) := after wA V
/-- The contents after window B. -/
def VB : Valuation τ sig (Elt F) := after wB (VA V)
/-- The contents after window C. -/
def VC : Valuation τ sig (Elt F) := after wC (VB V)
/-- The contents after window D. -/
def VD : Valuation τ sig (Elt F) := after wD (VC V)
/-- The contents after window E. -/
def VE : Valuation τ sig (Elt F) := after wE (VD V)
/-- The contents after window G. -/
def VG : Valuation τ sig (Elt F) := after wG (VE V)
/-- The contents after window H. -/
def VH : Valuation τ sig (Elt F) := after wH (VG V)
/-- The contents after window I. -/
def VI : Valuation τ sig (Elt F) := after wI (VH V)
/-- The contents after window J. -/
def VJ : Valuation τ sig (Elt F) := after wJ (VI V)
/-- The contents after window K. -/
def VK : Valuation τ sig (Elt F) := after wK (VJ V)

/-- What all the operations leave. -/
theorem after_ops : after ops V = VK V := by
  simp only [ops, after_append]
  rfl

/-- Angles of the reference. -/
def resT (R : FVec F S16384x3x3 .f32) (P : FVec F S1024x4x4 .f32) : FVec F S1024x16384 .f32 := Host.acos (cosines (unitT (axisT P)) (unitC (axisC R)))
/-- Distances of the reference. -/
def resD (T : FVec F S16384x3 .f32) (P : FVec F S1024x4x4 .f32) : FVec F S1024x16384 .f32 := dists (squares (orgT P) T)
/-- Masked angles. -/
def resTm (R : FVec F S16384x3x3 .f32) (T : FVec F S16384x3 .f32) (P : FVec F S1024x4x4 .f32) : FVec F S1024x16384 .f32 := masked (aside (within (resD T P))) (resT R P)
/-- Masked distances. -/
def resDm (T : FVec F S16384x3 .f32) (P : FVec F S1024x4x4 .f32) : FVec F S1024x16384 .f32 := masked (aside (within (resD T P))) (resD T P)
/-- The chosen places. -/
def resI (R : FVec F S16384x3x3 .f32) (T : FVec F S16384x3 .f32) (P : FVec F S1024x4x4 .f32) : IVec S1024 32 := least (resTm R T P)
/-- The counts. -/
def resN (T : FVec F S16384x3 .f32) (P : FVec F S1024x4x4 .f32) : IVec S1024 32 := howMany (within (resD T P))
/-- The float result. -/
def resO (R : FVec F S16384x3x3 .f32) (T : FVec F S16384x3 .f32) (P : FVec F S1024x4x4 .f32) : FVec F S1024x11 .f32 :=
  joined (taken (resTm R T P) (resI R T P)) (taken (resDm T P) (resI R T P)) (rot P)

/-- The contents of `main_arg0` after window A. -/
theorem VA_arg0 : VA V (main_arg0 : DevRef τ sig) = (V (main_arg0 : DevRef τ sig)) :=
  (wA_keeps V (r := main_arg0) (by decide))
/-- The contents of `main_arg1` after window A. -/
theorem VA_arg1 : VA V (main_arg1 : DevRef τ sig) = (V (main_arg1 : DevRef τ sig)) :=
  (wA_keeps V (r := main_arg1) (by decide))
/-- The contents of `main_arg2` after window A. -/
theorem VA_arg2 : VA V (main_arg2 : DevRef τ sig) = (V (main_arg2 : DevRef τ sig)) :=
  (wA_keeps V (r := main_arg2) (by decide))
/-- The contents of `main_v0` after window A. -/
theorem VA_v0 : VA V (main_v0 : DevRef τ sig) = rot (V (main_arg2 : DevRef τ sig)) := by
  refine (wA_v0 V).trans ?_
  rfl
/-- The contents of `main_v7` after window A. -/
theorem VA_v7 : VA V (main_v7 : DevRef τ sig) = unitT (axisT (V (main_arg2 : DevRef τ sig))) := by
  refine (wA_v7 V).trans ?_
  rfl
/-- The contents of `main_v9` after window A. -/
theorem VA_v9 : VA V (main_v9 : DevRef τ sig) = orgT (V (main_arg2 : DevRef τ sig)) := by
  refine (wA_v9 V).trans ?_
  rfl
/-- The contents of `main_arg0` after window B. -/
theorem VB_arg0 : VB V (main_arg0 : DevRef τ sig) = (V (main_arg0 : DevRef τ sig)) :=
  (wB_keeps (VA V) (r := main_arg0) (by decide)).trans (VA_arg0 V)
/-- The contents of `main_arg1` after window B. -/
theorem VB_arg1 : VB V (main_arg1 : DevRef τ sig) = (V (main_arg1 : DevRef τ sig)) :=
  (wB_keeps (VA V) (r := main_arg1) (by decide)).trans (VA_arg1 V)
/-- The contents of `main_arg2` after window B. -/
theorem VB_arg2 : VB V (main_arg2 : DevRef τ sig) = (V (main_arg2 : DevRef τ sig)) :=
  (wB_keeps (VA V) (r := main_arg2) (by decide)).trans (VA_arg2 V)
/-- The contents of `main_v0` after window B. -/
theorem VB_v0 : VB V (main_v0 : DevRef τ sig) = rot (V (main_arg2 : DevRef τ sig)) :=
  (wB_keeps (VA V) (r := main_v0) (by decide)).trans (VA_v0 V)
/-- The contents of `main_v7` after window B. -/
theorem VB_v7 : VB V (main_v7 : DevRef τ sig) = unitT (axisT (V (main_arg2 : DevRef τ sig))) :=
  (wB_keeps (VA V) (r := main_v7) (by decide)).trans (VA_v7 V)
/-- The contents of `main_v9` after window B. -/
theorem VB_v9 : VB V (main_v9 : DevRef τ sig) = orgT (V (main_arg2 : DevRef τ sig)) :=
  (wB_keeps (VA V) (r := main_v9) (by decide)).trans (VA_v9 V)
/-- The contents of `main_v17` after window B. -/
theorem VB_v17 : VB V (main_v17 : DevRef τ sig) = transpose S3x16384 [1, 0] (unitC (axisC (V (main_arg0 : DevRef τ sig)))) transposes_S16384x3_S3x16384_1_0 := by
  refine (wB_v17 (VA V)).trans ?_
  rw [VA_arg0] <;> rfl
/-- The contents of `main_arg0` after window C. -/
theorem VC_arg0 : VC V (main_arg0 : DevRef τ sig) = (V (main_arg0 : DevRef τ sig)) :=
  (wC_keeps (VB V) (r := main_arg0) (by decide)).trans (VB_arg0 V)
/-- The contents of `main_arg1` after window C. -/
theorem VC_arg1 : VC V (main_arg1 : DevRef τ sig) = (V (main_arg1 : DevRef τ sig)) :=
  (wC_keeps (VB V) (r := main_arg1) (by decide)).trans (VB_arg1 V)
/-- The contents of `main_arg2` after window C. -/
theorem VC_arg2 : VC V (main_arg2 : DevRef τ sig) = (V (main_arg2 : DevRef τ sig)) :=
  (wC_keeps (VB V) (r := main_arg2) (by decide)).trans (VB_arg2 V)
/-- The contents of `main_v0` after window C. -/
theorem VC_v0 : VC V (main_v0 : DevRef τ sig) = rot (V (main_arg2 : DevRef τ sig)) :=
  (wC_keeps (VB V) (r := main_v0) (by decide)).trans (VB_v0 V)
/-- The contents of `main_v9` after window C. -/
theorem VC_v9 : VC V (main_v9 : DevRef τ sig) = orgT (V (main_arg2 : DevRef τ sig)) :=
  (wC_keeps (VB V) (r := main_v9) (by decide)).trans (VB_v9 V)
/-- The contents of `main_v20` after window C. -/
theorem VC_v20 : VC V (main_v20 : DevRef τ sig) = resT (V (main_arg0 : DevRef τ sig)) (V (main_arg2 : DevRef τ sig)) := by
  refine (wC_v20 (VB V)).trans ?_
  rw [VB_v7, VB_v17] <;> rfl
/-- The contents of `main_arg0` after window D. -/
theorem VD_arg0 : VD V (main_arg0 : DevRef τ sig) = (V (main_arg0 : DevRef τ sig)) :=
  (wD_keeps (VC V) (r := main_arg0) (by decide)).trans (VC_arg0 V)
/-- The contents of `main_arg1` after window D. -/
theorem VD_arg1 : VD V (main_arg1 : DevRef τ sig) = (V (main_arg1 : DevRef τ sig)) :=
  (wD_keeps (VC V) (r := main_arg1) (by decide)).trans (VC_arg1 V)
/-- The contents of `main_arg2` after window D. -/
theorem VD_arg2 : VD V (main_arg2 : DevRef τ sig) = (V (main_arg2 : DevRef τ sig)) :=
  (wD_keeps (VC V) (r := main_arg2) (by decide)).trans (VC_arg2 V)
/-- The contents of `main_v0` after window D. -/
theorem VD_v0 : VD V (main_v0 : DevRef τ sig) = rot (V (main_arg2 : DevRef τ sig)) :=
  (wD_keeps (VC V) (r := main_v0) (by decide)).trans (VC_v0 V)
/-- The contents of `main_v20` after window D. -/
theorem VD_v20 : VD V (main_v20 : DevRef τ sig) = resT (V (main_arg0 : DevRef τ sig)) (V (main_arg2 : DevRef τ sig)) :=
  (wD_keeps (VC V) (r := main_v20) (by decide)).trans (VC_v20 V)
/-- The contents of `main_v34` after window D. -/
theorem VD_v34 : VD V (main_v34 : DevRef τ sig) = squares (orgT (V (main_arg2 : DevRef τ sig))) (V (main_arg1 : DevRef τ sig)) := by
  refine (wD_v34 (VC V)).trans ?_
  rw [VC_v9, VC_arg1] <;> rfl
/-- The contents of `main_arg0` after window E. -/
theorem VE_arg0 : VE V (main_arg0 : DevRef τ sig) = (V (main_arg0 : DevRef τ sig)) :=
  (wE_keeps (VD V) (r := main_arg0) (by decide)).trans (VD_arg0 V)
/-- The contents of `main_arg1` after window E. -/
theorem VE_arg1 : VE V (main_arg1 : DevRef τ sig) = (V (main_arg1 : DevRef τ sig)) :=
  (wE_keeps (VD V) (r := main_arg1) (by decide)).trans (VD_arg1 V)
/-- The contents of `main_arg2` after window E. -/
theorem VE_arg2 : VE V (main_arg2 : DevRef τ sig) = (V (main_arg2 : DevRef τ sig)) :=
  (wE_keeps (VD V) (r := main_arg2) (by decide)).trans (VD_arg2 V)
/-- The contents of `main_v0` after window E. -/
theorem VE_v0 : VE V (main_v0 : DevRef τ sig) = rot (V (main_arg2 : DevRef τ sig)) :=
  (wE_keeps (VD V) (r := main_v0) (by decide)).trans (VD_v0 V)
/-- The contents of `main_v20` after window E. -/
theorem VE_v20 : VE V (main_v20 : DevRef τ sig) = resT (V (main_arg0 : DevRef τ sig)) (V (main_arg2 : DevRef τ sig)) :=
  (wE_keeps (VD V) (r := main_v20) (by decide)).trans (VD_v20 V)
/-- The contents of `main_v39` after window E. -/
theorem VE_v39 : VE V (main_v39 : DevRef τ sig) = resD (V (main_arg1 : DevRef τ sig)) (V (main_arg2 : DevRef τ sig)) := by
  refine (wE_v39 (VD V)).trans ?_
  rw [VD_v34] <;> rfl
/-- The contents of `main_v41` after window E. -/
theorem VE_v41 : VE V (main_v41 : DevRef τ sig) = within (resD (V (main_arg1 : DevRef τ sig)) (V (main_arg2 : DevRef τ sig))) := by
  refine (wE_v41 (VD V)).trans ?_
  rw [VD_v34] <;> rfl
/-- The contents of `main_arg0` after window G. -/
theorem VG_arg0 : VG V (main_arg0 : DevRef τ sig) = (V (main_arg0 : DevRef τ sig)) :=
  (wG_keeps (VE V) (r := main_arg0) (by decide)).trans (VE_arg0 V)
/-- The contents of `main_arg1` after window G. -/
theorem VG_arg1 : VG V (main_arg1 : DevRef τ sig) = (V (main_arg1 : DevRef τ sig)) :=
  (wG_keeps (VE V) (r := main_arg1) (by decide)).trans (VE_arg1 V)
/-- The contents of `main_arg2` after window G. -/
theorem VG_arg2 : VG V (main_arg2 : DevRef τ sig) = (V (main_arg2 : DevRef τ sig)) :=
  (wG_keeps (VE V) (r := main_arg2) (by decide)).trans (VE_arg2 V)
/-- The contents of `main_v0` after window G. -/
theorem VG_v0 : VG V (main_v0 : DevRef τ sig) = rot (V (main_arg2 : DevRef τ sig)) :=
  (wG_keeps (VE V) (r := main_v0) (by decide)).trans (VE_v0 V)
/-- The contents of `main_v41` after window G. -/
theorem VG_v41 : VG V (main_v41 : DevRef τ sig) = within (resD (V (main_arg1 : DevRef τ sig)) (V (main_arg2 : DevRef τ sig))) :=
  (wG_keeps (VE V) (r := main_v41) (by decide)).trans (VE_v41 V)
/-- The contents of `main_v47` after window G. -/
theorem VG_v47 : VG V (main_v47 : DevRef τ sig) = resTm (V (main_arg0 : DevRef τ sig)) (V (main_arg1 : DevRef τ sig)) (V (main_arg2 : DevRef τ sig)) := by
  refine (wG_v47 (VE V)).trans ?_
  rw [VE_v41, VE_v20] <;> rfl
/-- The contents of `main_v48` after window G. -/
theorem VG_v48 : VG V (main_v48 : DevRef τ sig) = resDm (V (main_arg1 : DevRef τ sig)) (V (main_arg2 : DevRef τ sig)) := by
  refine (wG_v48 (VE V)).trans ?_
  rw [VE_v41, VE_v39] <;> rfl
/-- The contents of `main_arg0` after window H. -/
theorem VH_arg0 : VH V (main_arg0 : DevRef τ sig) = (V (main_arg0 : DevRef τ sig)) :=
  (wH_keeps (VG V) (r := main_arg0) (by decide)).trans (VG_arg0 V)
/-- The contents of `main_arg1` after window H. -/
theorem VH_arg1 : VH V (main_arg1 : DevRef τ sig) = (V (main_arg1 : DevRef τ sig)) :=
  (wH_keeps (VG V) (r := main_arg1) (by decide)).trans (VG_arg1 V)
/-- The contents of `main_arg2` after window H. -/
theorem VH_arg2 : VH V (main_arg2 : DevRef τ sig) = (V (main_arg2 : DevRef τ sig)) :=
  (wH_keeps (VG V) (r := main_arg2) (by decide)).trans (VG_arg2 V)
/-- The contents of `main_v0` after window H. -/
theorem VH_v0 : VH V (main_v0 : DevRef τ sig) = rot (V (main_arg2 : DevRef τ sig)) :=
  (wH_keeps (VG V) (r := main_v0) (by decide)).trans (VG_v0 V)
/-- The contents of `main_v41` after window H. -/
theorem VH_v41 : VH V (main_v41 : DevRef τ sig) = within (resD (V (main_arg1 : DevRef τ sig)) (V (main_arg2 : DevRef τ sig))) :=
  (wH_keeps (VG V) (r := main_v41) (by decide)).trans (VG_v41 V)
/-- The contents of `main_v47` after window H. -/
theorem VH_v47 : VH V (main_v47 : DevRef τ sig) = resTm (V (main_arg0 : DevRef τ sig)) (V (main_arg1 : DevRef τ sig)) (V (main_arg2 : DevRef τ sig)) :=
  (wH_keeps (VG V) (r := main_v47) (by decide)).trans (VG_v47 V)
/-- The contents of `main_v48` after window H. -/
theorem VH_v48 : VH V (main_v48 : DevRef τ sig) = resDm (V (main_arg1 : DevRef τ sig)) (V (main_arg2 : DevRef τ sig)) :=
  (wH_keeps (VG V) (r := main_v48) (by decide)).trans (VG_v48 V)
/-- The contents of `main_v49` after window H. -/
theorem VH_v49 : VH V (main_v49 : DevRef τ sig) = resI (V (main_arg0 : DevRef τ sig)) (V (main_arg1 : DevRef τ sig)) (V (main_arg2 : DevRef τ sig)) := by
  refine (wH_v49 (VG V)).trans ?_
  rw [VG_v47] <;> rfl
/-- The contents of `main_arg0` after window I. -/
theorem VI_arg0 : VI V (main_arg0 : DevRef τ sig) = (V (main_arg0 : DevRef τ sig)) :=
  (wI_keeps (VH V) (r := main_arg0) (by decide)).trans (VH_arg0 V)
/-- The contents of `main_arg1` after window I. -/
theorem VI_arg1 : VI V (main_arg1 : DevRef τ sig) = (V (main_arg1 : DevRef τ sig)) :=
  (wI_keeps (VH V) (r := main_arg1) (by decide)).trans (VH_arg1 V)
/-- The contents of `main_arg2` after window I. -/
theorem VI_arg2 : VI V (main_arg2 : DevRef τ sig) = (V (main_arg2 : DevRef τ sig)) :=
  (wI_keeps (VH V) (r := main_arg2) (by decide)).trans (VH_arg2 V)
/-- The contents of `main_v0` after window I. -/
theorem VI_v0 : VI V (main_v0 : DevRef τ sig) = rot (V (main_arg2 : DevRef τ sig)) :=
  (wI_keeps (VH V) (r := main_v0) (by decide)).trans (VH_v0 V)
/-- The contents of `main_v41` after window I. -/
theorem VI_v41 : VI V (main_v41 : DevRef τ sig) = within (resD (V (main_arg1 : DevRef τ sig)) (V (main_arg2 : DevRef τ sig))) :=
  (wI_keeps (VH V) (r := main_v41) (by decide)).trans (VH_v41 V)
/-- The contents of `main_v48` after window I. -/
theorem VI_v48 : VI V (main_v48 : DevRef τ sig) = resDm (V (main_arg1 : DevRef τ sig)) (V (main_arg2 : DevRef τ sig)) :=
  (wI_keeps (VH V) (r := main_v48) (by decide)).trans (VH_v48 V)
/-- The contents of `main_v49` after window I. -/
theorem VI_v49 : VI V (main_v49 : DevRef τ sig) = resI (V (main_arg0 : DevRef τ sig)) (V (main_arg1 : DevRef τ sig)) (V (main_arg2 : DevRef τ sig)) :=
  (wI_keeps (VH V) (r := main_v49) (by decide)).trans (VH_v49 V)
/-- The contents of `main_v52` after window I. -/
theorem VI_v52 : VI V (main_v52 : DevRef τ sig) = taken (resTm (V (main_arg0 : DevRef τ sig)) (V (main_arg1 : DevRef τ sig)) (V (main_arg2 : DevRef τ sig))) (resI (V (main_arg0 : DevRef τ sig)) (V (main_arg1 : DevRef τ sig)) (V (main_arg2 : DevRef τ sig))) := by
  refine (wI_v52 (VH V)).trans ?_
  rw [VH_v47, VH_v49] <;> rfl
/-- The contents of `main_arg0` after window J. -/
theorem VJ_arg0 : VJ V (main_arg0 : DevRef τ sig) = (V (main_arg0 : DevRef τ sig)) :=
  (wJ_keeps (VI V) (r := main_arg0) (by decide)).trans (VI_arg0 V)
/-- The contents of `main_arg1` after window J. -/
theorem VJ_arg1 : VJ V (main_arg1 : DevRef τ sig) = (V (main_arg1 : DevRef τ sig)) :=
  (wJ_keeps (VI V) (r := main_arg1) (by decide)).trans (VI_arg1 V)
/-- The contents of `main_arg2` after window J. -/
theorem VJ_arg2 : VJ V (main_arg2 : DevRef τ sig) = (V (main_arg2 : DevRef τ sig)) :=
  (wJ_keeps (VI V) (r := main_arg2) (by decide)).trans (VI_arg2 V)
/-- The contents of `main_v0` after window J. -/
theorem VJ_v0 : VJ V (main_v0 : DevRef τ sig) = rot (V (main_arg2 : DevRef τ sig)) :=
  (wJ_keeps (VI V) (r := main_v0) (by decide)).trans (VI_v0 V)
/-- The contents of `main_v41` after window J. -/
theorem VJ_v41 : VJ V (main_v41 : DevRef τ sig) = within (resD (V (main_arg1 : DevRef τ sig)) (V (main_arg2 : DevRef τ sig))) :=
  (wJ_keeps (VI V) (r := main_v41) (by decide)).trans (VI_v41 V)
/-- The contents of `main_v49` after window J. -/
theorem VJ_v49 : VJ V (main_v49 : DevRef τ sig) = resI (V (main_arg0 : DevRef τ sig)) (V (main_arg1 : DevRef τ sig)) (V (main_arg2 : DevRef τ sig)) :=
  (wJ_keeps (VI V) (r := main_v49) (by decide)).trans (VI_v49 V)
/-- The contents of `main_v52` after window J. -/
theorem VJ_v52 : VJ V (main_v52 : DevRef τ sig) = taken (resTm (V (main_arg0 : DevRef τ sig)) (V (main_arg1 : DevRef τ sig)) (V (main_arg2 : DevRef τ sig))) (resI (V (main_arg0 : DevRef τ sig)) (V (main_arg1 : DevRef τ sig)) (V (main_arg2 : DevRef τ sig))) :=
  (wJ_keeps (VI V) (r := main_v52) (by decide)).trans (VI_v52 V)
/-- The contents of `main_v55` after window J. -/
theorem VJ_v55 : VJ V (main_v55 : DevRef τ sig) = taken (resDm (V (main_arg1 : DevRef τ sig)) (V (main_arg2 : DevRef τ sig))) (resI (V (main_arg0 : DevRef τ sig)) (V (main_arg1 : DevRef τ sig)) (V (main_arg2 : DevRef τ sig))) := by
  refine (wJ_v55 (VI V)).trans ?_
  rw [VI_v48, VI_v49] <;> rfl
/-- The contents of `main_arg0` after window K. -/
theorem VK_arg0 : VK V (main_arg0 : DevRef τ sig) = (V (main_arg0 : DevRef τ sig)) :=
  (wK_keeps (VJ V) (r := main_arg0) (by decide)).trans (VJ_arg0 V)
/-- The contents of `main_arg1` after window K. -/
theorem VK_arg1 : VK V (main_arg1 : DevRef τ sig) = (V (main_arg1 : DevRef τ sig)) :=
  (wK_keeps (VJ V) (r := main_arg1) (by decide)).trans (VJ_arg1 V)
/-- The contents of `main_arg2` after window K. -/
theorem VK_arg2 : VK V (main_arg2 : DevRef τ sig) = (V (main_arg2 : DevRef τ sig)) :=
  (wK_keeps (VJ V) (r := main_arg2) (by decide)).trans (VJ_arg2 V)
/-- The contents of `main_v49` after window K. -/
theorem VK_v49 : VK V (main_v49 : DevRef τ sig) = resI (V (main_arg0 : DevRef τ sig)) (V (main_arg1 : DevRef τ sig)) (V (main_arg2 : DevRef τ sig)) :=
  (wK_keeps (VJ V) (r := main_v49) (by decide)).trans (VJ_v49 V)
/-- The contents of `main_v57` after window K. -/
theorem VK_v57 : VK V (main_v57 : DevRef τ sig) = resN (V (main_arg1 : DevRef τ sig)) (V (main_arg2 : DevRef τ sig)) := by
  refine (wK_v57 (VJ V)).trans ?_
  rw [VJ_v41] <;> rfl
/-- The contents of `main_v61` after window K. -/
theorem VK_v61 : VK V (main_v61 : DevRef τ sig) = resO (V (main_arg0 : DevRef τ sig)) (V (main_arg1 : DevRef τ sig)) (V (main_arg2 : DevRef τ sig)) := by
  refine (wK_v61 (VJ V)).trans ?_
  rw [VJ_v52, VJ_v55, VJ_v0] <;> rfl

/-- The reference's run: it ends with its three results and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = resO (m ((c.tc : Thread nD τ).loc main_arg0)) (m ((c.tc : Thread nD τ).loc main_arg1)) (m ((c.tc : Thread nD τ).loc main_arg2))
      ∧ r.2.mem ((c.tc : Thread nD τ).loc main_v49) = resI (m ((c.tc : Thread nD τ).loc main_arg0)) (m ((c.tc : Thread nD τ).loc main_arg1)) (m ((c.tc : Thread nD τ).loc main_arg2))
      ∧ r.2.mem ((c.tc : Thread nD τ).loc main_v57) = resN (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_)
    (run_seq scopedRefs_eq scopedSems_eq defs main (fun _ => ops) main_eq (fun _ => ops_sub) m ρ (fun _ => ops_fresh))
  have hb := h c
  simp only [after_ops] at hb
  exact ⟨(hb main_v61).trans (VK_v61 _), (hb main_v49).trans (VK_v49 _), (hb main_v57).trans (VK_v57 _),
    (hb main_arg0).trans (VK_arg0 _), (hb main_arg1).trans (VK_arg1 _), (hb main_arg2).trans (VK_arg2 _)⟩

end Cert.Proof.Ref

end
-- ==== Proof.Own.Frames.lean ====
module

public import proofs.«01_k».proof.Defs
public import proofs.«01_k».proof.Proof.Own.Launched
public import proofs.«01_k».proof.Proof.Own.RefRun
public import proofs.«01_k».proof.Proof.Gen.Kernel
public import Idealize.ShloMosaic.Lib.Quiescent

@[expose] public section

noncomputable section

namespace Cert.Proof

open Idealize.ShloMosaic Idealize.ShloMosaic.TcCoe Idealize.SL.Sem

/-- At the words of the machine a named constant is its printed word. -/
instance namedWords : Named Bits where
  named _ _ {φ} bits := FloatOps.ofBits φ bits

/-- The idealized kernel's frame, over any floats. -/
theorem frameOver {F : FTy → Type} [FloatOps F] [Named F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run (Cert.KernelIdeal.defs (F := F)) _ _).mono (fun _ h => ⟨fun c =>
    ⟨(h.1 c Cert.KernelIdeal.main_arg0 rfl).trans (Cert.KernelIdeal.Gen.V4_main_arg0 m (outs m) c),
      (h.1 c Cert.KernelIdeal.main_arg1 rfl).trans (Cert.KernelIdeal.Gen.V4_main_arg1 m (outs m) c),
      (h.1 c Cert.KernelIdeal.main_arg2 rfl).trans (Cert.KernelIdeal.Gen.V4_main_arg2 m (outs m) c)⟩, h.2⟩) (run m g)

/-- The idealized kernel's frame. -/
theorem frameIdeal : Cert.quiescent_KernelIdeal (hKernelIdeal := Cert.KernelIdeal.Gen.facts) := fun m g _ => frameOver m g

/-- The reference's frame. -/
theorem frameRef : Cert.quiescent_ReferenceIdeal (hReferenceIdeal := Cert.ReferenceIdeal.Gen.facts) := fun m g _ =>
  (θ_run (Cert.ReferenceIdeal.defs (F := Ideal)) _ _).mono (fun r h => ⟨fun c => (h c).2.2.2, sem_eq_zero_of_no_sems (by decide) r.2⟩)
    (Ref.run (F := Ideal) m g)

/-- The named threshold, where the kernel has its float word, is the one change. -/
theorem preserved : Cert.preserves_Kernel_KernelIdeal :=
  IdealRules.named_const.statement Cert.KernelIdeal.κ "q_thresh" .f32 0x3F23D70B#32 ((1475739569874923725 / 2305843009213693952 : ℝ) : EReal) rfl

/-- The main body is one and the same program at the machine's words. -/
theorem mainBody : @Kernel.cc1__main_kernel Bits _ Kernel.Gen.facts = @KernelIdeal.cc1__main_kernel Bits _ _ KernelIdeal.Gen.facts := rfl

/-- So is the preparing body. -/
theorem prepBody : @Kernel.cc0__prep_kernel Bits _ Kernel.Gen.facts = @KernelIdeal.cc0__prep_kernel Bits _ KernelIdeal.Gen.facts := rfl

/-- The two programs' tables of bodies agree at the machine's words. -/
theorem sameBodies : @Kernel.defs₀ Bits _ Kernel.Gen.facts = @KernelIdeal.defs₀ Bits _ _ KernelIdeal.Gen.facts := by
  unfold Kernel.defs₀ KernelIdeal.defs₀
  refine congrArg Defs.onTc ?_
  funext l a
  match l, a with
  | ⟨0, _⟩, (t, s) => exact congrFun (congrFun (congrFun (congrFun (congrFun (congrFun (congrFun (congrFun prepBody _) _) _) _) _) _) _) _
  | ⟨1, _⟩, (t, s) =>
    show Kernel.cc1__main_kernel _ _ _ _ _ _ _ _ _ _ _ _ _ _ _ _ _ = _
    rw [mainBody]
    rfl
  | ⟨n + 2, h⟩, _ => exact absurd h (Nat.not_lt.2 (Nat.le_add_left 2 n))

/-- And so do the tables with the pipelines. -/
theorem sameDefs : @Kernel.defs Bits _ Kernel.Gen.facts = @KernelIdeal.defs Bits _ _ KernelIdeal.Gen.facts :=
  congrArg (fun d => Pipeline.defs (KernelIdeal.pcfgs (F := Bits)) d) sameBodies

/-- The kernel's own frame: its program is the idealized one read at the machine's words. -/
theorem frameKernel : Cert.quiescent_Kernel (hKernel := Cert.Kernel.Gen.facts) := fun m g _ => by
  have h := frameOver (F := Bits) m g
  rw [← sameDefs] at h
  exact h

end Cert.Proof

end
-- ==== Proof.Own.Sweep.lean ====
module

public import proofs.«01_k».proof.Proof.Own.Data
public import Idealize.ShloMosaic.Lib.Pipeline.Value
public import Idealize.ShloMosaic.Lib.ValueIdx

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-! ## The sweep over the candidates, as a recursion over chunks of 128 columns

A chunk's step takes the running maximum, its column, its squared distance and the count, lane by lane. -/

/-- Columns `128 r …` of a table. -/
def win (C : S128x16384.Idx → F .f32) (r : ℕ) : FVec F S128x128 .f32 := fun y => C (ix2 (y 0) (Fin.ofNat 16384 (128 * r + (y 1).val)))
/-- Columns `128 r …` of the row of squared lengths. -/
def rowWin (X : S4x16384.Idx → F .f32) (r : ℕ) : FVec F S1x128 .f32 := fun y => X (ix2 3 (Fin.ofNat 16384 (128 * r + (y 1).val)))
/-- Columns `1024 k …` of the directions. -/
def blkX0 (X : S3x16384.Idx → F .f32) (k : ℕ) : FVec F S3x1024 .f32 := fun y => X (ix2 (y 0) (Fin.ofNat 16384 (1024 * k + (y 1).val)))
/-- Columns `1024 k …` of the origins. -/
def blkX1 (X : S4x16384.Idx → F .f32) (k : ℕ) : FVec F S3x1024 .f32 := fun y => X (ix2 ((y 0 : Fin 3).castLE (by decide : 3 ≤ 4)) (Fin.ofNat 16384 (1024 * k + (y 1).val)))
/-- The table of products, block by block. -/
def table (a : FVec F S128x3 .f32) (B : ℕ → FVec F S3x1024 .f32) : S128x16384.Idx → F .f32 := fun y =>
  matmul dot_S128x3_S3x1024_S128x1024_1_0_0_1_n_n none a (B ((y 1).val / 1024)) (constant S128x1024 .f32 0x00000000#32)
    (ix2 (y 0) ⟨(y 1).val % 1024, Nat.mod_lt _ (by decide)⟩)

/-- The clipped cosine. -/
def clip (x : FVec F S128x128 .f32) : FVec F S128x128 .f32 :=
  minimumf (broadcast S128x128 (Scalar.ofBits .f32 0x3F7FFFEF#32)) (maximumf (broadcast S128x128 (Scalar.ofBits .f32 0xBF7FFFEF#32)) x)
/-- The squared distance from its three parts. -/
def sqd (o2 : FVec F S128x1 .f32) (row : FVec F S1x128 .f32) (x : FVec F S128x128 .f32) : FVec F S128x128 .f32 :=
  subf (addf (broadcastTo S128x128 o2 broadcasts_S128x1_S128x128)
      (broadcastTo S128x128 (shapeCast S1x128 row shapeCasts_S1x128_S1x128) broadcasts_S1x128_S128x128))
    (mulf (broadcast S128x128 (Scalar.ofBits .f32 0x40000000#32)) x)
/-- Whether it is within the radius. -/
def near (q : FVec F S128x128 .f32) : IVec S128x128 1 := cmpf .ole q (broadcast S128x128 (Named.named κ "q_thresh" 0x3F23D70B#32))
/-- The cosine, or minus three outside the radius. -/
def eff (q x : FVec F S128x128 .f32) : FVec F S128x128 .f32 := select (near q) (clip x) (broadcast S128x128 (Scalar.ofBits .f32 0xC0400000#32))
/-- Where the running maximum beats way. -/
def beats (m e : FVec F S128x128 .f32) : IVec S128x128 1 := cmpf .ogt e m

/-- What the sweep reads. -/
structure Reads (F : FTy → Type) where
  o2 : FVec F S128x1 .f32
  X1 : S4x16384.Idx → F .f32
  C : S128x16384.Idx → F .f32
  Q : S128x16384.Idx → F .f32

variable (K : Reads F)

/-- The squared distances of chunk `r`. -/
def qCh (r : ℕ) : FVec F S128x128 .f32 := sqd K.o2 (rowWin K.X1 r) (win K.Q r)
/-- The values the maximum of chunk `r` runs over. -/
def eCh (r : ℕ) : FVec F S128x128 .f32 := eff (qCh K r) (win K.C r)

/-- The counts after `r` chunks. -/
def nSt : ℕ → IVec S128x128 32
  | 0 => broadcast S128x128 0#32
  | r + 1 => addi (nSt r) (select (near (qCh K r)) (broadcast S128x128 1#32) (broadcast S128x128 0#32))
/-- The maximum after `r` chunks. -/
def mSt : ℕ → FVec F S128x128 .f32
  | 0 => broadcast S128x128 (Scalar.ofBits .f32 0xC0800000#32)
  | r + 1 => select (beats (mSt r) (eCh K r)) (eCh K r) (mSt r)
/-- Its column. -/
def iSt : ℕ → IVec S128x128 32
  | 0 => broadcast S128x128 16384#32
  | r + 1 => select (beats (mSt K r) (eCh K r)) (addi (iota .tc S128x128 32 [1] iota_S128x128_d1_w32) (broadcast S128x128 (Scalar.muli (BitVec.ofNat 32 r) 128#32))) (iSt r)
/-- Its squared distance. -/
def qSt : ℕ → FVec F S128x128 .f32
  | 0 => broadcast S128x128 (Scalar.ofBits .f32 0x00000000#32)
  | r + 1 => select (beats (mSt K r) (eCh K r)) (qCh K r) (qSt r)

/-- The four running values are the recursion's after `r` chunks. -/
structure At (r : ℕ) (m : FVec F S128x128 .f32) (i : IVec S128x128 32) (q : FVec F S128x128 .f32) (n : IVec S128x128 32) : Prop where
  hm : m = mSt K r
  hi : i = iSt K r
  hq : q = qSt K r
  hn : n = nSt K r

/-- One chunk further. -/
theorem At.next {K : Reads F} {r : ℕ} {m : FVec F S128x128 .f32} {i : IVec S128x128 32} {q : FVec F S128x128 .f32} {n : IVec S128x128 32} (h : At K r m i q n)
    {cs qs : FVec F S128x128 .f32} {row : FVec F S1x128 .f32} (hc : cs = win K.C r) (hrow : row = rowWin K.X1 r) (hqs : qs = win K.Q r) :
    At K (r + 1) (select (beats m (eff (sqd K.o2 row qs) cs)) (eff (sqd K.o2 row qs) cs) m)
      (select (beats m (eff (sqd K.o2 row qs) cs)) (addi (iota .tc S128x128 32 [1] iota_S128x128_d1_w32) (broadcast S128x128 (Scalar.muli (BitVec.ofNat 32 r) 128#32))) i)
      (select (beats m (eff (sqd K.o2 row qs) cs)) (sqd K.o2 row qs) q)
      (addi n (select (near (sqd K.o2 row qs)) (broadcast S128x128 1#32) (broadcast S128x128 0#32))) := by
  obtain ⟨rfl, rfl, rfl, rfl⟩ := h
  subst hc; subst hrow; subst hqs
  exact ⟨rfl, rfl, rfl, rfl⟩

/-! ## Loads -/

/-- A chunk of the squared lengths lies within its table. -/
theorem inbRow (r : ℕ) (hr : 128 * r + 128 ≤ 16384) : ∀ a, (![3, 128 * r] : Fin 2 → ℕ) a + S1x128.size a ≤ S4x16384.size a := fun a =>
  match a with
  | ⟨0, _⟩ => (by decide : 3 + 1 ≤ 4)
  | ⟨1, _⟩ => hr
/-- A chunk lies within its table. -/
theorem inbWin (r : ℕ) (hr : 128 * r + 128 ≤ 16384) : ∀ a, (![0, 128 * r] : Fin 2 → ℕ) a + S128x128.size a ≤ S128x16384.size a := fun a =>
  match a with
  | ⟨0, _⟩ => (by decide : 0 + 128 ≤ 128)
  | ⟨1, _⟩ => hr
/-- A block of directions lies within its table. -/
theorem inbDir (k : ℕ) (hk : 1024 * k + 1024 ≤ 16384) : ∀ a, (![0, 1024 * k] : Fin 2 → ℕ) a + S3x1024.size a ≤ S3x16384.size a := fun a =>
  match a with
  | ⟨0, _⟩ => (by decide : 0 + 3 ≤ 3)
  | ⟨1, _⟩ => hk
/-- A block of origins lies within its table. -/
theorem inbOrg (k : ℕ) (hk : 1024 * k + 1024 ≤ 16384) : ∀ a, (![0, 1024 * k] : Fin 2 → ℕ) a + S3x1024.size a ≤ S4x16384.size a := fun a =>
  match a with
  | ⟨0, _⟩ => (by decide : 0 + 3 ≤ 4)
  | ⟨1, _⟩ => hk
/-- A stored block lies within its table. -/
theorem inbPiece (k : ℕ) (hk : 1024 * k + 1024 ≤ 16384) : ∀ a, (![0, 1024 * k] : Fin 2 → ℕ) a + S128x1024.size a ≤ S128x16384.size a := fun a =>
  match a with
  | ⟨0, _⟩ => (by decide : 0 + 128 ≤ 128)
  | ⟨1, _⟩ => hk

/-- A load of a chunk of the row of squared lengths. -/
theorem row_eq {c : Dev nD} (M2 : Memref sig .tc .vmem S4x16384 .f32) (f2 : Bf F c M2) (r : ℕ) (hr : 128 * r + 128 ≤ 16384) :
    View.readAt (Elt F) M2.view (Rect.unit (s := S4x16384) ![3, 128 * r] S1x128.size (inbRow r hr)).toLoadRect f2 = rowWin (M2.view.read (Elt F) f2) r := by
  funext y
  rw [View.readAt_apply]
  unfold rowWin
  congr 1
  funext a
  apply Fin.ext
  have h1 : (y 1).val < 128 := (y 1).isLt
  have h0 : (y 0).val < 1 := (y 0).isLt
  match a with
  | ⟨0, _⟩ => show 3 + 1 * (y 0).val = 3; omega
  | ⟨1, _⟩ => show 128 * r + 1 * (y 1).val = (128 * r + (y 1).val) % 16384; omega

/-- A load of a block of directions. -/
theorem blk0_eq {c : Dev nD} (M1 : Memref sig .tc .vmem S3x16384 .f32) (f1 : Bf F c M1) (k : ℕ) (hk : 1024 * k + 1024 ≤ 16384) :
    View.readAt (Elt F) M1.view (Rect.unit (s := S3x16384) ![0, 1024 * k] S3x1024.size (inbDir k hk)).toLoadRect f1 = blkX0 (M1.view.read (Elt F) f1) k := by
  funext y
  rw [View.readAt_apply]
  unfold blkX0
  congr 1
  funext a
  apply Fin.ext
  have h1 : (y 1).val < 1024 := (y 1).isLt
  match a with
  | ⟨0, _⟩ => show 0 + 1 * (y 0).val = (y 0).val; omega
  | ⟨1, _⟩ => show 1024 * k + 1 * (y 1).val = (1024 * k + (y 1).val) % 16384; omega

/-- A load of a block of origins. -/
theorem blk1_eq {c : Dev nD} (M2 : Memref sig .tc .vmem S4x16384 .f32) (f2 : Bf F c M2) (k : ℕ) (hk : 1024 * k + 1024 ≤ 16384) :
    View.readAt (Elt F) M2.view (Rect.unit (s := S4x16384) ![0, 1024 * k] S3x1024.size (inbOrg k hk)).toLoadRect f2 = blkX1 (M2.view.read (Elt F) f2) k := by
  funext y
  rw [View.readAt_apply]
  unfold blkX1
  congr 1
  funext a
  apply Fin.ext
  have h1 : (y 1).val < 1024 := (y 1).isLt
  match a with
  | ⟨0, _⟩ => show 0 + 1 * (y 0).val = (y 0).val; omega
  | ⟨1, _⟩ => show 1024 * k + 1 * (y 1).val = (1024 * k + (y 1).val) % 16384; omega

/-- The stored pieces of a table: each is a block of it, and together they are its first `1024 k` columns. -/
structure Stored (C : S128x16384.Idx → F .f32) (k : ℕ) (L : List (View.Piece (Elt F) S128x16384 .f32)) : Prop where
  pieces : ∀ p ∈ L, ∀ x : p.1.shape.Idx, p.2 x = C (p.1.emb x)
  cover : ∀ y : S128x16384.Idx, (y 1).val < 1024 * k → ∃ p ∈ L, y ∈ p.1.set

/-- Nothing is stored at first. -/
theorem Stored.nil (C : S128x16384.Idx → F .f32) : Stored C 0 [] :=
  ⟨fun _ hp => absurd hp List.not_mem_nil, fun y hy => absurd hy (by omega)⟩

/-- One more block stored. -/
theorem Stored.more {a : FVec F S128x3 .f32} {B : ℕ → FVec F S3x1024 .f32} {k : ℕ} {L : List (View.Piece (Elt F) S128x16384 .f32)} (h : Stored (table a B) k L)
    (hk : 1024 * k + 1024 ≤ 16384) {b : FVec F S3x1024 .f32} (hb : b = B k) :
    Stored (table a B) (k + 1) (⟨Rect.unit (s := S128x16384) ![0, 1024 * k] S128x1024.size (inbPiece k hk),
      shapeCast S128x1024 (matmul dot_S128x3_S3x1024_S128x1024_1_0_0_1_n_n none a (shapeCast S3x1024 b shapeCasts_S3x1024_S3x1024) (constant S128x1024 .f32 0x00000000#32)) shapeCasts_S128x1024_S128x1024⟩ :: L) := by
  subst hb
  rw [shapeCast_self, shapeCast_self]
  refine ⟨fun p hp => ?_, fun y hy => ?_⟩
  · rcases List.mem_cons.mp hp with rfl | hp
    · intro x
      have h1 : (x 1).val < 1024 := (x 1).isLt
      have e1 : (((Rect.unit (s := S128x16384) ![0, 1024 * k] S128x1024.size (inbPiece k hk)).emb x) 1).val = 1024 * k + (x 1).val := by
        show 1024 * k + 1 * (x 1).val = _; omega
      have e0 : (((Rect.unit (s := S128x16384) ![0, 1024 * k] S128x1024.size (inbPiece k hk)).emb x) 0).val = (x 0).val := by
        show 0 + 1 * (x 0).val = _; omega
      unfold table
      have hd : (1024 * k + (x 1).val) / 1024 = k := by omega
      have hm : (1024 * k + (x 1).val) % 1024 = (x 1).val := by omega
      rw [show ((((Rect.unit (s := S128x16384) ![0, 1024 * k] S128x1024.size (inbPiece k hk)).emb x) 1).val) / 1024 = k by rw [e1, hd]]
      refine congrArg (matmul dot_S128x3_S3x1024_S128x1024_1_0_0_1_n_n none a (B k) (constant S128x1024 .f32 0x00000000#32)) (funext fun d => Fin.ext ?_)
      match d with
      | ⟨0, _⟩ => exact e0.symm
      | ⟨1, _⟩ => exact (hm.symm.trans (congrArg (· % 1024) e1.symm))
    · exact h.pieces p hp
  · by_cases hlt : (y 1).val < 1024 * k
    · obtain ⟨p, hp, hy'⟩ := h.cover y hlt
      exact ⟨p, List.mem_cons_of_mem _ hp, hy'⟩
    · refine ⟨_, List.mem_cons_self, ?_⟩
      rw [Rect.mem_set_unit]
      intro a
      have h0 : (y 0).val < 128 := (y 0).isLt
      match a with
      | ⟨0, _⟩ => exact ⟨Nat.zero_le _, by show (y 0).val < 0 + 128; omega⟩
      | ⟨1, _⟩ => exact ⟨by show 1024 * k ≤ (y 1).val; omega, by show (y 1).val < 1024 * k + 1024; omega⟩

/-- A load of a chunk of columns that are stored. -/
theorem Stored.load {C : S128x16384.Idx → F .f32} {k : ℕ} {L : List (View.Piece (Elt F) S128x16384 .f32)} (h : Stored C k L)
    (M : Memref sig .tc .vmem S128x16384 .f32) (r : ℕ) (hr : 128 * r + 128 ≤ 1024 * k) (hk : 1024 * k ≤ 16384) :
    M.view.readCov L (Rect.unit (s := S128x16384) ![0, 128 * r] S128x128.size (inbWin r (hr.trans hk))).toLoadRect = win C r := by
  rw [View.readCov_eq_canon']
  funext y
  have h1 : (y 1).val < 128 := (y 1).isLt
  have e1 : (((Rect.unit (s := S128x16384) ![0, 128 * r] S128x128.size (inbWin r (hr.trans hk))).toLoadRect.idx y) 1).val = 128 * r + (y 1).val := by
    show 128 * r + 1 * (y 1).val = _; omega
  rw [View.canon_apply_of_pieces C L h.pieces _ (h.cover _ (by rw [e1]; omega))]
  unfold win
  congr 1
  funext a
  apply Fin.ext
  match a with
  | ⟨0, _⟩ => show 0 + 1 * (y 0).val = (y 0).val; omega
  | ⟨1, _⟩ => show 128 * r + 1 * (y 1).val = (128 * r + (y 1).val) % 16384; omega

/-! ## After the sweep -/

/-- A row's greatest entry. -/
def maxOf (x : FVec F S128x128 .f32) : FVec F S128x1 .f32 :=
  shapeCast S128x1 (multiReduction .maximumf [1] S128 x 0xFF800000#32 reduces_S128x128_S128 (.inl rfl) rfl) shapeCasts_S128_S128x1
/-- A row's least word. -/
def minOf (i : IVec S128x128 32) : IVec S128x1 32 :=
  shapeCast S128x1 (multiReductionI .minsi [1] S128 i 2147483647#32 reduces_S128x128_S128 rfl) shapeCasts_S128_S128x1
/-- A row's count. -/
def cntOf (n : IVec S128x128 32) : IVec S128x1 32 :=
  shapeCast S128x1 (multiReductionI .add [1] S128 n 0#32 reduces_S128x128_S128 rfl) shapeCasts_S128_S128x1
/-- The first column that attains a row's maximum. -/
def pick (m : FVec F S128x128 .f32) (i : IVec S128x128 32) : IVec S128x1 32 :=
  minOf (select (cmpf .oeq m (broadcastTo S128x128 (maxOf m) broadcasts_S128x1_S128x128)) i (broadcast S128x128 16384#32))
/-- The squared distance kept beside a column. -/
def quo (i : IVec S128x128 32) (ix : IVec S128x1 32) (q : FVec F S128x128 .f32) : FVec F S128x1 .f32 :=
  maxOf (select (cmpi .eq i (broadcastTo S128x128 ix broadcasts_S128x1_S128x128)) q (broadcast S128x128 (Scalar.ofBits .f32 0xBF800000#32)))
/-- The angle of a cosine. -/
def angle (m : FVec F S128x1 .f32) : FVec F S128x1 .f32 :=
  mulf (broadcast S128x1 (Scalar.ofBits .f32 0x40000000#32)) (atan2 (sqrt (subf (broadcast S128x1 (Scalar.ofBits .f32 0x3F800000#32)) (mulf m m)))
    (addf (broadcast S128x1 (Scalar.ofBits .f32 0x3F800000#32)) m))
/-- The distance of a squared distance. -/
def dist (q : FVec F S128x1 .f32) : FVec F S128x1 .f32 :=
  sqrt (addf (maximumf q (broadcast S128x1 (Scalar.ofBits .f32 0x00000000#32))) (broadcast S128x1 (Scalar.ofBits .f32 0x2B8CBCCC#32)))

end Cert.Proof

end
-- ==== Proof.Own.SweepRun.lean ====
module

public import proofs.«01_k».proof.Proof.Own.Sweep

@[expose] public section

set_option maxRecDepth 65536
set_option maxHeartbeats 2000000

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (c : Dev nD) (M1 : Memref sig .tc .vmem S3x16384 .f32) (M2 : Memref sig .tc .vmem S4x16384 .f32) (M3 : Memref sig .tc .vmem S128x16 .f32)
  (M7 M8 : Memref sig .tc .vmem S128x16384 .f32) (f1 : Bf F c M1) (f2 : Bf F c M2) (f3 : Bf F c M3)

/-- The products of the directions, as the sweep stores them. -/
abbrev tabC : S128x16384.Idx → F .f32 := table (sweep.sl.v13 c M3 f3) (blkX0 (M1.view.read (Elt F) f1))
/-- The products of the origins, as the sweep stores them. -/
abbrev tabQ : S128x16384.Idx → F .f32 := table (sweep.sl.v17 c M3 f3) (blkX1 (M2.view.read (Elt F) f2))
/-- What the sweep reads at this point. -/
abbrev reads : Reads F := ⟨sweep.sl.v20 c M3 f3, M2.view.read (Elt F) f2, tabC c M1 M3 f1 f3, tabQ c M2 M3 f2 f3⟩

/-! ## What the two scratches hold, stage by stage -/

/-- The cosines' buffer after block 1. -/
theorem dirs1 : Stored (tabC c M1 M3 f1 f3) 1 (sweep.sl.H7_1 c M1 M3 f1 f3) :=
  (Stored.nil _).more (k := 0) (by decide) (blk0_eq M1 f1 0 (by decide))

/-- The cosines' buffer after block 2. -/
theorem dirs2 : Stored (tabC c M1 M3 f1 f3) 2 (sweep.sl.H7_2 c M1 M3 f1 f3) :=
  (dirs1 c M1 M3 f1 f3).more (k := 1) (by decide) (blk0_eq M1 f1 1 (by decide))

/-- The cosines' buffer after block 3. -/
theorem dirs3 : Stored (tabC c M1 M3 f1 f3) 3 (sweep.sl.H7_3 c M1 M3 f1 f3) :=
  (dirs2 c M1 M3 f1 f3).more (k := 2) (by decide) (blk0_eq M1 f1 2 (by decide))

/-- The cosines' buffer after block 4. -/
theorem dirs4 : Stored (tabC c M1 M3 f1 f3) 4 (sweep.sl.H7_4 c M1 M3 f1 f3) :=
  (dirs3 c M1 M3 f1 f3).more (k := 3) (by decide) (blk0_eq M1 f1 3 (by decide))

/-- The cosines' buffer after block 5. -/
theorem dirs5 : Stored (tabC c M1 M3 f1 f3) 5 (sweep.sl.H7_5 c M1 M3 f1 f3) :=
  (dirs4 c M1 M3 f1 f3).more (k := 4) (by decide) (blk0_eq M1 f1 4 (by decide))

/-- The cosines' buffer after block 6. -/
theorem dirs6 : Stored (tabC c M1 M3 f1 f3) 6 (sweep.sl.H7_6 c M1 M3 f1 f3) :=
  (dirs5 c M1 M3 f1 f3).more (k := 5) (by decide) (blk0_eq M1 f1 5 (by decide))

/-- The cosines' buffer after block 7. -/
theorem dirs7 : Stored (tabC c M1 M3 f1 f3) 7 (sweep.sl.H7_7 c M1 M3 f1 f3) :=
  (dirs6 c M1 M3 f1 f3).more (k := 6) (by decide) (blk0_eq M1 f1 6 (by decide))

/-- The cosines' buffer after block 8. -/
theorem dirs8 : Stored (tabC c M1 M3 f1 f3) 8 (sweep.sl.H7_8 c M1 M3 f1 f3) :=
  (dirs7 c M1 M3 f1 f3).more (k := 7) (by decide) (blk0_eq M1 f1 7 (by decide))

/-- The cosines' buffer after block 9. -/
theorem dirs9 : Stored (tabC c M1 M3 f1 f3) 9 (sweep.sl.H7_9 c M1 M3 f1 f3) :=
  (dirs8 c M1 M3 f1 f3).more (k := 8) (by decide) (blk0_eq M1 f1 8 (by decide))

/-- The cosines' buffer after block 10. -/
theorem dirs10 : Stored (tabC c M1 M3 f1 f3) 10 (sweep.sl.H7_10 c M1 M3 f1 f3) :=
  (dirs9 c M1 M3 f1 f3).more (k := 9) (by decide) (blk0_eq M1 f1 9 (by decide))

/-- The cosines' buffer after block 11. -/
theorem dirs11 : Stored (tabC c M1 M3 f1 f3) 11 (sweep.sl.H7_11 c M1 M3 f1 f3) :=
  (dirs10 c M1 M3 f1 f3).more (k := 10) (by decide) (blk0_eq M1 f1 10 (by decide))

/-- The cosines' buffer after block 12. -/
theorem dirs12 : Stored (tabC c M1 M3 f1 f3) 12 (sweep.sl.H7_12 c M1 M3 f1 f3) :=
  (dirs11 c M1 M3 f1 f3).more (k := 11) (by decide) (blk0_eq M1 f1 11 (by decide))

/-- The cosines' buffer after block 13. -/
theorem dirs13 : Stored (tabC c M1 M3 f1 f3) 13 (sweep.sl.H7_13 c M1 M3 f1 f3) :=
  (dirs12 c M1 M3 f1 f3).more (k := 12) (by decide) (blk0_eq M1 f1 12 (by decide))

/-- The cosines' buffer after block 14. -/
theorem dirs14 : Stored (tabC c M1 M3 f1 f3) 14 (sweep.sl.H7_14 c M1 M3 f1 f3) :=
  (dirs13 c M1 M3 f1 f3).more (k := 13) (by decide) (blk0_eq M1 f1 13 (by decide))

/-- The cosines' buffer after block 15. -/
theorem dirs15 : Stored (tabC c M1 M3 f1 f3) 15 (sweep.sl.H7_15 c M1 M3 f1 f3) :=
  (dirs14 c M1 M3 f1 f3).more (k := 14) (by decide) (blk0_eq M1 f1 14 (by decide))

/-- The cosines' buffer after block 16. -/
theorem dirs16 : Stored (tabC c M1 M3 f1 f3) 16 (sweep.sl.H7_16 c M1 M3 f1 f3) :=
  (dirs15 c M1 M3 f1 f3).more (k := 15) (by decide) (blk0_eq M1 f1 15 (by decide))

/-- The inner products' buffer after block 2. -/
theorem orgs2 : Stored (tabQ c M2 M3 f2 f3) 2 (sweep.sl.H8_2 c M2 M3 f2 f3) :=
  ((Stored.nil _).more (k := 0) (by decide) (blk1_eq M2 f2 0 (by decide))).more (k := 1) (by decide) (blk1_eq M2 f2 1 (by decide))

/-- The inner products' buffer after block 3. -/
theorem orgs3 : Stored (tabQ c M2 M3 f2 f3) 3 (sweep.sl.H8_3 c M2 M3 f2 f3) :=
  (orgs2 c M2 M3 f2 f3).more (k := 2) (by decide) (blk1_eq M2 f2 2 (by decide))

/-- The inner products' buffer after block 4. -/
theorem orgs4 : Stored (tabQ c M2 M3 f2 f3) 4 (sweep.sl.H8_4 c M2 M3 f2 f3) :=
  (orgs3 c M2 M3 f2 f3).more (k := 3) (by decide) (blk1_eq M2 f2 3 (by decide))

/-- The inner products' buffer after block 5. -/
theorem orgs5 : Stored (tabQ c M2 M3 f2 f3) 5 (sweep.sl.H8_5 c M2 M3 f2 f3) :=
  (orgs4 c M2 M3 f2 f3).more (k := 4) (by decide) (blk1_eq M2 f2 4 (by decide))

/-- The inner products' buffer after block 6. -/
theorem orgs6 : Stored (tabQ c M2 M3 f2 f3) 6 (sweep.sl.H8_6 c M2 M3 f2 f3) :=
  (orgs5 c M2 M3 f2 f3).more (k := 5) (by decide) (blk1_eq M2 f2 5 (by decide))

/-- The inner products' buffer after block 7. -/
theorem orgs7 : Stored (tabQ c M2 M3 f2 f3) 7 (sweep.sl.H8_7 c M2 M3 f2 f3) :=
  (orgs6 c M2 M3 f2 f3).more (k := 6) (by decide) (blk1_eq M2 f2 6 (by decide))

/-- The inner products' buffer after block 8. -/
theorem orgs8 : Stored (tabQ c M2 M3 f2 f3) 8 (sweep.sl.H8_8 c M2 M3 f2 f3) :=
  (orgs7 c M2 M3 f2 f3).more (k := 7) (by decide) (blk1_eq M2 f2 7 (by decide))

/-- The inner products' buffer after block 9. -/
theorem orgs9 : Stored (tabQ c M2 M3 f2 f3) 9 (sweep.sl.H8_9 c M2 M3 f2 f3) :=
  (orgs8 c M2 M3 f2 f3).more (k := 8) (by decide) (blk1_eq M2 f2 8 (by decide))

/-- The inner products' buffer after block 10. -/
theorem orgs10 : Stored (tabQ c M2 M3 f2 f3) 10 (sweep.sl.H8_10 c M2 M3 f2 f3) :=
  (orgs9 c M2 M3 f2 f3).more (k := 9) (by decide) (blk1_eq M2 f2 9 (by decide))

/-- The inner products' buffer after block 11. -/
theorem orgs11 : Stored (tabQ c M2 M3 f2 f3) 11 (sweep.sl.H8_11 c M2 M3 f2 f3) :=
  (orgs10 c M2 M3 f2 f3).more (k := 10) (by decide) (blk1_eq M2 f2 10 (by decide))

/-- The inner products' buffer after block 12. -/
theorem orgs12 : Stored (tabQ c M2 M3 f2 f3) 12 (sweep.sl.H8_12 c M2 M3 f2 f3) :=
  (orgs11 c M2 M3 f2 f3).more (k := 11) (by decide) (blk1_eq M2 f2 11 (by decide))

/-- The inner products' buffer after block 13. -/
theorem orgs13 : Stored (tabQ c M2 M3 f2 f3) 13 (sweep.sl.H8_13 c M2 M3 f2 f3) :=
  (orgs12 c M2 M3 f2 f3).more (k := 12) (by decide) (blk1_eq M2 f2 12 (by decide))

/-- The inner products' buffer after block 14. -/
theorem orgs14 : Stored (tabQ c M2 M3 f2 f3) 14 (sweep.sl.H8_14 c M2 M3 f2 f3) :=
  (orgs13 c M2 M3 f2 f3).more (k := 13) (by decide) (blk1_eq M2 f2 13 (by decide))

/-- The inner products' buffer after block 15. -/
theorem orgs15 : Stored (tabQ c M2 M3 f2 f3) 15 (sweep.sl.H8_15 c M2 M3 f2 f3) :=
  (orgs14 c M2 M3 f2 f3).more (k := 14) (by decide) (blk1_eq M2 f2 14 (by decide))

/-- The inner products' buffer after block 16. -/
theorem orgs16 : Stored (tabQ c M2 M3 f2 f3) 16 (sweep.sl.H8_16 c M2 M3 f2 f3) :=
  (orgs15 c M2 M3 f2 f3).more (k := 15) (by decide) (blk1_eq M2 f2 15 (by decide))

/-! ## The chunks, one after another -/

/-- Before the first chunk. -/
theorem at0 : At (reads c M1 M2 M3 f1 f2 f3) 0 sweep.sl.v24 sweep.sl.v22 sweep.sl.v23 sweep.sl.v27 := ⟨rfl, rfl, rfl, rfl⟩

/-- The sweep's state after chunk 2. -/
theorem at2 : At (reads c M1 M2 M3 f1 f2 f3) 2 (sweep.sl.v115 (F := F) c M1 M2 M3 M7 M8 f1 f2 f3) (sweep.sl.v116 (F := F) c M1 M2 M3 M7 M8 f1 f2 f3) (sweep.sl.v117 (F := F) c M1 M2 M3 M7 M8 f1 f2 f3) (sweep.sl.v108 (F := F) c M2 M3 M8 f2 f3) :=
  ((at0 c M1 M2 M3 f1 f2 f3).next ((dirs2 c M1 M3 f1 f3).load M7 0 (by decide) (by decide)) (row_eq M2 f2 0 (by decide)) ((orgs2 c M2 M3 f2 f3).load M8 0 (by decide) (by decide))).next ((dirs2 c M1 M3 f1 f3).load M7 1 (by decide) (by decide)) (row_eq M2 f2 1 (by decide)) ((orgs2 c M2 M3 f2 f3).load M8 1 (by decide) (by decide))

/-- The sweep's state after chunk 3. -/
theorem at3 : At (reads c M1 M2 M3 f1 f2 f3) 3 (sweep.sl.v148 (F := F) c M1 M2 M3 M7 M8 f1 f2 f3) (sweep.sl.v149 (F := F) c M1 M2 M3 M7 M8 f1 f2 f3) (sweep.sl.v150 (F := F) c M1 M2 M3 M7 M8 f1 f2 f3) (sweep.sl.v141 (F := F) c M2 M3 M8 f2 f3) :=
  (at2 c M1 M2 M3 M7 M8 f1 f2 f3).next ((dirs2 c M1 M3 f1 f3).load M7 2 (by decide) (by decide)) (row_eq M2 f2 2 (by decide)) ((orgs2 c M2 M3 f2 f3).load M8 2 (by decide) (by decide))

/-- The sweep's state after chunk 4. -/
theorem at4 : At (reads c M1 M2 M3 f1 f2 f3) 4 (sweep.sl.v181 (F := F) c M1 M2 M3 M7 M8 f1 f2 f3) (sweep.sl.v182 (F := F) c M1 M2 M3 M7 M8 f1 f2 f3) (sweep.sl.v183 (F := F) c M1 M2 M3 M7 M8 f1 f2 f3) (sweep.sl.v174 (F := F) c M2 M3 M8 f2 f3) :=
  (at3 c M1 M2 M3 M7 M8 f1 f2 f3).next ((dirs2 c M1 M3 f1 f3).load M7 3 (by decide) (by decide)) (row_eq M2 f2 3 (by decide)) ((orgs2 c M2 M3 f2 f3).load M8 3 (by decide) (by decide))

/-- The sweep's state after chunk 7. -/
theorem at7 : At (reads c M1 M2 M3 f1 f2 f3) 7 (sweep.sl.v280 (F := F) c M1 M2 M3 M7 M8 f1 f2 f3) (sweep.sl.v281 (F := F) c M1 M2 M3 M7 M8 f1 f2 f3) (sweep.sl.v282 (F := F) c M1 M2 M3 M7 M8 f1 f2 f3) (sweep.sl.v273 (F := F) c M2 M3 M8 f2 f3) :=
  (((at4 c M1 M2 M3 M7 M8 f1 f2 f3).next ((dirs2 c M1 M3 f1 f3).load M7 4 (by decide) (by decide)) (row_eq M2 f2 4 (by decide)) ((orgs2 c M2 M3 f2 f3).load M8 4 (by decide) (by decide))).next ((dirs2 c M1 M3 f1 f3).load M7 5 (by decide) (by decide)) (row_eq M2 f2 5 (by decide)) ((orgs2 c M2 M3 f2 f3).load M8 5 (by decide) (by decide))).next ((dirs2 c M1 M3 f1 f3).load M7 6 (by decide) (by decide)) (row_eq M2 f2 6 (by decide)) ((orgs2 c M2 M3 f2 f3).load M8 6 (by decide) (by decide))

/-- The sweep's state after chunk 8. -/
theorem at8 : At (reads c M1 M2 M3 f1 f2 f3) 8 (sweep.sl.v313 (F := F) c M1 M2 M3 M7 M8 f1 f2 f3) (sweep.sl.v314 (F := F) c M1 M2 M3 M7 M8 f1 f2 f3) (sweep.sl.v315 (F := F) c M1 M2 M3 M7 M8 f1 f2 f3) (sweep.sl.v306 (F := F) c M2 M3 M8 f2 f3) :=
  (at7 c M1 M2 M3 M7 M8 f1 f2 f3).next ((dirs2 c M1 M3 f1 f3).load M7 7 (by decide) (by decide)) (row_eq M2 f2 7 (by decide)) ((orgs2 c M2 M3 f2 f3).load M8 7 (by decide) (by decide))

/-- The sweep's state after chunk 9. -/
theorem at9 : At (reads c M1 M2 M3 f1 f2 f3) 9 (sweep.sl.v358 (F := F) c M1 M2 M3 M7 M8 f1 f2 f3) (sweep.sl.v359 (F := F) c M1 M2 M3 M7 M8 f1 f2 f3) (sweep.sl.v360 (F := F) c M1 M2 M3 M7 M8 f1 f2 f3) (sweep.sl.v351 (F := F) c M2 M3 M8 f2 f3) :=
  (at8 c M1 M2 M3 M7 M8 f1 f2 f3).next ((dirs3 c M1 M3 f1 f3).load M7 8 (by decide) (by decide)) (row_eq M2 f2 8 (by decide)) ((orgs3 c M2 M3 f2 f3).load M8 8 (by decide) (by decide))

/-- The sweep's state after chunk 10. -/
theorem at10 : At (reads c M1 M2 M3 f1 f2 f3) 10 (sweep.sl.v391 (F := F) c M1 M2 M3 M7 M8 f1 f2 f3) (sweep.sl.v392 (F := F) c M1 M2 M3 M7 M8 f1 f2 f3) (sweep.sl.v393 (F := F) c M1 M2 M3 M7 M8 f1 f2 f3) (sweep.sl.v384 (F := F) c M2 M3 M8 f2 f3) :=
  (at9 c M1 M2 M3 M7 M8 f1 f2 f3).next ((dirs3 c M1 M3 f1 f3).load M7 9 (by decide) (by decide)) (row_eq M2 f2 9 (by decide)) ((orgs3 c M2 M3 f2 f3).load M8 9 (by decide) (by decide))

/-- The sweep's state after chunk 13. -/
theorem at13 : At (reads c M1 M2 M3 f1 f2 f3) 13 (sweep.sl.v490 (F := F) c M1 M2 M3 M7 M8 f1 f2 f3) (sweep.sl.v491 (F := F) c M1 M2 M3 M7 M8 f1 f2 f3) (sweep.sl.v492 (F := F) c M1 M2 M3 M7 M8 f1 f2 f3) (sweep.sl.v483 (F := F) c M2 M3 M8 f2 f3) :=
  (((at10 c M1 M2 M3 M7 M8 f1 f2 f3).next ((dirs3 c M1 M3 f1 f3).load M7 10 (by decide) (by decide)) (row_eq M2 f2 10 (by decide)) ((orgs3 c M2 M3 f2 f3).load M8 10 (by decide) (by decide))).next ((dirs3 c M1 M3 f1 f3).load M7 11 (by decide) (by decide)) (row_eq M2 f2 11 (by decide)) ((orgs3 c M2 M3 f2 f3).load M8 11 (by decide) (by decide))).next ((dirs3 c M1 M3 f1 f3).load M7 12 (by decide) (by decide)) (row_eq M2 f2 12 (by decide)) ((orgs3 c M2 M3 f2 f3).load M8 12 (by decide) (by decide))

/-- The sweep's state after chunk 14. -/
theorem at14 : At (reads c M1 M2 M3 f1 f2 f3) 14 (sweep.sl.v523 (F := F) c M1 M2 M3 M7 M8 f1 f2 f3) (sweep.sl.v524 (F := F) c M1 M2 M3 M7 M8 f1 f2 f3) (sweep.sl.v525 (F := F) c M1 M2 M3 M7 M8 f1 f2 f3) (sweep.sl.v516 (F := F) c M2 M3 M8 f2 f3) :=
  (at13 c M1 M2 M3 M7 M8 f1 f2 f3).next ((dirs3 c M1 M3 f1 f3).load M7 13 (by decide) (by decide)) (row_eq M2 f2 13 (by decide)) ((orgs3 c M2 M3 f2 f3).load M8 13 (by decide) (by decide))

/-- The sweep's state after chunk 16. -/
theorem at16 : At (reads c M1 M2 M3 f1 f2 f3) 16 (sweep.sl.v589 (F := F) c M1 M2 M3 M7 M8 f1 f2 f3) (sweep.sl.v590 (F := F) c M1 M2 M3 M7 M8 f1 f2 f3) (sweep.sl.v591 (F := F) c M1 M2 M3 M7 M8 f1 f2 f3) (sweep.sl.v582 (F := F) c M2 M3 M8 f2 f3) :=
  ((at14 c M1 M2 M3 M7 M8 f1 f2 f3).next ((dirs3 c M1 M3 f1 f3).load M7 14 (by decide) (by decide)) (row_eq M2 f2 14 (by decide)) ((orgs3 c M2 M3 f2 f3).load M8 14 (by decide) (by decide))).next ((dirs3 c M1 M3 f1 f3).load M7 15 (by decide) (by decide)) (row_eq M2 f2 15 (by decide)) ((orgs3 c M2 M3 f2 f3).load M8 15 (by decide) (by decide))

/-- The sweep's state after chunk 19. -/
theorem at19 : At (reads c M1 M2 M3 f1 f2 f3) 19 (sweep.sl.v700 (F := F) c M1 M2 M3 M7 M8 f1 f2 f3) (sweep.sl.v701 (F := F) c M1 M2 M3 M7 M8 f1 f2 f3) (sweep.sl.v702 (F := F) c M1 M2 M3 M7 M8 f1 f2 f3) (sweep.sl.v693 (F := F) c M2 M3 M8 f2 f3) :=
  (((at16 c M1 M2 M3 M7 M8 f1 f2 f3).next ((dirs4 c M1 M3 f1 f3).load M7 16 (by decide) (by decide)) (row_eq M2 f2 16 (by decide)) ((orgs4 c M2 M3 f2 f3).load M8 16 (by decide) (by decide))).next ((dirs4 c M1 M3 f1 f3).load M7 17 (by decide) (by decide)) (row_eq M2 f2 17 (by decide)) ((orgs4 c M2 M3 f2 f3).load M8 17 (by decide) (by decide))).next ((dirs4 c M1 M3 f1 f3).load M7 18 (by decide) (by decide)) (row_eq M2 f2 18 (by decide)) ((orgs4 c M2 M3 f2 f3).load M8 18 (by decide) (by decide))

/-- The sweep's state after chunk 20. -/
theorem at20 : At (reads c M1 M2 M3 f1 f2 f3) 20 (sweep.sl.v733 (F := F) c M1 M2 M3 M7 M8 f1 f2 f3) (sweep.sl.v734 (F := F) c M1 M2 M3 M7 M8 f1 f2 f3) (sweep.sl.v735 (F := F) c M1 M2 M3 M7 M8 f1 f2 f3) (sweep.sl.v726 (F := F) c M2 M3 M8 f2 f3) :=
  (at19 c M1 M2 M3 M7 M8 f1 f2 f3).next ((dirs4 c M1 M3 f1 f3).load M7 19 (by decide) (by decide)) (row_eq M2 f2 19 (by decide)) ((orgs4 c M2 M3 f2 f3).load M8 19 (by decide) (by decide))

/-- The sweep's state after chunk 23. -/
theorem at23 : At (reads c M1 M2 M3 f1 f2 f3) 23 (sweep.sl.v832 (F := F) c M1 M2 M3 M7 M8 f1 f2 f3) (sweep.sl.v833 (F := F) c M1 M2 M3 M7 M8 f1 f2 f3) (sweep.sl.v834 (F := F) c M1 M2 M3 M7 M8 f1 f2 f3) (sweep.sl.v825 (F := F) c M2 M3 M8 f2 f3) :=
  (((at20 c M1 M2 M3 M7 M8 f1 f2 f3).next ((dirs4 c M1 M3 f1 f3).load M7 20 (by decide) (by decide)) (row_eq M2 f2 20 (by decide)) ((orgs4 c M2 M3 f2 f3).load M8 20 (by decide) (by decide))).next ((dirs4 c M1 M3 f1 f3).load M7 21 (by decide) (by decide)) (row_eq M2 f2 21 (by decide)) ((orgs4 c M2 M3 f2 f3).load M8 21 (by decide) (by decide))).next ((dirs4 c M1 M3 f1 f3).load M7 22 (by decide) (by decide)) (row_eq M2 f2 22 (by decide)) ((orgs4 c M2 M3 f2 f3).load M8 22 (by decide) (by decide))

/-- The sweep's state after chunk 24. -/
theorem at24 : At (reads c M1 M2 M3 f1 f2 f3) 24 (sweep.sl.v865 (F := F) c M1 M2 M3 M7 M8 f1 f2 f3) (sweep.sl.v866 (F := F) c M1 M2 M3 M7 M8 f1 f2 f3) (sweep.sl.v867 (F := F) c M1 M2 M3 M7 M8 f1 f2 f3) (sweep.sl.v858 (F := F) c M2 M3 M8 f2 f3) :=
  (at23 c M1 M2 M3 M7 M8 f1 f2 f3).next ((dirs4 c M1 M3 f1 f3).load M7 23 (by decide) (by decide)) (row_eq M2 f2 23 (by decide)) ((orgs4 c M2 M3 f2 f3).load M8 23 (by decide) (by decide))

/-- The sweep's state after chunk 25. -/
theorem at25 : At (reads c M1 M2 M3 f1 f2 f3) 25 (sweep.sl.v910 (F := F) c M1 M2 M3 M7 M8 f1 f2 f3) (sweep.sl.v911 (F := F) c M1 M2 M3 M7 M8 f1 f2 f3) (sweep.sl.v912 (F := F) c M1 M2 M3 M7 M8 f1 f2 f3) (sweep.sl.v903 (F := F) c M2 M3 M8 f2 f3) :=
  (at24 c M1 M2 M3 M7 M8 f1 f2 f3).next ((dirs5 c M1 M3 f1 f3).load M7 24 (by decide) (by decide)) (row_eq M2 f2 24 (by decide)) ((orgs5 c M2 M3 f2 f3).load M8 24 (by decide) (by decide))

/-- The sweep's state after chunk 26. -/
theorem at26 : At (reads c M1 M2 M3 f1 f2 f3) 26 (sweep.sl.v943 (F := F) c M1 M2 M3 M7 M8 f1 f2 f3) (sweep.sl.v944 (F := F) c M1 M2 M3 M7 M8 f1 f2 f3) (sweep.sl.v945 (F := F) c M1 M2 M3 M7 M8 f1 f2 f3) (sweep.sl.v936 (F := F) c M2 M3 M8 f2 f3) :=
  (at25 c M1 M2 M3 M7 M8 f1 f2 f3).next ((dirs5 c M1 M3 f1 f3).load M7 25 (by decide) (by decide)) (row_eq M2 f2 25 (by decide)) ((orgs5 c M2 M3 f2 f3).load M8 25 (by decide) (by decide))

/-- The sweep's state after chunk 29. -/
theorem at29 : At (reads c M1 M2 M3 f1 f2 f3) 29 (sweep.sl.v1042 (F := F) c M1 M2 M3 M7 M8 f1 f2 f3) (sweep.sl.v1043 (F := F) c M1 M2 M3 M7 M8 f1 f2 f3) (sweep.sl.v1044 (F := F) c M1 M2 M3 M7 M8 f1 f2 f3) (sweep.sl.v1035 (F := F) c M2 M3 M8 f2 f3) :=
  (((at26 c M1 M2 M3 M7 M8 f1 f2 f3).next ((dirs5 c M1 M3 f1 f3).load M7 26 (by decide) (by decide)) (row_eq M2 f2 26 (by decide)) ((orgs5 c M2 M3 f2 f3).load M8 26 (by decide) (by decide))).next ((dirs5 c M1 M3 f1 f3).load M7 27 (by decide) (by decide)) (row_eq M2 f2 27 (by decide)) ((orgs5 c M2 M3 f2 f3).load M8 27 (by decide) (by decide))).next ((dirs5 c M1 M3 f1 f3).load M7 28 (by decide) (by decide)) (row_eq M2 f2 28 (by decide)) ((orgs5 c M2 M3 f2 f3).load M8 28 (by decide) (by decide))

/-- The sweep's state after chunk 30. -/
theorem at30 : At (reads c M1 M2 M3 f1 f2 f3) 30 (sweep.sl.v1075 (F := F) c M1 M2 M3 M7 M8 f1 f2 f3) (sweep.sl.v1076 (F := F) c M1 M2 M3 M7 M8 f1 f2 f3) (sweep.sl.v1077 (F := F) c M1 M2 M3 M7 M8 f1 f2 f3) (sweep.sl.v1068 (F := F) c M2 M3 M8 f2 f3) :=
  (at29 c M1 M2 M3 M7 M8 f1 f2 f3).next ((dirs5 c M1 M3 f1 f3).load M7 29 (by decide) (by decide)) (row_eq M2 f2 29 (by decide)) ((orgs5 c M2 M3 f2 f3).load M8 29 (by decide) (by decide))

/-- The sweep's state after chunk 31. -/
theorem at31 : At (reads c M1 M2 M3 f1 f2 f3) 31 (sweep.sl.v1108 (F := F) c M1 M2 M3 M7 M8 f1 f2 f3) (sweep.sl.v1109 (F := F) c M1 M2 M3 M7 M8 f1 f2 f3) (sweep.sl.v1110 (F := F) c M1 M2 M3 M7 M8 f1 f2 f3) (sweep.sl.v1101 (F := F) c M2 M3 M8 f2 f3) :=
  (at30 c M1 M2 M3 M7 M8 f1 f2 f3).next ((dirs5 c M1 M3 f1 f3).load M7 30 (by decide) (by decide)) (row_eq M2 f2 30 (by decide)) ((orgs5 c M2 M3 f2 f3).load M8 30 (by decide) (by decide))

/-- The sweep's state after chunk 32. -/
theorem at32 : At (reads c M1 M2 M3 f1 f2 f3) 32 (sweep.sl.v1141 (F := F) c M1 M2 M3 M7 M8 f1 f2 f3) (sweep.sl.v1142 (F := F) c M1 M2 M3 M7 M8 f1 f2 f3) (sweep.sl.v1143 (F := F) c M1 M2 M3 M7 M8 f1 f2 f3) (sweep.sl.v1134 (F := F) c M2 M3 M8 f2 f3) :=
  (at31 c M1 M2 M3 M7 M8 f1 f2 f3).next ((dirs5 c M1 M3 f1 f3).load M7 31 (by decide) (by decide)) (row_eq M2 f2 31 (by decide)) ((orgs5 c M2 M3 f2 f3).load M8 31 (by decide) (by decide))

/-- The sweep's state after chunk 33. -/
theorem at33 : At (reads c M1 M2 M3 f1 f2 f3) 33 (sweep.sl.v1186 (F := F) c M1 M2 M3 M7 M8 f1 f2 f3) (sweep.sl.v1187 (F := F) c M1 M2 M3 M7 M8 f1 f2 f3) (sweep.sl.v1188 (F := F) c M1 M2 M3 M7 M8 f1 f2 f3) (sweep.sl.v1179 (F := F) c M2 M3 M8 f2 f3) :=
  (at32 c M1 M2 M3 M7 M8 f1 f2 f3).next ((dirs6 c M1 M3 f1 f3).load M7 32 (by decide) (by decide)) (row_eq M2 f2 32 (by decide)) ((orgs6 c M2 M3 f2 f3).load M8 32 (by decide) (by decide))

/-- The sweep's state after chunk 35. -/
theorem at35 : At (reads c M1 M2 M3 f1 f2 f3) 35 (sweep.sl.v1252 (F := F) c M1 M2 M3 M7 M8 f1 f2 f3) (sweep.sl.v1253 (F := F) c M1 M2 M3 M7 M8 f1 f2 f3) (sweep.sl.v1254 (F := F) c M1 M2 M3 M7 M8 f1 f2 f3) (sweep.sl.v1245 (F := F) c M2 M3 M8 f2 f3) :=
  ((at33 c M1 M2 M3 M7 M8 f1 f2 f3).next ((dirs6 c M1 M3 f1 f3).load M7 33 (by decide) (by decide)) (row_eq M2 f2 33 (by decide)) ((orgs6 c M2 M3 f2 f3).load M8 33 (by decide) (by decide))).next ((dirs6 c M1 M3 f1 f3).load M7 34 (by decide) (by decide)) (row_eq M2 f2 34 (by decide)) ((orgs6 c M2 M3 f2 f3).load M8 34 (by decide) (by decide))

/-- The sweep's state after chunk 36. -/
theorem at36 : At (reads c M1 M2 M3 f1 f2 f3) 36 (sweep.sl.v1285 (F := F) c M1 M2 M3 M7 M8 f1 f2 f3) (sweep.sl.v1286 (F := F) c M1 M2 M3 M7 M8 f1 f2 f3) (sweep.sl.v1287 (F := F) c M1 M2 M3 M7 M8 f1 f2 f3) (sweep.sl.v1278 (F := F) c M2 M3 M8 f2 f3) :=
  (at35 c M1 M2 M3 M7 M8 f1 f2 f3).next ((dirs6 c M1 M3 f1 f3).load M7 35 (by decide) (by decide)) (row_eq M2 f2 35 (by decide)) ((orgs6 c M2 M3 f2 f3).load M8 35 (by decide) (by decide))

/-- The sweep's state after chunk 37. -/
theorem at37 : At (reads c M1 M2 M3 f1 f2 f3) 37 (sweep.sl.v1318 (F := F) c M1 M2 M3 M7 M8 f1 f2 f3) (sweep.sl.v1319 (F := F) c M1 M2 M3 M7 M8 f1 f2 f3) (sweep.sl.v1320 (F := F) c M1 M2 M3 M7 M8 f1 f2 f3) (sweep.sl.v1311 (F := F) c M2 M3 M8 f2 f3) :=
  (at36 c M1 M2 M3 M7 M8 f1 f2 f3).next ((dirs6 c M1 M3 f1 f3).load M7 36 (by decide) (by decide)) (row_eq M2 f2 36 (by decide)) ((orgs6 c M2 M3 f2 f3).load M8 36 (by decide) (by decide))

/-- The sweep's state after chunk 40. -/
theorem at40 : At (reads c M1 M2 M3 f1 f2 f3) 40 (sweep.sl.v1417 (F := F) c M1 M2 M3 M7 M8 f1 f2 f3) (sweep.sl.v1418 (F := F) c M1 M2 M3 M7 M8 f1 f2 f3) (sweep.sl.v1419 (F := F) c M1 M2 M3 M7 M8 f1 f2 f3) (sweep.sl.v1410 (F := F) c M2 M3 M8 f2 f3) :=
  (((at37 c M1 M2 M3 M7 M8 f1 f2 f3).next ((dirs6 c M1 M3 f1 f3).load M7 37 (by decide) (by decide)) (row_eq M2 f2 37 (by decide)) ((orgs6 c M2 M3 f2 f3).load M8 37 (by decide) (by decide))).next ((dirs6 c M1 M3 f1 f3).load M7 38 (by decide) (by decide)) (row_eq M2 f2 38 (by decide)) ((orgs6 c M2 M3 f2 f3).load M8 38 (by decide) (by decide))).next ((dirs6 c M1 M3 f1 f3).load M7 39 (by decide) (by decide)) (row_eq M2 f2 39 (by decide)) ((orgs6 c M2 M3 f2 f3).load M8 39 (by decide) (by decide))

/-- The sweep's state after chunk 41. -/
theorem at41 : At (reads c M1 M2 M3 f1 f2 f3) 41 (sweep.sl.v1462 (F := F) c M1 M2 M3 M7 M8 f1 f2 f3) (sweep.sl.v1463 (F := F) c M1 M2 M3 M7 M8 f1 f2 f3) (sweep.sl.v1464 (F := F) c M1 M2 M3 M7 M8 f1 f2 f3) (sweep.sl.v1455 (F := F) c M2 M3 M8 f2 f3) :=
  (at40 c M1 M2 M3 M7 M8 f1 f2 f3).next ((dirs7 c M1 M3 f1 f3).load M7 40 (by decide) (by decide)) (row_eq M2 f2 40 (by decide)) ((orgs7 c M2 M3 f2 f3).load M8 40 (by decide) (by decide))

/-- The sweep's state after chunk 42. -/
theorem at42 : At (reads c M1 M2 M3 f1 f2 f3) 42 (sweep.sl.v1495 (F := F) c M1 M2 M3 M7 M8 f1 f2 f3) (sweep.sl.v1496 (F := F) c M1 M2 M3 M7 M8 f1 f2 f3) (sweep.sl.v1497 (F := F) c M1 M2 M3 M7 M8 f1 f2 f3) (sweep.sl.v1488 (F := F) c M2 M3 M8 f2 f3) :=
  (at41 c M1 M2 M3 M7 M8 f1 f2 f3).next ((dirs7 c M1 M3 f1 f3).load M7 41 (by decide) (by decide)) (row_eq M2 f2 41 (by decide)) ((orgs7 c M2 M3 f2 f3).load M8 41 (by decide) (by decide))

/-- The sweep's state after chunk 43. -/
theorem at43 : At (reads c M1 M2 M3 f1 f2 f3) 43 (sweep.sl.v1528 (F := F) c M1 M2 M3 M7 M8 f1 f2 f3) (sweep.sl.v1529 (F := F) c M1 M2 M3 M7 M8 f1 f2 f3) (sweep.sl.v1530 (F := F) c M1 M2 M3 M7 M8 f1 f2 f3) (sweep.sl.v1521 (F := F) c M2 M3 M8 f2 f3) :=
  (at42 c M1 M2 M3 M7 M8 f1 f2 f3).next ((dirs7 c M1 M3 f1 f3).load M7 42 (by decide) (by decide)) (row_eq M2 f2 42 (by decide)) ((orgs7 c M2 M3 f2 f3).load M8 42 (by decide) (by decide))

/-- The sweep's state after chunk 46. -/
theorem at46 : At (reads c M1 M2 M3 f1 f2 f3) 46 (sweep.sl.v1627 (F := F) c M1 M2 M3 M7 M8 f1 f2 f3) (sweep.sl.v1628 (F := F) c M1 M2 M3 M7 M8 f1 f2 f3) (sweep.sl.v1629 (F := F) c M1 M2 M3 M7 M8 f1 f2 f3) (sweep.sl.v1620 (F := F) c M2 M3 M8 f2 f3) :=
  (((at43 c M1 M2 M3 M7 M8 f1 f2 f3).next ((dirs7 c M1 M3 f1 f3).load M7 43 (by decide) (by decide)) (row_eq M2 f2 43 (by decide)) ((orgs7 c M2 M3 f2 f3).load M8 43 (by decide) (by decide))).next ((dirs7 c M1 M3 f1 f3).load M7 44 (by decide) (by decide)) (row_eq M2 f2 44 (by decide)) ((orgs7 c M2 M3 f2 f3).load M8 44 (by decide) (by decide))).next ((dirs7 c M1 M3 f1 f3).load M7 45 (by decide) (by decide)) (row_eq M2 f2 45 (by decide)) ((orgs7 c M2 M3 f2 f3).load M8 45 (by decide) (by decide))

/-- The sweep's state after chunk 47. -/
theorem at47 : At (reads c M1 M2 M3 f1 f2 f3) 47 (sweep.sl.v1660 (F := F) c M1 M2 M3 M7 M8 f1 f2 f3) (sweep.sl.v1661 (F := F) c M1 M2 M3 M7 M8 f1 f2 f3) (sweep.sl.v1662 (F := F) c M1 M2 M3 M7 M8 f1 f2 f3) (sweep.sl.v1653 (F := F) c M2 M3 M8 f2 f3) :=
  (at46 c M1 M2 M3 M7 M8 f1 f2 f3).next ((dirs7 c M1 M3 f1 f3).load M7 46 (by decide) (by decide)) (row_eq M2 f2 46 (by decide)) ((orgs7 c M2 M3 f2 f3).load M8 46 (by decide) (by decide))

/-- The sweep's state after chunk 48. -/
theorem at48 : At (reads c M1 M2 M3 f1 f2 f3) 48 (sweep.sl.v1693 (F := F) c M1 M2 M3 M7 M8 f1 f2 f3) (sweep.sl.v1694 (F := F) c M1 M2 M3 M7 M8 f1 f2 f3) (sweep.sl.v1695 (F := F) c M1 M2 M3 M7 M8 f1 f2 f3) (sweep.sl.v1686 (F := F) c M2 M3 M8 f2 f3) :=
  (at47 c M1 M2 M3 M7 M8 f1 f2 f3).next ((dirs7 c M1 M3 f1 f3).load M7 47 (by decide) (by decide)) (row_eq M2 f2 47 (by decide)) ((orgs7 c M2 M3 f2 f3).load M8 47 (by decide) (by decide))

/-- The sweep's state after chunk 49. -/
theorem at49 : At (reads c M1 M2 M3 f1 f2 f3) 49 (sweep.sl.v1738 (F := F) c M1 M2 M3 M7 M8 f1 f2 f3) (sweep.sl.v1739 (F := F) c M1 M2 M3 M7 M8 f1 f2 f3) (sweep.sl.v1740 (F := F) c M1 M2 M3 M7 M8 f1 f2 f3) (sweep.sl.v1731 (F := F) c M2 M3 M8 f2 f3) :=
  (at48 c M1 M2 M3 M7 M8 f1 f2 f3).next ((dirs8 c M1 M3 f1 f3).load M7 48 (by decide) (by decide)) (row_eq M2 f2 48 (by decide)) ((orgs8 c M2 M3 f2 f3).load M8 48 (by decide) (by decide))

/-- The sweep's state after chunk 52. -/
theorem at52 : At (reads c M1 M2 M3 f1 f2 f3) 52 (sweep.sl.v1837 (F := F) c M1 M2 M3 M7 M8 f1 f2 f3) (sweep.sl.v1838 (F := F) c M1 M2 M3 M7 M8 f1 f2 f3) (sweep.sl.v1839 (F := F) c M1 M2 M3 M7 M8 f1 f2 f3) (sweep.sl.v1830 (F := F) c M2 M3 M8 f2 f3) :=
  (((at49 c M1 M2 M3 M7 M8 f1 f2 f3).next ((dirs8 c M1 M3 f1 f3).load M7 49 (by decide) (by decide)) (row_eq M2 f2 49 (by decide)) ((orgs8 c M2 M3 f2 f3).load M8 49 (by decide) (by decide))).next ((dirs8 c M1 M3 f1 f3).load M7 50 (by decide) (by decide)) (row_eq M2 f2 50 (by decide)) ((orgs8 c M2 M3 f2 f3).load M8 50 (by decide) (by decide))).next ((dirs8 c M1 M3 f1 f3).load M7 51 (by decide) (by decide)) (row_eq M2 f2 51 (by decide)) ((orgs8 c M2 M3 f2 f3).load M8 51 (by decide) (by decide))

/-- The sweep's state after chunk 53. -/
theorem at53 : At (reads c M1 M2 M3 f1 f2 f3) 53 (sweep.sl.v1870 (F := F) c M1 M2 M3 M7 M8 f1 f2 f3) (sweep.sl.v1871 (F := F) c M1 M2 M3 M7 M8 f1 f2 f3) (sweep.sl.v1872 (F := F) c M1 M2 M3 M7 M8 f1 f2 f3) (sweep.sl.v1863 (F := F) c M2 M3 M8 f2 f3) :=
  (at52 c M1 M2 M3 M7 M8 f1 f2 f3).next ((dirs8 c M1 M3 f1 f3).load M7 52 (by decide) (by decide)) (row_eq M2 f2 52 (by decide)) ((orgs8 c M2 M3 f2 f3).load M8 52 (by decide) (by decide))

/-- The sweep's state after chunk 56. -/
theorem at56 : At (reads c M1 M2 M3 f1 f2 f3) 56 (sweep.sl.v1969 (F := F) c M1 M2 M3 M7 M8 f1 f2 f3) (sweep.sl.v1970 (F := F) c M1 M2 M3 M7 M8 f1 f2 f3) (sweep.sl.v1971 (F := F) c M1 M2 M3 M7 M8 f1 f2 f3) (sweep.sl.v1962 (F := F) c M2 M3 M8 f2 f3) :=
  (((at53 c M1 M2 M3 M7 M8 f1 f2 f3).next ((dirs8 c M1 M3 f1 f3).load M7 53 (by decide) (by decide)) (row_eq M2 f2 53 (by decide)) ((orgs8 c M2 M3 f2 f3).load M8 53 (by decide) (by decide))).next ((dirs8 c M1 M3 f1 f3).load M7 54 (by decide) (by decide)) (row_eq M2 f2 54 (by decide)) ((orgs8 c M2 M3 f2 f3).load M8 54 (by decide) (by decide))).next ((dirs8 c M1 M3 f1 f3).load M7 55 (by decide) (by decide)) (row_eq M2 f2 55 (by decide)) ((orgs8 c M2 M3 f2 f3).load M8 55 (by decide) (by decide))

/-- The sweep's state after chunk 58. -/
theorem at58 : At (reads c M1 M2 M3 f1 f2 f3) 58 (sweep.sl.v2047 (F := F) c M1 M2 M3 M7 M8 f1 f2 f3) (sweep.sl.v2048 (F := F) c M1 M2 M3 M7 M8 f1 f2 f3) (sweep.sl.v2049 (F := F) c M1 M2 M3 M7 M8 f1 f2 f3) (sweep.sl.v2040 (F := F) c M2 M3 M8 f2 f3) :=
  ((at56 c M1 M2 M3 M7 M8 f1 f2 f3).next ((dirs9 c M1 M3 f1 f3).load M7 56 (by decide) (by decide)) (row_eq M2 f2 56 (by decide)) ((orgs9 c M2 M3 f2 f3).load M8 56 (by decide) (by decide))).next ((dirs9 c M1 M3 f1 f3).load M7 57 (by decide) (by decide)) (row_eq M2 f2 57 (by decide)) ((orgs9 c M2 M3 f2 f3).load M8 57 (by decide) (by decide))

/-- The sweep's state after chunk 59. -/
theorem at59 : At (reads c M1 M2 M3 f1 f2 f3) 59 (sweep.sl.v2080 (F := F) c M1 M2 M3 M7 M8 f1 f2 f3) (sweep.sl.v2081 (F := F) c M1 M2 M3 M7 M8 f1 f2 f3) (sweep.sl.v2082 (F := F) c M1 M2 M3 M7 M8 f1 f2 f3) (sweep.sl.v2073 (F := F) c M2 M3 M8 f2 f3) :=
  (at58 c M1 M2 M3 M7 M8 f1 f2 f3).next ((dirs9 c M1 M3 f1 f3).load M7 58 (by decide) (by decide)) (row_eq M2 f2 58 (by decide)) ((orgs9 c M2 M3 f2 f3).load M8 58 (by decide) (by decide))

/-- The sweep's state after chunk 62. -/
theorem at62 : At (reads c M1 M2 M3 f1 f2 f3) 62 (sweep.sl.v2179 (F := F) c M1 M2 M3 M7 M8 f1 f2 f3) (sweep.sl.v2180 (F := F) c M1 M2 M3 M7 M8 f1 f2 f3) (sweep.sl.v2181 (F := F) c M1 M2 M3 M7 M8 f1 f2 f3) (sweep.sl.v2172 (F := F) c M2 M3 M8 f2 f3) :=
  (((at59 c M1 M2 M3 M7 M8 f1 f2 f3).next ((dirs9 c M1 M3 f1 f3).load M7 59 (by decide) (by decide)) (row_eq M2 f2 59 (by decide)) ((orgs9 c M2 M3 f2 f3).load M8 59 (by decide) (by decide))).next ((dirs9 c M1 M3 f1 f3).load M7 60 (by decide) (by decide)) (row_eq M2 f2 60 (by decide)) ((orgs9 c M2 M3 f2 f3).load M8 60 (by decide) (by decide))).next ((dirs9 c M1 M3 f1 f3).load M7 61 (by decide) (by decide)) (row_eq M2 f2 61 (by decide)) ((orgs9 c M2 M3 f2 f3).load M8 61 (by decide) (by decide))

/-- The sweep's state after chunk 63. -/
theorem at63 : At (reads c M1 M2 M3 f1 f2 f3) 63 (sweep.sl.v2212 (F := F) c M1 M2 M3 M7 M8 f1 f2 f3) (sweep.sl.v2213 (F := F) c M1 M2 M3 M7 M8 f1 f2 f3) (sweep.sl.v2214 (F := F) c M1 M2 M3 M7 M8 f1 f2 f3) (sweep.sl.v2205 (F := F) c M2 M3 M8 f2 f3) :=
  (at62 c M1 M2 M3 M7 M8 f1 f2 f3).next ((dirs9 c M1 M3 f1 f3).load M7 62 (by decide) (by decide)) (row_eq M2 f2 62 (by decide)) ((orgs9 c M2 M3 f2 f3).load M8 62 (by decide) (by decide))

/-- The sweep's state after chunk 64. -/
theorem at64 : At (reads c M1 M2 M3 f1 f2 f3) 64 (sweep.sl.v2245 (F := F) c M1 M2 M3 M7 M8 f1 f2 f3) (sweep.sl.v2246 (F := F) c M1 M2 M3 M7 M8 f1 f2 f3) (sweep.sl.v2247 (F := F) c M1 M2 M3 M7 M8 f1 f2 f3) (sweep.sl.v2238 (F := F) c M2 M3 M8 f2 f3) :=
  (at63 c M1 M2 M3 M7 M8 f1 f2 f3).next ((dirs9 c M1 M3 f1 f3).load M7 63 (by decide) (by decide)) (row_eq M2 f2 63 (by decide)) ((orgs9 c M2 M3 f2 f3).load M8 63 (by decide) (by decide))

/-- The sweep's state after chunk 65. -/
theorem at65 : At (reads c M1 M2 M3 f1 f2 f3) 65 (sweep.sl.v2290 (F := F) c M1 M2 M3 M7 M8 f1 f2 f3) (sweep.sl.v2291 (F := F) c M1 M2 M3 M7 M8 f1 f2 f3) (sweep.sl.v2292 (F := F) c M1 M2 M3 M7 M8 f1 f2 f3) (sweep.sl.v2283 (F := F) c M2 M3 M8 f2 f3) :=
  (at64 c M1 M2 M3 M7 M8 f1 f2 f3).next ((dirs10 c M1 M3 f1 f3).load M7 64 (by decide) (by decide)) (row_eq M2 f2 64 (by decide)) ((orgs10 c M2 M3 f2 f3).load M8 64 (by decide) (by decide))

/-- The sweep's state after chunk 68. -/
theorem at68 : At (reads c M1 M2 M3 f1 f2 f3) 68 (sweep.sl.v2389 (F := F) c M1 M2 M3 M7 M8 f1 f2 f3) (sweep.sl.v2390 (F := F) c M1 M2 M3 M7 M8 f1 f2 f3) (sweep.sl.v2391 (F := F) c M1 M2 M3 M7 M8 f1 f2 f3) (sweep.sl.v2382 (F := F) c M2 M3 M8 f2 f3) :=
  (((at65 c M1 M2 M3 M7 M8 f1 f2 f3).next ((dirs10 c M1 M3 f1 f3).load M7 65 (by decide) (by decide)) (row_eq M2 f2 65 (by decide)) ((orgs10 c M2 M3 f2 f3).load M8 65 (by decide) (by decide))).next ((dirs10 c M1 M3 f1 f3).load M7 66 (by decide) (by decide)) (row_eq M2 f2 66 (by decide)) ((orgs10 c M2 M3 f2 f3).load M8 66 (by decide) (by decide))).next ((dirs10 c M1 M3 f1 f3).load M7 67 (by decide) (by decide)) (row_eq M2 f2 67 (by decide)) ((orgs10 c M2 M3 f2 f3).load M8 67 (by decide) (by decide))

/-- The sweep's state after chunk 69. -/
theorem at69 : At (reads c M1 M2 M3 f1 f2 f3) 69 (sweep.sl.v2422 (F := F) c M1 M2 M3 M7 M8 f1 f2 f3) (sweep.sl.v2423 (F := F) c M1 M2 M3 M7 M8 f1 f2 f3) (sweep.sl.v2424 (F := F) c M1 M2 M3 M7 M8 f1 f2 f3) (sweep.sl.v2415 (F := F) c M2 M3 M8 f2 f3) :=
  (at68 c M1 M2 M3 M7 M8 f1 f2 f3).next ((dirs10 c M1 M3 f1 f3).load M7 68 (by decide) (by decide)) (row_eq M2 f2 68 (by decide)) ((orgs10 c M2 M3 f2 f3).load M8 68 (by decide) (by decide))

/-- The sweep's state after chunk 70. -/
theorem at70 : At (reads c M1 M2 M3 f1 f2 f3) 70 (sweep.sl.v2455 (F := F) c M1 M2 M3 M7 M8 f1 f2 f3) (sweep.sl.v2456 (F := F) c M1 M2 M3 M7 M8 f1 f2 f3) (sweep.sl.v2457 (F := F) c M1 M2 M3 M7 M8 f1 f2 f3) (sweep.sl.v2448 (F := F) c M2 M3 M8 f2 f3) :=
  (at69 c M1 M2 M3 M7 M8 f1 f2 f3).next ((dirs10 c M1 M3 f1 f3).load M7 69 (by decide) (by decide)) (row_eq M2 f2 69 (by decide)) ((orgs10 c M2 M3 f2 f3).load M8 69 (by decide) (by decide))

/-- The sweep's state after chunk 72. -/
theorem at72 : At (reads c M1 M2 M3 f1 f2 f3) 72 (sweep.sl.v2521 (F := F) c M1 M2 M3 M7 M8 f1 f2 f3) (sweep.sl.v2522 (F := F) c M1 M2 M3 M7 M8 f1 f2 f3) (sweep.sl.v2523 (F := F) c M1 M2 M3 M7 M8 f1 f2 f3) (sweep.sl.v2514 (F := F) c M2 M3 M8 f2 f3) :=
  ((at70 c M1 M2 M3 M7 M8 f1 f2 f3).next ((dirs10 c M1 M3 f1 f3).load M7 70 (by decide) (by decide)) (row_eq M2 f2 70 (by decide)) ((orgs10 c M2 M3 f2 f3).load M8 70 (by decide) (by decide))).next ((dirs10 c M1 M3 f1 f3).load M7 71 (by decide) (by decide)) (row_eq M2 f2 71 (by decide)) ((orgs10 c M2 M3 f2 f3).load M8 71 (by decide) (by decide))

/-- The sweep's state after chunk 74. -/
theorem at74 : At (reads c M1 M2 M3 f1 f2 f3) 74 (sweep.sl.v2599 (F := F) c M1 M2 M3 M7 M8 f1 f2 f3) (sweep.sl.v2600 (F := F) c M1 M2 M3 M7 M8 f1 f2 f3) (sweep.sl.v2601 (F := F) c M1 M2 M3 M7 M8 f1 f2 f3) (sweep.sl.v2592 (F := F) c M2 M3 M8 f2 f3) :=
  ((at72 c M1 M2 M3 M7 M8 f1 f2 f3).next ((dirs11 c M1 M3 f1 f3).load M7 72 (by decide) (by decide)) (row_eq M2 f2 72 (by decide)) ((orgs11 c M2 M3 f2 f3).load M8 72 (by decide) (by decide))).next ((dirs11 c M1 M3 f1 f3).load M7 73 (by decide) (by decide)) (row_eq M2 f2 73 (by decide)) ((orgs11 c M2 M3 f2 f3).load M8 73 (by decide) (by decide))

/-- The sweep's state after chunk 75. -/
theorem at75 : At (reads c M1 M2 M3 f1 f2 f3) 75 (sweep.sl.v2632 (F := F) c M1 M2 M3 M7 M8 f1 f2 f3) (sweep.sl.v2633 (F := F) c M1 M2 M3 M7 M8 f1 f2 f3) (sweep.sl.v2634 (F := F) c M1 M2 M3 M7 M8 f1 f2 f3) (sweep.sl.v2625 (F := F) c M2 M3 M8 f2 f3) :=
  (at74 c M1 M2 M3 M7 M8 f1 f2 f3).next ((dirs11 c M1 M3 f1 f3).load M7 74 (by decide) (by decide)) (row_eq M2 f2 74 (by decide)) ((orgs11 c M2 M3 f2 f3).load M8 74 (by decide) (by decide))

/-- The sweep's state after chunk 76. -/
theorem at76 : At (reads c M1 M2 M3 f1 f2 f3) 76 (sweep.sl.v2665 (F := F) c M1 M2 M3 M7 M8 f1 f2 f3) (sweep.sl.v2666 (F := F) c M1 M2 M3 M7 M8 f1 f2 f3) (sweep.sl.v2667 (F := F) c M1 M2 M3 M7 M8 f1 f2 f3) (sweep.sl.v2658 (F := F) c M2 M3 M8 f2 f3) :=
  (at75 c M1 M2 M3 M7 M8 f1 f2 f3).next ((dirs11 c M1 M3 f1 f3).load M7 75 (by decide) (by decide)) (row_eq M2 f2 75 (by decide)) ((orgs11 c M2 M3 f2 f3).load M8 75 (by decide) (by decide))

/-- The sweep's state after chunk 79. -/
theorem at79 : At (reads c M1 M2 M3 f1 f2 f3) 79 (sweep.sl.v2764 (F := F) c M1 M2 M3 M7 M8 f1 f2 f3) (sweep.sl.v2765 (F := F) c M1 M2 M3 M7 M8 f1 f2 f3) (sweep.sl.v2766 (F := F) c M1 M2 M3 M7 M8 f1 f2 f3) (sweep.sl.v2757 (F := F) c M2 M3 M8 f2 f3) :=
  (((at76 c M1 M2 M3 M7 M8 f1 f2 f3).next ((dirs11 c M1 M3 f1 f3).load M7 76 (by decide) (by decide)) (row_eq M2 f2 76 (by decide)) ((orgs11 c M2 M3 f2 f3).load M8 76 (by decide) (by decide))).next ((dirs11 c M1 M3 f1 f3).load M7 77 (by decide) (by decide)) (row_eq M2 f2 77 (by decide)) ((orgs11 c M2 M3 f2 f3).load M8 77 (by decide) (by decide))).next ((dirs11 c M1 M3 f1 f3).load M7 78 (by decide) (by decide)) (row_eq M2 f2 78 (by decide)) ((orgs11 c M2 M3 f2 f3).load M8 78 (by decide) (by decide))

/-- The sweep's state after chunk 80. -/
theorem at80 : At (reads c M1 M2 M3 f1 f2 f3) 80 (sweep.sl.v2797 (F := F) c M1 M2 M3 M7 M8 f1 f2 f3) (sweep.sl.v2798 (F := F) c M1 M2 M3 M7 M8 f1 f2 f3) (sweep.sl.v2799 (F := F) c M1 M2 M3 M7 M8 f1 f2 f3) (sweep.sl.v2790 (F := F) c M2 M3 M8 f2 f3) :=
  (at79 c M1 M2 M3 M7 M8 f1 f2 f3).next ((dirs11 c M1 M3 f1 f3).load M7 79 (by decide) (by decide)) (row_eq M2 f2 79 (by decide)) ((orgs11 c M2 M3 f2 f3).load M8 79 (by decide) (by decide))

/-- The sweep's state after chunk 81. -/
theorem at81 : At (reads c M1 M2 M3 f1 f2 f3) 81 (sweep.sl.v2842 (F := F) c M1 M2 M3 M7 M8 f1 f2 f3) (sweep.sl.v2843 (F := F) c M1 M2 M3 M7 M8 f1 f2 f3) (sweep.sl.v2844 (F := F) c M1 M2 M3 M7 M8 f1 f2 f3) (sweep.sl.v2835 (F := F) c M2 M3 M8 f2 f3) :=
  (at80 c M1 M2 M3 M7 M8 f1 f2 f3).next ((dirs12 c M1 M3 f1 f3).load M7 80 (by decide) (by decide)) (row_eq M2 f2 80 (by decide)) ((orgs12 c M2 M3 f2 f3).load M8 80 (by decide) (by decide))

/-- The sweep's state after chunk 82. -/
theorem at82 : At (reads c M1 M2 M3 f1 f2 f3) 82 (sweep.sl.v2875 (F := F) c M1 M2 M3 M7 M8 f1 f2 f3) (sweep.sl.v2876 (F := F) c M1 M2 M3 M7 M8 f1 f2 f3) (sweep.sl.v2877 (F := F) c M1 M2 M3 M7 M8 f1 f2 f3) (sweep.sl.v2868 (F := F) c M2 M3 M8 f2 f3) :=
  (at81 c M1 M2 M3 M7 M8 f1 f2 f3).next ((dirs12 c M1 M3 f1 f3).load M7 81 (by decide) (by decide)) (row_eq M2 f2 81 (by decide)) ((orgs12 c M2 M3 f2 f3).load M8 81 (by decide) (by decide))

/-- The sweep's state after chunk 85. -/
theorem at85 : At (reads c M1 M2 M3 f1 f2 f3) 85 (sweep.sl.v2974 (F := F) c M1 M2 M3 M7 M8 f1 f2 f3) (sweep.sl.v2975 (F := F) c M1 M2 M3 M7 M8 f1 f2 f3) (sweep.sl.v2976 (F := F) c M1 M2 M3 M7 M8 f1 f2 f3) (sweep.sl.v2967 (F := F) c M2 M3 M8 f2 f3) :=
  (((at82 c M1 M2 M3 M7 M8 f1 f2 f3).next ((dirs12 c M1 M3 f1 f3).load M7 82 (by decide) (by decide)) (row_eq M2 f2 82 (by decide)) ((orgs12 c M2 M3 f2 f3).load M8 82 (by decide) (by decide))).next ((dirs12 c M1 M3 f1 f3).load M7 83 (by decide) (by decide)) (row_eq M2 f2 83 (by decide)) ((orgs12 c M2 M3 f2 f3).load M8 83 (by decide) (by decide))).next ((dirs12 c M1 M3 f1 f3).load M7 84 (by decide) (by decide)) (row_eq M2 f2 84 (by decide)) ((orgs12 c M2 M3 f2 f3).load M8 84 (by decide) (by decide))

/-- The sweep's state after chunk 86. -/
theorem at86 : At (reads c M1 M2 M3 f1 f2 f3) 86 (sweep.sl.v3007 (F := F) c M1 M2 M3 M7 M8 f1 f2 f3) (sweep.sl.v3008 (F := F) c M1 M2 M3 M7 M8 f1 f2 f3) (sweep.sl.v3009 (F := F) c M1 M2 M3 M7 M8 f1 f2 f3) (sweep.sl.v3000 (F := F) c M2 M3 M8 f2 f3) :=
  (at85 c M1 M2 M3 M7 M8 f1 f2 f3).next ((dirs12 c M1 M3 f1 f3).load M7 85 (by decide) (by decide)) (row_eq M2 f2 85 (by decide)) ((orgs12 c M2 M3 f2 f3).load M8 85 (by decide) (by decide))

/-- The sweep's state after chunk 88. -/
theorem at88 : At (reads c M1 M2 M3 f1 f2 f3) 88 (sweep.sl.v3073 (F := F) c M1 M2 M3 M7 M8 f1 f2 f3) (sweep.sl.v3074 (F := F) c M1 M2 M3 M7 M8 f1 f2 f3) (sweep.sl.v3075 (F := F) c M1 M2 M3 M7 M8 f1 f2 f3) (sweep.sl.v3066 (F := F) c M2 M3 M8 f2 f3) :=
  ((at86 c M1 M2 M3 M7 M8 f1 f2 f3).next ((dirs12 c M1 M3 f1 f3).load M7 86 (by decide) (by decide)) (row_eq M2 f2 86 (by decide)) ((orgs12 c M2 M3 f2 f3).load M8 86 (by decide) (by decide))).next ((dirs12 c M1 M3 f1 f3).load M7 87 (by decide) (by decide)) (row_eq M2 f2 87 (by decide)) ((orgs12 c M2 M3 f2 f3).load M8 87 (by decide) (by decide))

/-- The sweep's state after chunk 91. -/
theorem at91 : At (reads c M1 M2 M3 f1 f2 f3) 91 (sweep.sl.v3184 (F := F) c M1 M2 M3 M7 M8 f1 f2 f3) (sweep.sl.v3185 (F := F) c M1 M2 M3 M7 M8 f1 f2 f3) (sweep.sl.v3186 (F := F) c M1 M2 M3 M7 M8 f1 f2 f3) (sweep.sl.v3177 (F := F) c M2 M3 M8 f2 f3) :=
  (((at88 c M1 M2 M3 M7 M8 f1 f2 f3).next ((dirs13 c M1 M3 f1 f3).load M7 88 (by decide) (by decide)) (row_eq M2 f2 88 (by decide)) ((orgs13 c M2 M3 f2 f3).load M8 88 (by decide) (by decide))).next ((dirs13 c M1 M3 f1 f3).load M7 89 (by decide) (by decide)) (row_eq M2 f2 89 (by decide)) ((orgs13 c M2 M3 f2 f3).load M8 89 (by decide) (by decide))).next ((dirs13 c M1 M3 f1 f3).load M7 90 (by decide) (by decide)) (row_eq M2 f2 90 (by decide)) ((orgs13 c M2 M3 f2 f3).load M8 90 (by decide) (by decide))

/-- The sweep's state after chunk 92. -/
theorem at92 : At (reads c M1 M2 M3 f1 f2 f3) 92 (sweep.sl.v3217 (F := F) c M1 M2 M3 M7 M8 f1 f2 f3) (sweep.sl.v3218 (F := F) c M1 M2 M3 M7 M8 f1 f2 f3) (sweep.sl.v3219 (F := F) c M1 M2 M3 M7 M8 f1 f2 f3) (sweep.sl.v3210 (F := F) c M2 M3 M8 f2 f3) :=
  (at91 c M1 M2 M3 M7 M8 f1 f2 f3).next ((dirs13 c M1 M3 f1 f3).load M7 91 (by decide) (by decide)) (row_eq M2 f2 91 (by decide)) ((orgs13 c M2 M3 f2 f3).load M8 91 (by decide) (by decide))

/-- The sweep's state after chunk 95. -/
theorem at95 : At (reads c M1 M2 M3 f1 f2 f3) 95 (sweep.sl.v3316 (F := F) c M1 M2 M3 M7 M8 f1 f2 f3) (sweep.sl.v3317 (F := F) c M1 M2 M3 M7 M8 f1 f2 f3) (sweep.sl.v3318 (F := F) c M1 M2 M3 M7 M8 f1 f2 f3) (sweep.sl.v3309 (F := F) c M2 M3 M8 f2 f3) :=
  (((at92 c M1 M2 M3 M7 M8 f1 f2 f3).next ((dirs13 c M1 M3 f1 f3).load M7 92 (by decide) (by decide)) (row_eq M2 f2 92 (by decide)) ((orgs13 c M2 M3 f2 f3).load M8 92 (by decide) (by decide))).next ((dirs13 c M1 M3 f1 f3).load M7 93 (by decide) (by decide)) (row_eq M2 f2 93 (by decide)) ((orgs13 c M2 M3 f2 f3).load M8 93 (by decide) (by decide))).next ((dirs13 c M1 M3 f1 f3).load M7 94 (by decide) (by decide)) (row_eq M2 f2 94 (by decide)) ((orgs13 c M2 M3 f2 f3).load M8 94 (by decide) (by decide))

/-- The sweep's state after chunk 96. -/
theorem at96 : At (reads c M1 M2 M3 f1 f2 f3) 96 (sweep.sl.v3349 (F := F) c M1 M2 M3 M7 M8 f1 f2 f3) (sweep.sl.v3350 (F := F) c M1 M2 M3 M7 M8 f1 f2 f3) (sweep.sl.v3351 (F := F) c M1 M2 M3 M7 M8 f1 f2 f3) (sweep.sl.v3342 (F := F) c M2 M3 M8 f2 f3) :=
  (at95 c M1 M2 M3 M7 M8 f1 f2 f3).next ((dirs13 c M1 M3 f1 f3).load M7 95 (by decide) (by decide)) (row_eq M2 f2 95 (by decide)) ((orgs13 c M2 M3 f2 f3).load M8 95 (by decide) (by decide))

/-- The sweep's state after chunk 97. -/
theorem at97 : At (reads c M1 M2 M3 f1 f2 f3) 97 (sweep.sl.v3394 (F := F) c M1 M2 M3 M7 M8 f1 f2 f3) (sweep.sl.v3395 (F := F) c M1 M2 M3 M7 M8 f1 f2 f3) (sweep.sl.v3396 (F := F) c M1 M2 M3 M7 M8 f1 f2 f3) (sweep.sl.v3387 (F := F) c M2 M3 M8 f2 f3) :=
  (at96 c M1 M2 M3 M7 M8 f1 f2 f3).next ((dirs14 c M1 M3 f1 f3).load M7 96 (by decide) (by decide)) (row_eq M2 f2 96 (by decide)) ((orgs14 c M2 M3 f2 f3).load M8 96 (by decide) (by decide))

/-- The sweep's state after chunk 98. -/
theorem at98 : At (reads c M1 M2 M3 f1 f2 f3) 98 (sweep.sl.v3427 (F := F) c M1 M2 M3 M7 M8 f1 f2 f3) (sweep.sl.v3428 (F := F) c M1 M2 M3 M7 M8 f1 f2 f3) (sweep.sl.v3429 (F := F) c M1 M2 M3 M7 M8 f1 f2 f3) (sweep.sl.v3420 (F := F) c M2 M3 M8 f2 f3) :=
  (at97 c M1 M2 M3 M7 M8 f1 f2 f3).next ((dirs14 c M1 M3 f1 f3).load M7 97 (by decide) (by decide)) (row_eq M2 f2 97 (by decide)) ((orgs14 c M2 M3 f2 f3).load M8 97 (by decide) (by decide))

/-- The sweep's state after chunk 101. -/
theorem at101 : At (reads c M1 M2 M3 f1 f2 f3) 101 (sweep.sl.v3526 (F := F) c M1 M2 M3 M7 M8 f1 f2 f3) (sweep.sl.v3527 (F := F) c M1 M2 M3 M7 M8 f1 f2 f3) (sweep.sl.v3528 (F := F) c M1 M2 M3 M7 M8 f1 f2 f3) (sweep.sl.v3519 (F := F) c M2 M3 M8 f2 f3) :=
  (((at98 c M1 M2 M3 M7 M8 f1 f2 f3).next ((dirs14 c M1 M3 f1 f3).load M7 98 (by decide) (by decide)) (row_eq M2 f2 98 (by decide)) ((orgs14 c M2 M3 f2 f3).load M8 98 (by decide) (by decide))).next ((dirs14 c M1 M3 f1 f3).load M7 99 (by decide) (by decide)) (row_eq M2 f2 99 (by decide)) ((orgs14 c M2 M3 f2 f3).load M8 99 (by decide) (by decide))).next ((dirs14 c M1 M3 f1 f3).load M7 100 (by decide) (by decide)) (row_eq M2 f2 100 (by decide)) ((orgs14 c M2 M3 f2 f3).load M8 100 (by decide) (by decide))

/-- The sweep's state after chunk 102. -/
theorem at102 : At (reads c M1 M2 M3 f1 f2 f3) 102 (sweep.sl.v3559 (F := F) c M1 M2 M3 M7 M8 f1 f2 f3) (sweep.sl.v3560 (F := F) c M1 M2 M3 M7 M8 f1 f2 f3) (sweep.sl.v3561 (F := F) c M1 M2 M3 M7 M8 f1 f2 f3) (sweep.sl.v3552 (F := F) c M2 M3 M8 f2 f3) :=
  (at101 c M1 M2 M3 M7 M8 f1 f2 f3).next ((dirs14 c M1 M3 f1 f3).load M7 101 (by decide) (by decide)) (row_eq M2 f2 101 (by decide)) ((orgs14 c M2 M3 f2 f3).load M8 101 (by decide) (by decide))

/-- The sweep's state after chunk 103. -/
theorem at103 : At (reads c M1 M2 M3 f1 f2 f3) 103 (sweep.sl.v3592 (F := F) c M1 M2 M3 M7 M8 f1 f2 f3) (sweep.sl.v3593 (F := F) c M1 M2 M3 M7 M8 f1 f2 f3) (sweep.sl.v3594 (F := F) c M1 M2 M3 M7 M8 f1 f2 f3) (sweep.sl.v3585 (F := F) c M2 M3 M8 f2 f3) :=
  (at102 c M1 M2 M3 M7 M8 f1 f2 f3).next ((dirs14 c M1 M3 f1 f3).load M7 102 (by decide) (by decide)) (row_eq M2 f2 102 (by decide)) ((orgs14 c M2 M3 f2 f3).load M8 102 (by decide) (by decide))

/-- The sweep's state after chunk 104. -/
theorem at104 : At (reads c M1 M2 M3 f1 f2 f3) 104 (sweep.sl.v3625 (F := F) c M1 M2 M3 M7 M8 f1 f2 f3) (sweep.sl.v3626 (F := F) c M1 M2 M3 M7 M8 f1 f2 f3) (sweep.sl.v3627 (F := F) c M1 M2 M3 M7 M8 f1 f2 f3) (sweep.sl.v3618 (F := F) c M2 M3 M8 f2 f3) :=
  (at103 c M1 M2 M3 M7 M8 f1 f2 f3).next ((dirs14 c M1 M3 f1 f3).load M7 103 (by decide) (by decide)) (row_eq M2 f2 103 (by decide)) ((orgs14 c M2 M3 f2 f3).load M8 103 (by decide) (by decide))

/-- The sweep's state after chunk 107. -/
theorem at107 : At (reads c M1 M2 M3 f1 f2 f3) 107 (sweep.sl.v3736 (F := F) c M1 M2 M3 M7 M8 f1 f2 f3) (sweep.sl.v3737 (F := F) c M1 M2 M3 M7 M8 f1 f2 f3) (sweep.sl.v3738 (F := F) c M1 M2 M3 M7 M8 f1 f2 f3) (sweep.sl.v3729 (F := F) c M2 M3 M8 f2 f3) :=
  (((at104 c M1 M2 M3 M7 M8 f1 f2 f3).next ((dirs15 c M1 M3 f1 f3).load M7 104 (by decide) (by decide)) (row_eq M2 f2 104 (by decide)) ((orgs15 c M2 M3 f2 f3).load M8 104 (by decide) (by decide))).next ((dirs15 c M1 M3 f1 f3).load M7 105 (by decide) (by decide)) (row_eq M2 f2 105 (by decide)) ((orgs15 c M2 M3 f2 f3).load M8 105 (by decide) (by decide))).next ((dirs15 c M1 M3 f1 f3).load M7 106 (by decide) (by decide)) (row_eq M2 f2 106 (by decide)) ((orgs15 c M2 M3 f2 f3).load M8 106 (by decide) (by decide))

/-- The sweep's state after chunk 108. -/
theorem at108 : At (reads c M1 M2 M3 f1 f2 f3) 108 (sweep.sl.v3769 (F := F) c M1 M2 M3 M7 M8 f1 f2 f3) (sweep.sl.v3770 (F := F) c M1 M2 M3 M7 M8 f1 f2 f3) (sweep.sl.v3771 (F := F) c M1 M2 M3 M7 M8 f1 f2 f3) (sweep.sl.v3762 (F := F) c M2 M3 M8 f2 f3) :=
  (at107 c M1 M2 M3 M7 M8 f1 f2 f3).next ((dirs15 c M1 M3 f1 f3).load M7 107 (by decide) (by decide)) (row_eq M2 f2 107 (by decide)) ((orgs15 c M2 M3 f2 f3).load M8 107 (by decide) (by decide))

/-- The sweep's state after chunk 109. -/
theorem at109 : At (reads c M1 M2 M3 f1 f2 f3) 109 (sweep.sl.v3802 (F := F) c M1 M2 M3 M7 M8 f1 f2 f3) (sweep.sl.v3803 (F := F) c M1 M2 M3 M7 M8 f1 f2 f3) (sweep.sl.v3804 (F := F) c M1 M2 M3 M7 M8 f1 f2 f3) (sweep.sl.v3795 (F := F) c M2 M3 M8 f2 f3) :=
  (at108 c M1 M2 M3 M7 M8 f1 f2 f3).next ((dirs15 c M1 M3 f1 f3).load M7 108 (by decide) (by decide)) (row_eq M2 f2 108 (by decide)) ((orgs15 c M2 M3 f2 f3).load M8 108 (by decide) (by decide))

/-- The sweep's state after chunk 111. -/
theorem at111 : At (reads c M1 M2 M3 f1 f2 f3) 111 (sweep.sl.v3868 (F := F) c M1 M2 M3 M7 M8 f1 f2 f3) (sweep.sl.v3869 (F := F) c M1 M2 M3 M7 M8 f1 f2 f3) (sweep.sl.v3870 (F := F) c M1 M2 M3 M7 M8 f1 f2 f3) (sweep.sl.v3861 (F := F) c M2 M3 M8 f2 f3) :=
  ((at109 c M1 M2 M3 M7 M8 f1 f2 f3).next ((dirs15 c M1 M3 f1 f3).load M7 109 (by decide) (by decide)) (row_eq M2 f2 109 (by decide)) ((orgs15 c M2 M3 f2 f3).load M8 109 (by decide) (by decide))).next ((dirs15 c M1 M3 f1 f3).load M7 110 (by decide) (by decide)) (row_eq M2 f2 110 (by decide)) ((orgs15 c M2 M3 f2 f3).load M8 110 (by decide) (by decide))

/-- The sweep's state after chunk 112. -/
theorem at112 : At (reads c M1 M2 M3 f1 f2 f3) 112 (sweep.sl.v3901 (F := F) c M1 M2 M3 M7 M8 f1 f2 f3) (sweep.sl.v3902 (F := F) c M1 M2 M3 M7 M8 f1 f2 f3) (sweep.sl.v3903 (F := F) c M1 M2 M3 M7 M8 f1 f2 f3) (sweep.sl.v3894 (F := F) c M2 M3 M8 f2 f3) :=
  (at111 c M1 M2 M3 M7 M8 f1 f2 f3).next ((dirs15 c M1 M3 f1 f3).load M7 111 (by decide) (by decide)) (row_eq M2 f2 111 (by decide)) ((orgs15 c M2 M3 f2 f3).load M8 111 (by decide) (by decide))

/-- The sweep's state after chunk 113. -/
theorem at113 : At (reads c M1 M2 M3 f1 f2 f3) 113 (sweep.sl.v3946 (F := F) c M1 M2 M3 M7 M8 f1 f2 f3) (sweep.sl.v3947 (F := F) c M1 M2 M3 M7 M8 f1 f2 f3) (sweep.sl.v3948 (F := F) c M1 M2 M3 M7 M8 f1 f2 f3) (sweep.sl.v3939 (F := F) c M2 M3 M8 f2 f3) :=
  (at112 c M1 M2 M3 M7 M8 f1 f2 f3).next ((dirs16 c M1 M3 f1 f3).load M7 112 (by decide) (by decide)) (row_eq M2 f2 112 (by decide)) ((orgs16 c M2 M3 f2 f3).load M8 112 (by decide) (by decide))

/-- The sweep's state after chunk 114. -/
theorem at114 : At (reads c M1 M2 M3 f1 f2 f3) 114 (sweep.sl.v3979 (F := F) c M1 M2 M3 M7 M8 f1 f2 f3) (sweep.sl.v3980 (F := F) c M1 M2 M3 M7 M8 f1 f2 f3) (sweep.sl.v3981 (F := F) c M1 M2 M3 M7 M8 f1 f2 f3) (sweep.sl.v3972 (F := F) c M2 M3 M8 f2 f3) :=
  (at113 c M1 M2 M3 M7 M8 f1 f2 f3).next ((dirs16 c M1 M3 f1 f3).load M7 113 (by decide) (by decide)) (row_eq M2 f2 113 (by decide)) ((orgs16 c M2 M3 f2 f3).load M8 113 (by decide) (by decide))

/-- The sweep's state after chunk 115. -/
theorem at115 : At (reads c M1 M2 M3 f1 f2 f3) 115 (sweep.sl.v4012 (F := F) c M1 M2 M3 M7 M8 f1 f2 f3) (sweep.sl.v4013 (F := F) c M1 M2 M3 M7 M8 f1 f2 f3) (sweep.sl.v4014 (F := F) c M1 M2 M3 M7 M8 f1 f2 f3) (sweep.sl.v4005 (F := F) c M2 M3 M8 f2 f3) :=
  (at114 c M1 M2 M3 M7 M8 f1 f2 f3).next ((dirs16 c M1 M3 f1 f3).load M7 114 (by decide) (by decide)) (row_eq M2 f2 114 (by decide)) ((orgs16 c M2 M3 f2 f3).load M8 114 (by decide) (by decide))

/-- The sweep's state after chunk 117. -/
theorem at117 : At (reads c M1 M2 M3 f1 f2 f3) 117 (sweep.sl.v4078 (F := F) c M1 M2 M3 M7 M8 f1 f2 f3) (sweep.sl.v4079 (F := F) c M1 M2 M3 M7 M8 f1 f2 f3) (sweep.sl.v4080 (F := F) c M1 M2 M3 M7 M8 f1 f2 f3) (sweep.sl.v4071 (F := F) c M2 M3 M8 f2 f3) :=
  ((at115 c M1 M2 M3 M7 M8 f1 f2 f3).next ((dirs16 c M1 M3 f1 f3).load M7 115 (by decide) (by decide)) (row_eq M2 f2 115 (by decide)) ((orgs16 c M2 M3 f2 f3).load M8 115 (by decide) (by decide))).next ((dirs16 c M1 M3 f1 f3).load M7 116 (by decide) (by decide)) (row_eq M2 f2 116 (by decide)) ((orgs16 c M2 M3 f2 f3).load M8 116 (by decide) (by decide))

/-- The sweep's state after chunk 118. -/
theorem at118 : At (reads c M1 M2 M3 f1 f2 f3) 118 (sweep.sl.v4111 (F := F) c M1 M2 M3 M7 M8 f1 f2 f3) (sweep.sl.v4112 (F := F) c M1 M2 M3 M7 M8 f1 f2 f3) (sweep.sl.v4113 (F := F) c M1 M2 M3 M7 M8 f1 f2 f3) (sweep.sl.v4104 (F := F) c M2 M3 M8 f2 f3) :=
  (at117 c M1 M2 M3 M7 M8 f1 f2 f3).next ((dirs16 c M1 M3 f1 f3).load M7 117 (by decide) (by decide)) (row_eq M2 f2 117 (by decide)) ((orgs16 c M2 M3 f2 f3).load M8 117 (by decide) (by decide))

/-- The sweep's state after chunk 119. -/
theorem at119 : At (reads c M1 M2 M3 f1 f2 f3) 119 (sweep.sl.v4144 (F := F) c M1 M2 M3 M7 M8 f1 f2 f3) (sweep.sl.v4145 (F := F) c M1 M2 M3 M7 M8 f1 f2 f3) (sweep.sl.v4146 (F := F) c M1 M2 M3 M7 M8 f1 f2 f3) (sweep.sl.v4137 (F := F) c M2 M3 M8 f2 f3) :=
  (at118 c M1 M2 M3 M7 M8 f1 f2 f3).next ((dirs16 c M1 M3 f1 f3).load M7 118 (by decide) (by decide)) (row_eq M2 f2 118 (by decide)) ((orgs16 c M2 M3 f2 f3).load M8 118 (by decide) (by decide))

/-- The sweep's state after chunk 122. -/
theorem at122 : At (reads c M1 M2 M3 f1 f2 f3) 122 (sweep.sl.v4243 (F := F) c M1 M2 M3 M7 M8 f1 f2 f3) (sweep.sl.v4244 (F := F) c M1 M2 M3 M7 M8 f1 f2 f3) (sweep.sl.v4245 (F := F) c M1 M2 M3 M7 M8 f1 f2 f3) (sweep.sl.v4236 (F := F) c M2 M3 M8 f2 f3) :=
  (((at119 c M1 M2 M3 M7 M8 f1 f2 f3).next ((dirs16 c M1 M3 f1 f3).load M7 119 (by decide) (by decide)) (row_eq M2 f2 119 (by decide)) ((orgs16 c M2 M3 f2 f3).load M8 119 (by decide) (by decide))).next ((dirs16 c M1 M3 f1 f3).load M7 120 (by decide) (by decide)) (row_eq M2 f2 120 (by decide)) ((orgs16 c M2 M3 f2 f3).load M8 120 (by decide) (by decide))).next ((dirs16 c M1 M3 f1 f3).load M7 121 (by decide) (by decide)) (row_eq M2 f2 121 (by decide)) ((orgs16 c M2 M3 f2 f3).load M8 121 (by decide) (by decide))

/-- The sweep's state after chunk 123. -/
theorem at123 : At (reads c M1 M2 M3 f1 f2 f3) 123 (sweep.sl.v4276 (F := F) c M1 M2 M3 M7 M8 f1 f2 f3) (sweep.sl.v4277 (F := F) c M1 M2 M3 M7 M8 f1 f2 f3) (sweep.sl.v4278 (F := F) c M1 M2 M3 M7 M8 f1 f2 f3) (sweep.sl.v4269 (F := F) c M2 M3 M8 f2 f3) :=
  (at122 c M1 M2 M3 M7 M8 f1 f2 f3).next ((dirs16 c M1 M3 f1 f3).load M7 122 (by decide) (by decide)) (row_eq M2 f2 122 (by decide)) ((orgs16 c M2 M3 f2 f3).load M8 122 (by decide) (by decide))

/-- The sweep's state after chunk 126. -/
theorem at126 : At (reads c M1 M2 M3 f1 f2 f3) 126 (sweep.sl.v4375 (F := F) c M1 M2 M3 M7 M8 f1 f2 f3) (sweep.sl.v4376 (F := F) c M1 M2 M3 M7 M8 f1 f2 f3) (sweep.sl.v4377 (F := F) c M1 M2 M3 M7 M8 f1 f2 f3) (sweep.sl.v4368 (F := F) c M2 M3 M8 f2 f3) :=
  (((at123 c M1 M2 M3 M7 M8 f1 f2 f3).next ((dirs16 c M1 M3 f1 f3).load M7 123 (by decide) (by decide)) (row_eq M2 f2 123 (by decide)) ((orgs16 c M2 M3 f2 f3).load M8 123 (by decide) (by decide))).next ((dirs16 c M1 M3 f1 f3).load M7 124 (by decide) (by decide)) (row_eq M2 f2 124 (by decide)) ((orgs16 c M2 M3 f2 f3).load M8 124 (by decide) (by decide))).next ((dirs16 c M1 M3 f1 f3).load M7 125 (by decide) (by decide)) (row_eq M2 f2 125 (by decide)) ((orgs16 c M2 M3 f2 f3).load M8 125 (by decide) (by decide))

/-- The sweep's state after chunk 127. -/
theorem at127 : At (reads c M1 M2 M3 f1 f2 f3) 127 (sweep.sl.v4408 (F := F) c M1 M2 M3 M7 M8 f1 f2 f3) (sweep.sl.v4409 (F := F) c M1 M2 M3 M7 M8 f1 f2 f3) (sweep.sl.v4410 (F := F) c M1 M2 M3 M7 M8 f1 f2 f3) (sweep.sl.v4401 (F := F) c M2 M3 M8 f2 f3) :=
  (at126 c M1 M2 M3 M7 M8 f1 f2 f3).next ((dirs16 c M1 M3 f1 f3).load M7 126 (by decide) (by decide)) (row_eq M2 f2 126 (by decide)) ((orgs16 c M2 M3 f2 f3).load M8 126 (by decide) (by decide))

/-! ## What the sweep leaves -/

include M7 in
/-- The counts. -/
theorem sweep_cnt : (sweep.sl.v4445 (F := F) c M2 M3 M8 f2 f3) = cntOf (nSt (reads c M1 M2 M3 f1 f2 f3) 128) := congrArg cntOf ((at127 c M1 M2 M3 M7 M8 f1 f2 f3).next ((dirs16 c M1 M3 f1 f3).load M7 127 (by decide) (by decide)) (row_eq M2 f2 127 (by decide)) ((orgs16 c M2 M3 f2 f3).load M8 127 (by decide) (by decide))).hn
include M7 in
/-- Whether a row has a candidate within the radius. -/
theorem sweep_any : (sweep.sl.v4447 (F := F) c M2 M3 M8 f2 f3) = cmpi .sgt (cntOf (nSt (reads c M1 M2 M3 f1 f2 f3) 128)) (broadcast S128x1 0#32) :=
  congrArg (fun n => cmpi .sgt (cntOf n) (broadcast S128x1 0#32)) ((at127 c M1 M2 M3 M7 M8 f1 f2 f3).next ((dirs16 c M1 M3 f1 f3).load M7 127 (by decide) (by decide)) (row_eq M2 f2 127 (by decide)) ((orgs16 c M2 M3 f2 f3).load M8 127 (by decide) (by decide))).hn
/-- The maxima. -/
theorem sweep_max : (sweep.sl.v4449 (F := F) c M1 M2 M3 M7 M8 f1 f2 f3) = maxOf (mSt (reads c M1 M2 M3 f1 f2 f3) 128) := congrArg maxOf ((at127 c M1 M2 M3 M7 M8 f1 f2 f3).next ((dirs16 c M1 M3 f1 f3).load M7 127 (by decide) (by decide)) (row_eq M2 f2 127 (by decide)) ((orgs16 c M2 M3 f2 f3).load M8 127 (by decide) (by decide))).hm
/-- Their places. -/
theorem sweep_pick : (sweep.sl.v4455 (F := F) c M1 M2 M3 M7 M8 f1 f2 f3) = pick (mSt (reads c M1 M2 M3 f1 f2 f3) 128) (iSt (reads c M1 M2 M3 f1 f2 f3) 128) :=
  congrArg₂ pick ((at127 c M1 M2 M3 M7 M8 f1 f2 f3).next ((dirs16 c M1 M3 f1 f3).load M7 127 (by decide) (by decide)) (row_eq M2 f2 127 (by decide)) ((orgs16 c M2 M3 f2 f3).load M8 127 (by decide) (by decide))).hm ((at127 c M1 M2 M3 M7 M8 f1 f2 f3).next ((dirs16 c M1 M3 f1 f3).load M7 127 (by decide) (by decide)) (row_eq M2 f2 127 (by decide)) ((orgs16 c M2 M3 f2 f3).load M8 127 (by decide) (by decide))).hi
/-- Their squared distances. -/
theorem sweep_quo : (sweep.sl.v4461 (F := F) c M1 M2 M3 M7 M8 f1 f2 f3) = quo (iSt (reads c M1 M2 M3 f1 f2 f3) 128) (pick (mSt (reads c M1 M2 M3 f1 f2 f3) 128) (iSt (reads c M1 M2 M3 f1 f2 f3) 128)) (qSt (reads c M1 M2 M3 f1 f2 f3) 128) := by
  have h := ((at127 c M1 M2 M3 M7 M8 f1 f2 f3).next ((dirs16 c M1 M3 f1 f3).load M7 127 (by decide) (by decide)) (row_eq M2 f2 127 (by decide)) ((orgs16 c M2 M3 f2 f3).load M8 127 (by decide) (by decide)))
  rw [← h.hm, ← h.hi, ← h.hq]
  rfl
/-- The angles. -/
theorem sweep_angle : (sweep.sl.v4470 (F := F) c M1 M2 M3 M7 M8 f1 f2 f3) = angle (maxOf (mSt (reads c M1 M2 M3 f1 f2 f3) 128)) := congrArg (fun m => angle (maxOf m)) ((at127 c M1 M2 M3 M7 M8 f1 f2 f3).next ((dirs16 c M1 M3 f1 f3).load M7 127 (by decide) (by decide)) (row_eq M2 f2 127 (by decide)) ((orgs16 c M2 M3 f2 f3).load M8 127 (by decide) (by decide))).hm
/-- The distances. -/
theorem sweep_dist : (sweep.sl.v4475 (F := F) c M1 M2 M3 M7 M8 f1 f2 f3) = dist (sweep.sl.v4461 (F := F) c M1 M2 M3 M7 M8 f1 f2 f3) := rfl

end Cert.Proof

end
-- ==== Proof.Own.Recover.lean ====
module

public import proofs.«01_k».proof.Proof.Own.SweepRun

@[expose] public section

set_option maxRecDepth 65536
set_option maxHeartbeats 2000000

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-! ## The recovery, as recursions over the same chunks -/

/-- The greatest clipped cosine, lane by lane, after `r` chunks. -/
def accSt (C : S128x16384.Idx → F .f32) : ℕ → FVec F S128x128 .f32
  | 0 => broadcast S128x128 (Scalar.ofBits .f32 0xC0800000#32)
  | r + 1 => maximumf (accSt C r) (clip (win C r))
/-- A row's greatest clipped cosine, or minus five where the sweep has answered. -/
def topOf (any : IVec S128x1 1) (m : FVec F S128x128 .f32) : FVec F S128x1 .f32 := select any (broadcast S128x1 (Scalar.ofBits .f32 0xC0A00000#32)) (maxOf m)
/-- Where a chunk attains it in a lane that has no column yet. -/
def hits (top : FVec F S128x1 .f32) (i : IVec S128x128 32) (x : FVec F S128x128 .f32) : IVec S128x128 1 :=
  andi (cmpf .oeq (clip x) (broadcastTo S128x128 top broadcasts_S128x1_S128x128)) (cmpi .eq i (broadcast S128x128 16384#32))
/-- The first column of each lane that attains it, after `r` chunks. -/
def jSt (top : FVec F S128x1 .f32) (C : S128x16384.Idx → F .f32) : ℕ → IVec S128x128 32
  | 0 => broadcast S128x128 16384#32
  | r + 1 => select (hits top (jSt top C r) (win C r)) (addi (iota .tc S128x128 32 [1] iota_S128x128_d1_w32) (broadcast S128x128 (Scalar.muli (Scf.iv 0#32 1#32 r) 128#32))) (jSt top C r)
/-- Its squared distance. -/
def sSt (top : FVec F S128x1 .f32) (K : Reads F) : ℕ → FVec F S128x128 .f32
  | 0 => broadcast S128x128 (Scalar.ofBits .f32 0x00000000#32)
  | r + 1 => select (hits top (jSt top K.C r) (win K.C r)) (qCh K r) (sSt top K r)

/-- Two zero offsets. -/
theorem zero2 : (![0, 0] : Fin 2 → ℕ) = fun _ => 0 := funext fun a => match a with | ⟨0, _⟩ => rfl | ⟨1, _⟩ => rfl

/-- A load of a chunk of columns, its offsets a chain of words. -/
theorem win_eq {c : Dev nD} (M : Memref sig .tc .vmem S128x16384 .f32) (f : Bf F c M) (r : ℕ) (hr : r < 128) {off : Fin 2 → ℕ} (e : off = ![0, 128 * r])
    (inb : ∀ a, off a + S128x128.size a ≤ S128x16384.size a) :
    View.readAt (Elt F) M.view (Rect.unit (s := S128x16384) off S128x128.size inb).toLoadRect f = win (M.view.read (Elt F) f) r := by
  subst e
  funext y
  rw [View.readAt_apply]
  unfold win
  congr 1
  funext a
  apply Fin.ext
  have h1 : (y 1).val < 128 := (y 1).isLt
  match a with
  | ⟨0, _⟩ => show 0 + 1 * (y 0).val = (y 0).val; omega
  | ⟨1, _⟩ => show 128 * r + 1 * (y 1).val = (128 * r + (y 1).val) % 16384; omega
/-- A load of a chunk of the row of squared lengths, its offsets a chain of words. -/
theorem row_eq' {c : Dev nD} (M2 : Memref sig .tc .vmem S4x16384 .f32) (f2 : Bf F c M2) (r : ℕ) (hr : r < 128) {off : Fin 2 → ℕ} (e : off = ![3, 128 * r])
    (inb : ∀ a, off a + S1x128.size a ≤ S4x16384.size a) :
    View.readAt (Elt F) M2.view (Rect.unit (s := S4x16384) off S1x128.size inb).toLoadRect f2 = rowWin (M2.view.read (Elt F) f2) r := by
  subst e
  exact row_eq M2 f2 r (by omega)

section
variable (c : Dev nD) (i : grid1.Coords)
    (M1 : Memref sig .tc .vmem S3x16384 .f32) (h1 : M1.IsWhole) (M2 : Memref sig .tc .vmem S4x16384 .f32) (h2 : M2.IsWhole)
    (M3 : Memref sig .tc .vmem S128x16 .f32) (h3 : M3.IsWhole) (M4 : Memref sig .tc .vmem S128x11 .f32) (h4 : M4.IsWhole)
    (M5 : Memref sig .tc .vmem S128x1 .i32) (h5 : M5.IsWhole) (M6 : Memref sig .tc .vmem S128x1 .i32) (h6 : M6.IsWhole)
    (M7 : Memref sig .tc .vmem S128x16384 .f32) (h7 : M7.IsWhole) (M8 : Memref sig .tc .vmem S128x16384 .f32) (h8 : M8.IsWhole)
    (o2 : FVec F S128x1 .f32) (lane sent : IVec S128x128 32) (zf : FVec F S128x128 .f32)
    (anyIn : IVec S128x1 1) (mx : FVec F S128x1 .f32) (ix : IVec S128x1 32) (qx : FVec F S128x1 .f32) (tr9 : FVec F S128x9 .f32)
    (f2 : Bf F c M2) (f7 : Bf F c M7) (f8 : Bf F c M8)

/-- The first loop carries the lanes' maxima. -/
theorem first_loop (r : ℕ) (hr : r ≤ 128) :
    st_k1_t1 (F := F) Variants.none c none i M1 h1 M2 h2 M3 h3 M4 h4 M5 h5 M6 h6 M7 h7 M8 h8 o2 lane sent zf anyIn mx ix qx tr9 f7 k1_pay4 r
      = accSt (M7.view.read (Elt F) f7) r := by
  induction r with
  | zero => rfl
  | succ r ih =>
    have hr' : r < k1_t1_loop.trips := lt_of_lt_of_eq (show r < 128 by omega) (by decide)
    rw [show r + 1 = (⟨r, hr'⟩ : Fin k1_t1_loop.trips).val + 1 from rfl, st_k1_t1_succ, tripR_k1_t1]
    unfold trip_k1_t1
    show k1_pay5 _ (View.readAt (Elt F) M7.view (Rect.unit (s := S128x16384) (k1_off3 ⟨r, hr'⟩) S128x128.size _).toLoadRect f7) = _
    rw [win_eq M7 f7 r (by omega) (k1_off3_eq _), ih (by omega)]
    rfl

/-- One trip of the second loop. -/
theorem second_trip (m : FVec F S128x128 .f32) (r : ℕ) (hr : r < 128) (hr' : r < k1_t2_loop.trips) (acc : IVec S128x128 32 × FVec F S128x128 .f32) :
    tripR_k1_t2 (F := F) Variants.none c none i M1 h1 M2 h2 M3 h3 M4 h4 M5 h5 M6 h6 M7 h7 M8 h8 o2 lane sent zf anyIn mx ix qx tr9 m f2 f7 f8 ⟨r, hr'⟩ acc
      = (k1_pay8 lane anyIn m ⟨r, hr'⟩ acc.1 (win (M7.view.read (Elt F) f7) r),
          k1_pay9 o2 anyIn m acc.1 acc.2 (win (M7.view.read (Elt F) f7) r) (rowWin (M2.view.read (Elt F) f2) r) (win (M8.view.read (Elt F) f8) r)) := by
  rw [tripR_k1_t2]
  unfold trip_k1_t2
  show (k1_pay8 _ _ _ _ _ (View.readAt (Elt F) M7.view (Rect.unit (s := S128x16384) (k1_off4 ⟨r, hr'⟩) S128x128.size _).toLoadRect f7),
      k1_pay9 _ _ _ _ _ (View.readAt (Elt F) M7.view (Rect.unit (s := S128x16384) (k1_off4 ⟨r, hr'⟩) S128x128.size _).toLoadRect f7)
        (View.readAt (Elt F) M2.view (Rect.unit (s := S4x16384) (k1_off5 ⟨r, hr'⟩) S1x128.size _).toLoadRect f2)
        (View.readAt (Elt F) M8.view (Rect.unit (s := S128x16384) (k1_off4 ⟨r, hr'⟩) S128x128.size _).toLoadRect f8)) = _
  rw [win_eq M7 f7 r hr (k1_off4_eq _), win_eq M8 f8 r hr (k1_off4_eq _), row_eq' M2 f2 r hr (k1_off5_eq _)]

/-- The second carries the first columns that attain a row's maximum, with their squared distances. -/
theorem second_loop (m : FVec F S128x128 .f32) (r : ℕ) (hr : r ≤ 128) :
    st_k1_t2 (F := F) Variants.none c none i M1 h1 M2 h2 M3 h3 M4 h4 M5 h5 M6 h6 M7 h7 M8 h8 o2 (iota .tc S128x128 32 [1] iota_S128x128_d1_w32) sent zf anyIn mx ix qx tr9 m f2 f7 f8
        (broadcast S128x128 16384#32, broadcast S128x128 (Scalar.ofBits .f32 0x00000000#32)) r
      = (jSt (topOf anyIn m) (M7.view.read (Elt F) f7) r, sSt (topOf anyIn m) ⟨o2, M2.view.read (Elt F) f2, M7.view.read (Elt F) f7, M8.view.read (Elt F) f8⟩ r) := by
  induction r with
  | zero => rfl
  | succ r ih =>
    have hr' : r < k1_t2_loop.trips := lt_of_lt_of_eq (show r < 128 by omega) (by decide)
    refine (st_k1_t2_succ _ _ _ _ _ _ _ _ _ _ _ _ _ _ _ _ _ _ _ _ _ _ _ _ _ _ _ _ _ _ _ _ _ _ ⟨r, hr'⟩).trans ?_
    refine (second_trip c i M1 h1 M2 h2 M3 h3 M4 h4 M5 h5 M6 h6 M7 h7 M8 h8 o2 _ sent zf anyIn mx ix qx tr9 f2 f7 f8 m r (by omega) hr' _).trans ?_
    rw [ih (by omega)]
    rfl

end

/-! ## What a point computes, from what it reads -/

/-- Whether a row has a candidate within the radius. -/
def anyOf (K : Reads F) : IVec S128x1 1 := cmpi .sgt (cntOf (nSt K 128)) (broadcast S128x1 0#32)
/-- Whether some row has none. -/
def lacks (K : Reads F) : BitVec 1 :=
  Scalar.cmpi .ne (Scalar.extui (Scalar.cmpi .sle (extractAt ![0, 0] (k1_pay3 (cntOf (nSt K 128))) inpos_S1x1_p0_0) 0#32) : BitVec 32) 0#32
/-- The recovery's top values. -/
def top2 (K : Reads F) : FVec F S128x1 .f32 := topOf (anyOf K) (accSt K.C 128)
/-- The cosine of each row's answer. -/
def ansM (K : Reads F) : FVec F S128x1 .f32 := if lacks K = 1#1 then select (anyOf K) (maxOf (mSt K 128)) (top2 K) else maxOf (mSt K 128)
/-- Its column. -/
def ansI (K : Reads F) : IVec S128x1 32 :=
  if lacks K = 1#1 then select (anyOf K) (pick (mSt K 128) (iSt K 128)) (minOf (jSt (top2 K) K.C 128)) else pick (mSt K 128) (iSt K 128)
/-- Its squared distance. -/
def ansQ (K : Reads F) : FVec F S128x1 .f32 :=
  if lacks K = 1#1 then select (anyOf K) (quo (iSt K 128) (pick (mSt K 128) (iSt K 128)) (qSt K 128)) (quo (jSt (top2 K) K.C 128) (minOf (jSt (top2 K) K.C 128)) (sSt (top2 K) K 128))
  else quo (iSt K 128) (pick (mSt K 128) (iSt K 128)) (qSt K 128)

/-- What a point reads, from its three blocks. -/
def readsOf (X0 : S3x16384.Idx → F .f32) (X1 : S4x16384.Idx → F .f32) (X2 : S128x16.Idx → F .f32) : Reads F :=
  ⟨k1_pay16 X2, X1, table (k1_pay14 X2) (blkX0 X0), table (k1_pay15 X2) (blkX1 X1)⟩
/-- The nine numbers of each row's rotation. -/
def nine (X2 : S128x16.Idx → F .f32) : FVec F S128x9 .f32 := k1_pay1 (k1_pay13 X2) (k1_pay1142 (k1_pay13 X2)) (k1_pay1143 (k1_pay13 X2))

/-- A point's answer, row by row. -/
def rowsOut (K : Reads F) (X2 : S128x16.Idx → F .f32) : FVec F S128x11 .f32 :=
  concatenate S128x11 1 [⟨S128x1, angle (ansM K)⟩, ⟨S128x1, dist (ansQ K)⟩, ⟨S128x9, nine X2⟩] concatenates_S128x1_S128x1_S128x9_S128x11_d1

section
variable (c : Dev nD) (i : grid1.Coords)
    (M1 : Memref sig .tc .vmem S3x16384 .f32) (h1 : M1.IsWhole) (M2 : Memref sig .tc .vmem S4x16384 .f32) (h2 : M2.IsWhole)
    (M3 : Memref sig .tc .vmem S128x16 .f32) (h3 : M3.IsWhole) (M4 : Memref sig .tc .vmem S128x11 .f32) (h4 : M4.IsWhole)
    (M5 : Memref sig .tc .vmem S128x1 .i32) (h5 : M5.IsWhole) (M6 : Memref sig .tc .vmem S128x1 .i32) (h6 : M6.IsWhole)
    (M7 : Memref sig .tc .vmem S128x16384 .f32) (h7 : M7.IsWhole) (M8 : Memref sig .tc .vmem S128x16384 .f32) (h8 : M8.IsWhole)
    (f1 : Bf F c M1) (f2 : Bf F c M2) (f3 : Bf F c M3)

/-- A load of a whole buffer. -/
theorem whole3 : View.readAt (Elt F) M3.view (Rect.unit (s := S128x16) ![0, 0] S128x16.size inb_S128x16_S128x16_0_0).toLoadRect f3 = M3.view.read (Elt F) f3 := by
  funext y
  rw [View.readAt_apply]
  congr 1
  funext a
  apply Fin.ext
  match a with
  | ⟨0, _⟩ => show 0 + 1 * (y 0).val = (y 0).val; omega
  | ⟨1, _⟩ => show 0 + 1 * (y 1).val = (y 1).val; omega

/-- The sweep reads what its blocks hold. -/
theorem reads_eq : reads c M1 M2 M3 f1 f2 f3 = readsOf (M1.view.read (Elt F) f1) (M2.view.read (Elt F) f2) (M3.view.read (Elt F) f3) := by
  unfold readsOf
  rw [← whole3 c M3 f3]
  rfl

/-- The table of cosines in its buffer. -/
theorem read7 : M7.view.read (Elt F) (sweep c i M1 h1 M2 h2 M3 h3 M4 h4 M5 h5 M6 h6 M7 h7 M8 h8 f1 f2 f3).1.b7 = (reads c M1 M2 M3 f1 f2 f3).C := by
  show M7.view.read (Elt F) (M7.view.writes (Elt F) M7.view.junk (sweep.sl.H7_16 c M1 M3 f1 f3)) = _
  have h := dirs16 c M1 M3 f1 f3
  rw [View.read_writes_eq_canon _ _ _ (fun y => h.cover y (y 1).isLt)]
  funext y
  exact View.canon_apply_of_pieces _ _ h.pieces y (h.cover y (y 1).isLt)
/-- The table of inner products in its buffer. -/
theorem read8 : M8.view.read (Elt F) (sweep c i M1 h1 M2 h2 M3 h3 M4 h4 M5 h5 M6 h6 M7 h7 M8 h8 f1 f2 f3).1.b8 = (reads c M1 M2 M3 f1 f2 f3).Q := by
  show M8.view.read (Elt F) (M8.view.writes (Elt F) M8.view.junk (sweep.sl.H8_16 c M2 M3 f2 f3)) = _
  have h := orgs16 c M2 M3 f2 f3
  rw [View.read_writes_eq_canon _ _ _ (fun y => h.cover y (y 1).isLt)]
  funext y
  exact View.canon_apply_of_pieces _ _ h.pieces y (h.cover y (y 1).isLt)

/-- The sweep's guard asks whether some row has no candidate within the radius. -/
theorem guard_eq : (sweep c i M1 h1 M2 h2 M3 h3 M4 h4 M5 h5 M6 h6 M7 h7 M8 h8 f1 f2 f3).1.guard = lacks (reads c M1 M2 M3 f1 f2 f3) := by
  unfold lacks
  rw [← sweep_cnt c M1 M2 M3 M7 M8 f1 f2 f3]
  rfl

/-- The count buffer. -/
theorem read6 : M6.view.read (Elt F) (left6 c i M1 h1 M2 h2 M3 h3 M4 h4 M5 h5 M6 h6 M7 h7 M8 h8 f1 f2 f3) = cntOf (nSt (reads c M1 M2 M3 f1 f2 f3) 128) := by
  rw [← sweep_cnt c M1 M2 M3 M7 M8 f1 f2 f3]
  show M6.view.read (Elt F) (M6.view.writes (Elt F) M6.view.junk [⟨Rect.unit (s := S128x1) ![0, 0] S128x1.size inb_S128x1_S128x1_0_0, sweep.sl.v4445 c M2 M3 M8 f2 f3⟩]) = _
  rw [View.read_writes_junk_eq_canon]
  exact View.canon_unit_zero zero2 _ _

/-- The recovery's first loop. -/
theorem acc_eq : st_k1_t1 (F := F) Variants.none c none i M1 h1 M2 h2 M3 h3 M4 h4 M5 h5 M6 h6 M7 h7 M8 h8 (sweep.sl.v20 c M3 f3) sweep.sl.v21 sweep.sl.v22 sweep.sl.v23 (sweep.sl.v4447 c M2 M3 M8 f2 f3) (sweep.sl.v4449 c M1 M2 M3 M7 M8 f1 f2 f3) (sweep.sl.v4455 c M1 M2 M3 M7 M8 f1 f2 f3) (sweep.sl.v4461 c M1 M2 M3 M7 M8 f1 f2 f3)
      (k1_pay1 (sweep.sl.v1 c M3 f3) (sweep.sl.v4476 c M3 f3) (sweep.sl.v4477 c M3 f3)) (sweep c i M1 h1 M2 h2 M3 h3 M4 h4 M5 h5 M6 h6 M7 h7 M8 h8 f1 f2 f3).1.b7 k1_pay4 (Scf.trips k1_t1_loop.lb k1_t1_loop.ub k1_t1_loop.st)
    = accSt (reads c M1 M2 M3 f1 f2 f3).C 128 := by
  rw [show Scf.trips k1_t1_loop.lb k1_t1_loop.ub k1_t1_loop.st = 128 by decide, first_loop _ _ _ _ _ _ _ _ _ _ _ _ _ _ _ _ _ _ _ _ _ _ _ _ _ _ _ _ 128 le_rfl, read7]

/-- And its second. -/
theorem pair_eq : st_k1_t2 (F := F) Variants.none c none i M1 h1 M2 h2 M3 h3 M4 h4 M5 h5 M6 h6 M7 h7 M8 h8 (sweep.sl.v20 c M3 f3) sweep.sl.v21 sweep.sl.v22 sweep.sl.v23 (sweep.sl.v4447 c M2 M3 M8 f2 f3) (sweep.sl.v4449 c M1 M2 M3 M7 M8 f1 f2 f3) (sweep.sl.v4455 c M1 M2 M3 M7 M8 f1 f2 f3) (sweep.sl.v4461 c M1 M2 M3 M7 M8 f1 f2 f3)
      (k1_pay1 (sweep.sl.v1 c M3 f3) (sweep.sl.v4476 c M3 f3) (sweep.sl.v4477 c M3 f3)) (accSt (reads c M1 M2 M3 f1 f2 f3).C 128) f2
      (sweep c i M1 h1 M2 h2 M3 h3 M4 h4 M5 h5 M6 h6 M7 h7 M8 h8 f1 f2 f3).1.b7 (sweep c i M1 h1 M2 h2 M3 h3 M4 h4 M5 h5 M6 h6 M7 h7 M8 h8 f1 f2 f3).1.b8 (sweep.sl.v22, sweep.sl.v23) (Scf.trips k1_t2_loop.lb k1_t2_loop.ub k1_t2_loop.st)
    = (jSt (top2 (reads c M1 M2 M3 f1 f2 f3)) (reads c M1 M2 M3 f1 f2 f3).C 128, sSt (top2 (reads c M1 M2 M3 f1 f2 f3)) (reads c M1 M2 M3 f1 f2 f3) 128) := by
  have h := second_loop c i M1 h1 M2 h2 M3 h3 M4 h4 M5 h5 M6 h6 M7 h7 M8 h8 (sweep.sl.v20 c M3 f3) sweep.sl.v22 sweep.sl.v23 (sweep.sl.v4447 c M2 M3 M8 f2 f3) (sweep.sl.v4449 c M1 M2 M3 M7 M8 f1 f2 f3) (sweep.sl.v4455 c M1 M2 M3 M7 M8 f1 f2 f3) (sweep.sl.v4461 c M1 M2 M3 M7 M8 f1 f2 f3)
      (k1_pay1 (sweep.sl.v1 c M3 f3) (sweep.sl.v4476 c M3 f3) (sweep.sl.v4477 c M3 f3)) f2 (sweep c i M1 h1 M2 h2 M3 h3 M4 h4 M5 h5 M6 h6 M7 h7 M8 h8 f1 f2 f3).1.b7 (sweep c i M1 h1 M2 h2 M3 h3 M4 h4 M5 h5 M6 h6 M7 h7 M8 h8 f1 f2 f3).1.b8
      (accSt (reads c M1 M2 M3 f1 f2 f3).C 128) 128 le_rfl
  rw [read7, read8, sweep_any c M1 M2 M3 M7 M8 f1 f2 f3] at h
  rw [show Scf.trips k1_t2_loop.lb k1_t2_loop.ub k1_t2_loop.st = 128 by decide, sweep_any c M1 M2 M3 M7 M8 f1 f2 f3]
  exact h

/-- The index buffer. -/
theorem read5 : M5.view.read (Elt F) (left5 c i M1 h1 M2 h2 M3 h3 M4 h4 M5 h5 M6 h6 M7 h7 M8 h8 f1 f2 f3) = ansI (reads c M1 M2 M3 f1 f2 f3) := by
  unfold left5 ansI
  rw [guard_eq]
  by_cases hg : lacks (reads c M1 M2 M3 f1 f2 f3) = 1#1
  · rw [if_pos hg, if_pos hg]
    show M5.view.read (Elt F) (M5.view.writes (Elt F) M5.view.junk [⟨Rect.unit (s := S128x1) ![0, 0] S128x1.size inb_S128x1_S128x1_0_0, k1_pay11 (sweep.sl.v4447 c M2 M3 M8 f2 f3) (sweep.sl.v4455 c M1 M2 M3 M7 M8 f1 f2 f3) (st_k1_t2 (F := F) Variants.none c none i M1 h1 M2 h2 M3 h3 M4 h4 M5 h5 M6 h6 M7 h7 M8 h8 (sweep.sl.v20 c M3 f3) sweep.sl.v21 sweep.sl.v22 sweep.sl.v23 (sweep.sl.v4447 c M2 M3 M8 f2 f3) (sweep.sl.v4449 c M1 M2 M3 M7 M8 f1 f2 f3) (sweep.sl.v4455 c M1 M2 M3 M7 M8 f1 f2 f3) (sweep.sl.v4461 c M1 M2 M3 M7 M8 f1 f2 f3)
      (k1_pay1 (sweep.sl.v1 c M3 f3) (sweep.sl.v4476 c M3 f3) (sweep.sl.v4477 c M3 f3)) (st_k1_t1 (F := F) Variants.none c none i M1 h1 M2 h2 M3 h3 M4 h4 M5 h5 M6 h6 M7 h7 M8 h8 (sweep.sl.v20 c M3 f3) sweep.sl.v21 sweep.sl.v22 sweep.sl.v23 (sweep.sl.v4447 c M2 M3 M8 f2 f3) (sweep.sl.v4449 c M1 M2 M3 M7 M8 f1 f2 f3) (sweep.sl.v4455 c M1 M2 M3 M7 M8 f1 f2 f3) (sweep.sl.v4461 c M1 M2 M3 M7 M8 f1 f2 f3)
      (k1_pay1 (sweep.sl.v1 c M3 f3) (sweep.sl.v4476 c M3 f3) (sweep.sl.v4477 c M3 f3)) (sweep c i M1 h1 M2 h2 M3 h3 M4 h4 M5 h5 M6 h6 M7 h7 M8 h8 f1 f2 f3).1.b7 k1_pay4 (Scf.trips k1_t1_loop.lb k1_t1_loop.ub k1_t1_loop.st)) f2
      (sweep c i M1 h1 M2 h2 M3 h3 M4 h4 M5 h5 M6 h6 M7 h7 M8 h8 f1 f2 f3).1.b7 (sweep c i M1 h1 M2 h2 M3 h3 M4 h4 M5 h5 M6 h6 M7 h7 M8 h8 f1 f2 f3).1.b8 (sweep.sl.v22, sweep.sl.v23) (Scf.trips k1_t2_loop.lb k1_t2_loop.ub k1_t2_loop.st)).1⟩]) = _
    rw [View.read_writes_junk_eq_canon, acc_eq, pair_eq, sweep_any c M1 M2 M3 M7 M8 f1 f2 f3, sweep_pick]
    exact View.canon_unit_zero zero2 _ _
  · rw [if_neg hg, if_neg hg, ← sweep_pick c M1 M2 M3 M7 M8 f1 f2 f3]
    show M5.view.read (Elt F) (M5.view.writes (Elt F) M5.view.junk [⟨Rect.unit (s := S128x1) ![0, 0] S128x1.size inb_S128x1_S128x1_0_0, sweep.sl.v4455 c M1 M2 M3 M7 M8 f1 f2 f3⟩]) = _
    rw [View.read_writes_junk_eq_canon]
    exact View.canon_unit_zero zero2 _ _

/-- The floating buffer. -/
theorem read4 : M4.view.read (Elt F) (left4 c i M1 h1 M2 h2 M3 h3 M4 h4 M5 h5 M6 h6 M7 h7 M8 h8 f1 f2 f3) = rowsOut (reads c M1 M2 M3 f1 f2 f3) (M3.view.read (Elt F) f3) := by
  unfold left4 rowsOut ansM ansQ
  rw [guard_eq]
  have hn : nine (M3.view.read (Elt F) f3) = k1_pay1 (sweep.sl.v1 c M3 f3) (sweep.sl.v4476 c M3 f3) (sweep.sl.v4477 c M3 f3) := by
    rw [← whole3 c M3 f3]; rfl
  rw [hn]
  by_cases hg : lacks (reads c M1 M2 M3 f1 f2 f3) = 1#1
  · rw [if_pos hg, if_pos hg, if_pos hg]
    show M4.view.read (Elt F) (M4.view.writes (Elt F) M4.view.junk [⟨Rect.unit (s := S128x11) ![0, 0] S128x11.size inb_S128x11_S128x11_0_0, k1_pay12 (sweep.sl.v4447 c M2 M3 M8 f2 f3) (sweep.sl.v4449 c M1 M2 M3 M7 M8 f1 f2 f3) (sweep.sl.v4461 c M1 M2 M3 M7 M8 f1 f2 f3) (k1_pay1 (sweep.sl.v1 c M3 f3) (sweep.sl.v4476 c M3 f3) (sweep.sl.v4477 c M3 f3))
      (st_k1_t1 (F := F) Variants.none c none i M1 h1 M2 h2 M3 h3 M4 h4 M5 h5 M6 h6 M7 h7 M8 h8 (sweep.sl.v20 c M3 f3) sweep.sl.v21 sweep.sl.v22 sweep.sl.v23 (sweep.sl.v4447 c M2 M3 M8 f2 f3) (sweep.sl.v4449 c M1 M2 M3 M7 M8 f1 f2 f3) (sweep.sl.v4455 c M1 M2 M3 M7 M8 f1 f2 f3) (sweep.sl.v4461 c M1 M2 M3 M7 M8 f1 f2 f3)
      (k1_pay1 (sweep.sl.v1 c M3 f3) (sweep.sl.v4476 c M3 f3) (sweep.sl.v4477 c M3 f3)) (sweep c i M1 h1 M2 h2 M3 h3 M4 h4 M5 h5 M6 h6 M7 h7 M8 h8 f1 f2 f3).1.b7 k1_pay4 (Scf.trips k1_t1_loop.lb k1_t1_loop.ub k1_t1_loop.st))
      (st_k1_t2 (F := F) Variants.none c none i M1 h1 M2 h2 M3 h3 M4 h4 M5 h5 M6 h6 M7 h7 M8 h8 (sweep.sl.v20 c M3 f3) sweep.sl.v21 sweep.sl.v22 sweep.sl.v23 (sweep.sl.v4447 c M2 M3 M8 f2 f3) (sweep.sl.v4449 c M1 M2 M3 M7 M8 f1 f2 f3) (sweep.sl.v4455 c M1 M2 M3 M7 M8 f1 f2 f3) (sweep.sl.v4461 c M1 M2 M3 M7 M8 f1 f2 f3)
      (k1_pay1 (sweep.sl.v1 c M3 f3) (sweep.sl.v4476 c M3 f3) (sweep.sl.v4477 c M3 f3)) (st_k1_t1 (F := F) Variants.none c none i M1 h1 M2 h2 M3 h3 M4 h4 M5 h5 M6 h6 M7 h7 M8 h8 (sweep.sl.v20 c M3 f3) sweep.sl.v21 sweep.sl.v22 sweep.sl.v23 (sweep.sl.v4447 c M2 M3 M8 f2 f3) (sweep.sl.v4449 c M1 M2 M3 M7 M8 f1 f2 f3) (sweep.sl.v4455 c M1 M2 M3 M7 M8 f1 f2 f3) (sweep.sl.v4461 c M1 M2 M3 M7 M8 f1 f2 f3)
      (k1_pay1 (sweep.sl.v1 c M3 f3) (sweep.sl.v4476 c M3 f3) (sweep.sl.v4477 c M3 f3)) (sweep c i M1 h1 M2 h2 M3 h3 M4 h4 M5 h5 M6 h6 M7 h7 M8 h8 f1 f2 f3).1.b7 k1_pay4 (Scf.trips k1_t1_loop.lb k1_t1_loop.ub k1_t1_loop.st)) f2
      (sweep c i M1 h1 M2 h2 M3 h3 M4 h4 M5 h5 M6 h6 M7 h7 M8 h8 f1 f2 f3).1.b7 (sweep c i M1 h1 M2 h2 M3 h3 M4 h4 M5 h5 M6 h6 M7 h7 M8 h8 f1 f2 f3).1.b8 (sweep.sl.v22, sweep.sl.v23) (Scf.trips k1_t2_loop.lb k1_t2_loop.ub k1_t2_loop.st)).1
      (st_k1_t2 (F := F) Variants.none c none i M1 h1 M2 h2 M3 h3 M4 h4 M5 h5 M6 h6 M7 h7 M8 h8 (sweep.sl.v20 c M3 f3) sweep.sl.v21 sweep.sl.v22 sweep.sl.v23 (sweep.sl.v4447 c M2 M3 M8 f2 f3) (sweep.sl.v4449 c M1 M2 M3 M7 M8 f1 f2 f3) (sweep.sl.v4455 c M1 M2 M3 M7 M8 f1 f2 f3) (sweep.sl.v4461 c M1 M2 M3 M7 M8 f1 f2 f3)
      (k1_pay1 (sweep.sl.v1 c M3 f3) (sweep.sl.v4476 c M3 f3) (sweep.sl.v4477 c M3 f3)) (st_k1_t1 (F := F) Variants.none c none i M1 h1 M2 h2 M3 h3 M4 h4 M5 h5 M6 h6 M7 h7 M8 h8 (sweep.sl.v20 c M3 f3) sweep.sl.v21 sweep.sl.v22 sweep.sl.v23 (sweep.sl.v4447 c M2 M3 M8 f2 f3) (sweep.sl.v4449 c M1 M2 M3 M7 M8 f1 f2 f3) (sweep.sl.v4455 c M1 M2 M3 M7 M8 f1 f2 f3) (sweep.sl.v4461 c M1 M2 M3 M7 M8 f1 f2 f3)
      (k1_pay1 (sweep.sl.v1 c M3 f3) (sweep.sl.v4476 c M3 f3) (sweep.sl.v4477 c M3 f3)) (sweep c i M1 h1 M2 h2 M3 h3 M4 h4 M5 h5 M6 h6 M7 h7 M8 h8 f1 f2 f3).1.b7 k1_pay4 (Scf.trips k1_t1_loop.lb k1_t1_loop.ub k1_t1_loop.st)) f2
      (sweep c i M1 h1 M2 h2 M3 h3 M4 h4 M5 h5 M6 h6 M7 h7 M8 h8 f1 f2 f3).1.b7 (sweep c i M1 h1 M2 h2 M3 h3 M4 h4 M5 h5 M6 h6 M7 h7 M8 h8 f1 f2 f3).1.b8 (sweep.sl.v22, sweep.sl.v23) (Scf.trips k1_t2_loop.lb k1_t2_loop.ub k1_t2_loop.st)).2⟩]) = _
    rw [View.read_writes_junk_eq_canon, acc_eq, pair_eq, sweep_any c M1 M2 M3 M7 M8 f1 f2 f3, sweep_max, sweep_quo]
    exact View.canon_unit_zero zero2 _ _
  · rw [if_neg hg, if_neg hg, if_neg hg, ← sweep_quo c M1 M2 M3 M7 M8 f1 f2 f3, ← sweep_angle c M1 M2 M3 M7 M8 f1 f2 f3, ← sweep_dist]
    show M4.view.read (Elt F) (M4.view.writes (Elt F) M4.view.junk [⟨Rect.unit (s := S128x11) ![0, 0] S128x11.size inb_S128x11_S128x11_0_0, k1_pay2 (sweep.sl.v1 c M3 f3) (sweep.sl.v4470 c M1 M2 M3 M7 M8 f1 f2 f3) (sweep.sl.v4475 c M1 M2 M3 M7 M8 f1 f2 f3) (sweep.sl.v4476 c M3 f3) (sweep.sl.v4477 c M3 f3)⟩]) = _
    rw [View.read_writes_junk_eq_canon]
    exact View.canon_unit_zero zero2 _ _

end

/-- A point's floating result. -/
theorem found3_eq (c : Dev nD) (t : Fin cfg1.N) (X0 : S3x16384.Idx → F .f32) (X1 : S4x16384.Idx → F .f32) (X2 : S128x16.Idx → F .f32) :
    found3 c t X0 X1 X2 = rowsOut (readsOf X0 X1 X2) X2 := by
  unfold found3
  rw [read4, reads_eq]
  simp only [Memref.IsWhole.read_unread]
/-- Its index result. -/
theorem found4_eq (c : Dev nD) (t : Fin cfg1.N) (X0 : S3x16384.Idx → F .f32) (X1 : S4x16384.Idx → F .f32) (X2 : S128x16.Idx → F .f32) :
    found4 c t X0 X1 X2 = ansI (readsOf X0 X1 X2) := by
  unfold found4
  rw [read5, reads_eq]
  simp only [Memref.IsWhole.read_unread]
/-- Its count result. -/
theorem found5_eq (c : Dev nD) (t : Fin cfg1.N) (X0 : S3x16384.Idx → F .f32) (X1 : S4x16384.Idx → F .f32) (X2 : S128x16.Idx → F .f32) :
    found5 c t X0 X1 X2 = cntOf (nSt (readsOf X0 X1 X2) 128) := by
  unfold found5
  rw [read6, reads_eq]
  simp only [Memref.IsWhole.read_unread]

end Cert.Proof

end
-- ==== Proof.Own.Best.lean ====
module

public import proofs.«01_k».proof.KernelIdeal
public import Idealize.ShloMosaic.PureOps.IdealRules
public import Idealize.ShloMosaic.PureOps.Ideal.Laws
public import Idealize.ShloMosaic.Lib.WordSum

@[expose] public section

noncomputable section

namespace Cert.Proof

open Idealize.ShloMosaic

/-! ## Literals, as extended reals -/

/-- The upper clip, as an extended real. -/
theorem lit_hi : Ideal.ofBits .f32 0x3F7FFFEF#32 = ((16777199 / 16777216 : ℝ) : EReal) := by
  simp [Ideal.ofBits, Ideal.ieee, -EReal.coe_mul]; norm_num
/-- The lower clip, as an extended real. -/
theorem lit_lo : Ideal.ofBits .f32 0xBF7FFFEF#32 = ((-(16777199 / 16777216) : ℝ) : EReal) := by
  simp [Ideal.ofBits, Ideal.ieee, -EReal.coe_mul]; norm_num
/-- The minus three, as an extended real. -/
theorem lit_m3 : Ideal.ofBits .f32 0xC0400000#32 = ((-3 : ℝ) : EReal) := by
  simp [Ideal.ofBits, Ideal.ieee, -EReal.coe_mul]; norm_num
/-- The minus four, as an extended real. -/
theorem lit_m4 : Ideal.ofBits .f32 0xC0800000#32 = ((-4 : ℝ) : EReal) := by
  simp [Ideal.ofBits, Ideal.ieee, -EReal.coe_mul]; norm_num
/-- The minus one, as an extended real. -/
theorem lit_m1 : Ideal.ofBits .f32 0xBF800000#32 = ((-1 : ℝ) : EReal) := by
  simp [Ideal.ofBits, Ideal.ieee, -EReal.coe_mul]; norm_num
/-- The one, as an extended real. -/
theorem lit_1 : Ideal.ofBits .f32 0x3F800000#32 = ((1 : ℝ) : EReal) := by
  simp [Ideal.ofBits, Ideal.ieee, -EReal.coe_mul]; norm_num
/-- The two, as an extended real. -/
theorem lit_2 : Ideal.ofBits .f32 0x40000000#32 = ((2 : ℝ) : EReal) := by
  simp [Ideal.ofBits, Ideal.ieee, -EReal.coe_mul]; norm_num
/-- The zero, as an extended real. -/
theorem lit_0 : Ideal.ofBits .f32 0x00000000#32 = ((0 : ℝ) : EReal) := by
  simp [Ideal.ofBits, Ideal.ieee, -EReal.coe_mul]
/-- The constant added under the root, as an extended real. -/
theorem lit_eps : Ideal.ofBits .f32 0x2B8CBCCC#32 = ((2305843 / 2305843009213693952 : ℝ) : EReal) := by
  simp [Ideal.ofBits, Ideal.ieee, -EReal.coe_mul]; norm_num
/-- The ten thousand that masks, as an extended real. -/
theorem lit_far : Ideal.ofBits .f32 0x461C4000#32 = ((10000 : ℝ) : EReal) := by
  simp [Ideal.ofBits, Ideal.ieee, -EReal.coe_mul]; norm_num
/-- The radius, as an extended real. -/
theorem lit_rad : Ideal.ofBits .f32 0x3F4CCCCD#32 = ((13421773 / 16777216 : ℝ) : EReal) := by
  simp [Ideal.ofBits, Ideal.ieee, -EReal.coe_mul]; norm_num
/-- The word of minus infinity, as an extended real. -/
theorem lit_bot : Ideal.ofBits .f32 0xFF800000#32 = ⊥ := by
  simp [Ideal.ofBits, Ideal.ieee]
/-- The word of infinity, as an extended real. -/
theorem lit_top : Ideal.ofBits .f32 0x7F800000#32 = ⊤ := by
  simp [Ideal.ofBits, Ideal.ieee]
/-- The squared radius less the small term under the root. -/
theorem lit_thr : Named.named (F := Ideal) Cert.KernelIdeal.κ "q_thresh" (φ := .f32) 0x3F23D70B#32
    = ((1475739569874923725 / 2305843009213693952 : ℝ) : EReal) :=
  IdealRules.named_const.ideal_named_scalar _ _ _ _ rfl

/-! ## Scalars -/

/-- The clipped value. -/
def clipE (x : EReal) : EReal := min (Ideal.ofBits .f32 0x3F7FFFEF#32) (max (Ideal.ofBits .f32 0xBF7FFFEF#32) x)

/-- It is a real strictly between minus one and one. -/
theorem clipE_real (x : EReal) : ∃ r : ℝ, clipE x = (r : EReal) ∧ -1 < r ∧ r < 1 := by
  have h1 : clipE x ≤ ((16777199 / 16777216 : ℝ) : EReal) := by
    unfold clipE; rw [lit_hi]; exact min_le_left _ _
  have h2 : ((-(16777199 / 16777216) : ℝ) : EReal) ≤ clipE x := by
    unfold clipE; rw [lit_hi, lit_lo]
    refine le_min (EReal.coe_le_coe_iff.2 (by norm_num)) (le_max_left _ _)
  generalize clipE x = y at h1 h2
  induction y using EReal.rec with
  | bot => exact absurd h2 (by simp)
  | top => exact absurd h1 (by simp)
  | coe r =>
    have h1' := EReal.coe_le_coe_iff.1 h1
    have h2' := EReal.coe_le_coe_iff.1 h2
    exact ⟨r, rfl, by linarith, by linarith⟩

/-- Twice the angle of the point `(1 + r, √(1 - r²))` is the arc cosine of `r`. -/
theorem two_atan2 (r : ℝ) (h1 : -1 < r) (h2 : r < 1) :
    ((2 : ℝ) : EReal) * Ideal.atan2 (Ideal.sqrt (((1 : ℝ) : EReal) - (r : EReal) * r)) (((1 : ℝ) : EReal) + r) = Ideal.acos r := by
  have hp : 0 < 1 + r := by linarith
  have hq : (0 : ℝ) ≤ 1 - r * r := by nlinarith
  rw [← EReal.coe_mul, ← EReal.coe_sub, ← EReal.coe_add, Ideal.sqrt_coe, if_neg (not_lt.2 hq), Ideal.acos_coe, if_pos ⟨h1.le, h2.le⟩]
  show ((2 : ℝ) : EReal) * (((if 0 < 1 + r then Real.arctan (Real.sqrt (1 - r * r) / (1 + r)) else _ : ℝ)) : EReal) = _
  rw [if_pos hp, ← EReal.coe_mul]
  congr 1
  have hcos : Real.cos (2 * Real.arctan (Real.sqrt (1 - r * r) / (1 + r))) = r := by
    have hs : 1 + (1 - r * r) / (1 + r) ^ 2 = 2 / (1 + r) := by
      field_simp
      ring
    rw [Real.cos_two_mul, Real.cos_sq_arctan, div_pow, Real.sq_sqrt hq, hs]
    field_simp
    ring
  have h0 : 0 ≤ Real.sqrt (1 - r * r) / (1 + r) := div_nonneg (Real.sqrt_nonneg _) hp.le
  have hl : 0 ≤ Real.arctan (Real.sqrt (1 - r * r) / (1 + r)) := Real.arctan_nonneg.2 h0
  have hu : Real.arctan (Real.sqrt (1 - r * r) / (1 + r)) < Real.pi / 2 := Real.arctan_lt_pi_div_two _
  rw [← Real.arccos_cos (x := 2 * Real.arctan (Real.sqrt (1 - r * r) / (1 + r))) (by linarith) (by linarith), hcos]

/-- The distance of a squared distance. -/
def distE (q : EReal) : EReal := Ideal.sqrt (max q (Ideal.ofBits .f32 0x00000000#32) + Ideal.ofBits .f32 0x2B8CBCCC#32)

/-- A distance is within the radius when its square is within the named threshold. -/
theorem dist_le_iff (q : EReal) : distE q ≤ Ideal.ofBits .f32 0x3F4CCCCD#32 ↔
    q ≤ ((1475739569874923725 / 2305843009213693952 : ℝ) : EReal) := by
  unfold distE
  rw [lit_0, lit_eps, lit_rad]
  induction q using EReal.rec with
  | bot =>
    rw [max_eq_right bot_le, ← EReal.coe_add, Ideal.sqrt_coe, if_neg (by norm_num)]
    simp only [bot_le, iff_true, EReal.coe_le_coe_iff]
    rw [Real.sqrt_le_left (by norm_num)]
    norm_num
  | top =>
    rw [max_eq_left le_top, EReal.top_add_coe]
    show (⊤ : EReal) ≤ _ ↔ _
    simp
  | coe x =>
    rcases le_total x 0 with h | h
    · rw [max_eq_right (EReal.coe_le_coe_iff.2 h), ← EReal.coe_add, Ideal.sqrt_coe, if_neg (by norm_num), EReal.coe_le_coe_iff, EReal.coe_le_coe_iff,
        Real.sqrt_le_left (by norm_num)]
      constructor
      · intro _; linarith
      · intro _; norm_num
    · rw [max_eq_left (EReal.coe_le_coe_iff.2 h), ← EReal.coe_add, Ideal.sqrt_coe, if_neg (not_lt.2 (by linarith)), EReal.coe_le_coe_iff, EReal.coe_le_coe_iff,
        Real.sqrt_le_left (by norm_num)]
      constructor
      · intro h'; norm_num at h' ⊢; linarith
      · intro h'; norm_num at h' ⊢; linarith

/-! ## The first greatest entry -/

/-- `j` is the first place where `E` is greatest. -/
def Best (E : Fin 16384 → EReal) (j : Fin 16384) : Prop := (∀ k, E k ≤ E j) ∧ ∀ k, k < j → E k < E j

/-- There is one first greatest place. -/
theorem Best.unique {E : Fin 16384 → EReal} {j k : Fin 16384} (hj : Best E j) (hk : Best E k) : j = k := by
  rcases lt_trichotomy j k with h | h | h
  · exact absurd (hk.2 _ h) (not_lt.2 (hj.1 k))
  · exact h
  · exact absurd (hj.2 _ h) (not_lt.2 (hk.1 j))

/-- There is a first greatest place. -/
theorem exists_best (E : Fin 16384 → EReal) : ∃ j, Best E j := by
  obtain ⟨j0, hj0⟩ := Finite.exists_max E
  obtain ⟨j, hj, hmin⟩ := Finset.exists_min_image (Finset.univ.filter fun k => E k = E j0) id ⟨j0, by simp⟩
  have ej : E j = E j0 := (Finset.mem_filter.1 hj).2
  refine ⟨j, fun k => by rw [ej]; exact hj0 k, fun k hk => ?_⟩
  refine lt_of_le_of_ne (by rw [ej]; exact hj0 k) fun he => ?_
  exact absurd (hmin k (Finset.mem_filter.2 ⟨Finset.mem_univ _, he.trans ej⟩)) (not_le.2 hk)

/-- An order-reversing picture of `E` is least first where `E` is greatest first. -/
theorem Best.of_anti {E T : Fin 16384 → EReal} (h : ∀ j k, E j < E k ↔ T k < T j) {j : Fin 16384} (hj : Best E j) :
    (∀ k, T j ≤ T k) ∧ ∀ k, k < j → T j < T k :=
  ⟨fun k => not_lt.1 fun hk => absurd ((h j k).2 hk) (not_lt.2 (hj.1 k)), fun k hk => (h k j).1 (hj.2 k hk)⟩

/-! ## Words -/

/-- A small number read back as signed. -/
theorem toInt_small {n : ℕ} (h : n < 2147483648) : (BitVec.ofNat 32 n).toInt = n := by
  rw [BitVec.toInt_eq_toNat_cond, BitVec.toNat_ofNat, Nat.mod_eq_of_lt (by omega), if_pos (by omega)]

/-- A fold of signed minima is below all its entries and is one of them or the start. -/
theorem fold_minsi {ι : Type} (S : Finset ι) (w : ι → BitVec 32) :
    (∀ l ∈ S, (S.fold IntOp.minsi 2147483647#32 w).toInt ≤ (w l).toInt) ∧
      (S.fold IntOp.minsi 2147483647#32 w = 2147483647#32 ∨ ∃ l ∈ S, S.fold IntOp.minsi 2147483647#32 w = w l) := by
  classical
  induction S using Finset.induction_on with
  | empty => exact ⟨fun l hl => absurd hl (by simp), .inl rfl⟩
  | insert a S ha ih =>
    rw [Finset.fold_insert ha]
    generalize S.fold IntOp.minsi 2147483647#32 w = x at ih
    unfold IntOp.minsi
    by_cases h : (w a).slt x
    · rw [if_pos h]
      have h' := BitVec.slt_iff_toInt_lt.1 h
      refine ⟨fun l hl => ?_, .inr ⟨a, Finset.mem_insert_self .., rfl⟩⟩
      rcases Finset.mem_insert.1 hl with rfl | hl
      · exact le_rfl
      · exact h'.le.trans (ih.1 l hl)
    · rw [if_neg h]
      have h' : x.toInt ≤ (w a).toInt := not_lt.1 fun hlt => h (BitVec.slt_iff_toInt_lt.2 hlt)
      refine ⟨fun l hl => ?_, ih.2.imp id fun ⟨l, hl, e⟩ => ⟨l, Finset.mem_insert_of_mem hl, e⟩⟩
      rcases Finset.mem_insert.1 hl with rfl | hl
      · exact h'
      · exact ih.1 l hl

/-- The least of the words of small numbers. -/
theorem fold_minsi_eq {ι : Type} [Fintype ι] (w : ι → BitVec 32) (n : ι → ℕ) (hw : ∀ l, w l = BitVec.ofNat 32 (n l)) (hn : ∀ l, n l ≤ 16384)
    (l0 : ι) (h : ∀ l, n l0 ≤ n l) : Finset.univ.fold IntOp.minsi 2147483647#32 w = BitVec.ofNat 32 (n l0) := by
  obtain ⟨h1, h2⟩ := fold_minsi Finset.univ w
  have a := h1 l0 (Finset.mem_univ _)
  rw [hw l0, toInt_small (by have := hn l0; omega)] at a
  rcases h2 with h2 | ⟨l, -, h2⟩
  · rw [h2] at a
    have := hn l0
    have : (2147483647#32 : BitVec 32).toInt = 2147483647 := by decide
    omega
  · rw [h2, hw l] at a ⊢
    rw [toInt_small (by have := hn l; omega)] at a
    have := h l
    congr 1
    omega

/-- The greatest of finitely many. -/
theorem fold_max_eq {ι : Type} [Fintype ι] (f : ι → EReal) (l0 : ι) (h : ∀ l, f l ≤ f l0) :
    Finset.univ.fold max (⊥ : EReal) f = f l0 :=
  le_antisymm ((Finset.fold_max_le _).2 ⟨bot_le, fun l _ => h l⟩) ((Finset.le_fold_max _).2 (.inr ⟨l0, Finset.mem_univ _, le_rfl⟩))

/-- Squared distances kept beside a column, the other lanes at minus one: the same distance. -/
theorem fold_max_quo {ι : Type} [Fintype ι] (f : ι → EReal) (l0 : ι) (h : ∀ l, l ≠ l0 → f l = ((-1 : ℝ) : EReal)) :
    max (Finset.univ.fold max (⊥ : EReal) f) ((0 : ℝ) : EReal) = max (f l0) ((0 : ℝ) : EReal) := by
  have hm : ((-1 : ℝ) : EReal) ≤ ((0 : ℝ) : EReal) := EReal.coe_le_coe_iff.2 (by norm_num)
  refine le_antisymm (max_le ((Finset.fold_max_le _).2 ⟨bot_le, fun l _ => ?_⟩) (le_max_right _ _)) (max_le_max ((Finset.le_fold_max _).2 (.inr ⟨l0, Finset.mem_univ _, le_rfl⟩)) le_rfl)
  by_cases hl : l = l0
  · rw [hl]; exact le_max_left _ _
  · rw [h l hl]; exact hm.trans (le_max_right _ _)

/-- A count of marks as a word. -/
def tally (p : Fin 16384 → Prop) [DecidablePred p] : BitVec 32 := ∑ k, if p k then 1#32 else 0#32

/-- A tally counts. -/
theorem tally_toNat (p : Fin 16384 → Prop) [DecidablePred p] : (tally p).toNat = (Finset.univ.filter p).card := by
  have e : ∀ k, (if p k then (1#32 : BitVec 32) else 0#32).toNat = if p k then 1 else 0 := fun k => by split <;> rfl
  have hs : ∑ k, (if p k then (1#32 : BitVec 32) else 0#32).toNat = (Finset.univ.filter p).card := by
    rw [Finset.card_filter]; exact Finset.sum_congr rfl fun k _ => e k
  have hc : (Finset.univ.filter p).card ≤ 16384 := (Finset.card_le_univ _).trans_eq (by simp)
  unfold tally
  rw [WordSum.toNat_sum _ _ (by rw [hs]; omega), hs]

/-- A tally counts, read as signed. -/
theorem tally_toInt (p : Fin 16384 → Prop) [DecidablePred p] : (tally p).toInt = ((Finset.univ.filter p).card : ℤ) := by
  have hc : (Finset.univ.filter p).card ≤ 16384 := (Finset.card_le_univ _).trans_eq (by simp)
  rw [BitVec.toInt_eq_toNat_cond, tally_toNat, if_pos (by omega)]

/-- A tally is positive when there is something to count. -/
theorem tally_pos (p : Fin 16384 → Prop) [DecidablePred p] : 0 < (tally p).toInt ↔ ∃ k, p k := by
  rw [tally_toInt]
  constructor
  · intro h
    obtain ⟨k, hk⟩ := Finset.card_pos.1 (by exact_mod_cast h)
    exact ⟨k, (Finset.mem_filter.1 hk).2⟩
  · rintro ⟨k, hk⟩
    exact_mod_cast Finset.card_pos.2 ⟨k, Finset.mem_filter.2 ⟨Finset.mem_univ _, hk⟩⟩

/-- A disjunction of bits is set when one of them is. -/
theorem fold_ori {ι : Type} (S : Finset ι) (w : ι → BitVec 1) : S.fold IntOp.ori 0#1 w = 1#1 ↔ ∃ k ∈ S, w k = 1#1 := by
  classical
  induction S using Finset.induction_on with
  | empty => simp
  | insert a S ha ih =>
    rw [Finset.fold_insert ha, Finset.exists_mem_insert, ← ih]
    generalize S.fold IntOp.ori 0#1 w = x
    generalize w a = y
    revert x y; decide

/-! ## Columns, lane by lane -/

/-- Column `128 s + l`. -/
def col (s : ℕ) (l : Fin 128) : Fin 16384 := Fin.ofNat 16384 (128 * s + l.val)

/-- Which column a lane of a chunk is. -/
theorem col_val {s : ℕ} (hs : s < 128) (l : Fin 128) : (col s l).val = 128 * s + l.val := by
  have := l.isLt
  show (128 * s + l.val) % 16384 = _
  omega

/-- The lane of a column, and its chunk. -/
def laneOf (j : Fin 16384) : Fin 128 := ⟨j.val % 128, Nat.mod_lt _ (by decide)⟩
/-- Each column is a lane of its chunk. -/
theorem col_div (j : Fin 16384) : col (j.val / 128) (laneOf j) = j := by
  apply Fin.ext
  rw [col_val (by have := j.isLt; omega)]
  show 128 * (j.val / 128) + j.val % 128 = _
  omega

/-- Sums over columns, lane by lane. -/
theorem sum_cols (f : Fin 16384 → BitVec 32) : ∑ l : Fin 128, ∑ s ∈ Finset.range 128, f (col s l) = ∑ k, f k := by
  rw [show (∑ l : Fin 128, ∑ s ∈ Finset.range 128, f (col s l)) = ∑ l : Fin 128, ∑ s : Fin 128, f (col s.val l) from
    Finset.sum_congr rfl fun l _ => (Finset.sum_range fun s => f (col s l))]
  rw [← Finset.sum_product']
  refine Finset.sum_bij' (fun p _ => col p.2.val p.1) (fun k _ => (laneOf k, ⟨k.val / 128, by have := k.isLt; omega⟩)) (fun _ _ => Finset.mem_univ _) (fun _ _ => Finset.mem_product.2 ⟨Finset.mem_univ _, Finset.mem_univ _⟩) (fun p _ => ?_) (fun k _ => col_div k) (fun _ _ => rfl)
  obtain ⟨l, s⟩ := p
  have h := col_val s.isLt l
  have := l.isLt
  refine Prod.ext (Fin.ext ?_) (Fin.ext ?_)
  · show (col s.val l).val % 128 = l.val
    omega
  · show (col s.val l).val / 128 = s.val
    omega

/-- A lane's first greatest place, when the greatest of all lies in it. -/
theorem lane_best {E : Fin 16384 → EReal} {j : Fin 16384} (hj : Best E j) {s : ℕ} (hs : s < 128)
    (h : ∀ s' < 128, E (col s' (laneOf j)) ≤ E (col s (laneOf j)) ∧ (s' < s → E (col s' (laneOf j)) < E (col s (laneOf j)))) : col s (laneOf j) = j := by
  have hlt := j.isLt
  have hd : j.val / 128 < 128 := by omega
  have e := col_div j
  rcases lt_trichotomy s (j.val / 128) with hl | hl | hl
  · have : col s (laneOf j) < j := by
      apply Fin.lt_def.2
      rw [col_val hs]
      show 128 * s + j.val % 128 < j.val
      omega
    have := hj.2 _ this
    have h' := (h _ hd).1
    rw [e] at h'
    exact absurd this (not_lt.2 h')
  · rw [hl, e]
  · have h' := (h _ hd).2 hl
    rw [e] at h'
    exact absurd h' (not_lt.2 (hj.1 _))

/-- A column that attains the greatest value is not before the first. -/
theorem Best.le_of_eq {E : Fin 16384 → EReal} {j k : Fin 16384} (hj : Best E j) (h : E k = E j) : j ≤ k :=
  not_lt.1 fun hk => absurd h (hj.2 k hk).ne

/-! ## A running minimum of values with places -/

/-- Value before place. -/
def lexLe (p q : EReal × BitVec 32) : Prop := p.1 < q.1 ∨ (p.1 = q.1 ∧ p.2.toInt ≤ q.2.toInt)

/-- The order of pairs is transitive. -/
theorem lexLe_trans {p q r : EReal × BitVec 32} (h : lexLe p q) (h' : lexLe q r) : lexLe p r := by
  rcases h with h | ⟨h, h2⟩ <;> rcases h' with h' | ⟨h', h2'⟩
  · exact .inl (h.trans h')
  · exact .inl (h' ▸ h)
  · exact .inl (h ▸ h')
  · exact .inr ⟨h.trans h', h2.trans h2'⟩

/-- A fold that keeps one of its two arguments, the lesser one, ends at the least. -/
theorem foldl_least (f : EReal × BitVec 32 → EReal × BitVec 32 → EReal × BitVec 32)
    (hf : ∀ a b, (f a b = a ∨ f a b = b) ∧ lexLe (f a b) a ∧ lexLe (f a b) b) (L : List (EReal × BitVec 32)) (a : EReal × BitVec 32) :
    (L.foldl f a = a ∨ L.foldl f a ∈ L) ∧ lexLe (L.foldl f a) a ∧ ∀ p ∈ L, lexLe (L.foldl f a) p := by
  induction L generalizing a with
  | nil => exact ⟨.inl rfl, .inr ⟨rfl, le_rfl⟩, fun p hp => absurd hp (by simp)⟩
  | cons b L ih =>
    rw [List.foldl_cons]
    obtain ⟨h1, h2, h3⟩ := ih (f a b)
    obtain ⟨g1, g2, g3⟩ := hf a b
    refine ⟨?_, lexLe_trans h2 g2, fun p hp => ?_⟩
    · rcases h1 with h1 | h1
      · rw [h1]
        rcases g1 with g1 | g1
        · exact .inl g1
        · rw [g1]; exact .inr (by simp)
      · exact .inr (List.mem_cons_of_mem _ h1)
    · rcases List.mem_cons.1 hp with rfl | hp
      · exact lexLe_trans h2 g3
      · exact h3 p hp

end Cert.Proof

end
-- ==== Proof.Own.Rows.lean ====
module

public import proofs.«01_k».proof.Proof.Own.Recover
public import proofs.«01_k».proof.Proof.Own.Best

@[expose] public section

set_option maxRecDepth 65536

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## A point's rows, over the extended reals -/

/-- A choice by a bit. -/
theorem sel_ofBool {α : Type} (b : Bool) (x y : α) : Scalar.select (BitVec.ofBool b) x y = if b then x else y := by cases b <;> rfl
/-- A choice by a decided bit. -/
theorem sel_dec {α : Type} (p : Prop) [Decidable p] (x y : α) : Scalar.select (BitVec.ofBool (decide p)) x y = if p then x else y := by
  rw [sel_ofBool]; by_cases h : p <;> simp [h]
/-- A decided bit is one when its statement holds. -/
theorem bit_dec (p : Prop) [Decidable p] : BitVec.ofBool (decide p) = 1#1 ↔ p := by by_cases h : p <;> simp [h]

variable (K : Reads Ideal)

/-- The clipped cosine of row `i` and candidate `j`. -/
def cv (i : Fin 128) (j : Fin 16384) : EReal := clipE (K.C (ix2 i j))
/-- Their squared distance. -/
def qv (i : Fin 128) (j : Fin 16384) : EReal :=
  (K.o2 (ix2 i 0) + K.X1 (ix2 3 j)) - Ideal.ofBits .f32 0x40000000#32 * K.Q (ix2 i j)
/-- The threshold. -/
def thr : EReal := ((1475739569874923725 / 2305843009213693952 : ℝ) : EReal)
/-- The cosine, or minus three outside the radius. -/
def ev (i : Fin 128) (j : Fin 16384) : EReal := if qv K i j ≤ thr then cv K i j else ((-3 : ℝ) : EReal)

/-- A column spread along its rows. -/
theorem col_apply (x : S128x1.Idx → EReal) (i l : Fin 128) : broadcastTo S128x128 x broadcasts_S128x1_S128x128 (ix2 i l) = x (ix2 i 0) :=
  broadcastTo_apply _ _ _ _ fun a => match a with | ⟨0, _⟩ => rfl | ⟨1, _⟩ => rfl
/-- The same for whole numbers. -/
theorem colI_apply (x : S128x1.Idx → BitVec 32) (i l : Fin 128) : broadcastTo S128x128 x broadcasts_S128x1_S128x128 (ix2 i l) = x (ix2 i 0) :=
  broadcastTo_apply _ _ _ _ fun a => match a with | ⟨0, _⟩ => rfl | ⟨1, _⟩ => rfl
/-- A row spread down its columns. -/
theorem rowv_apply (x : S1x128.Idx → EReal) (i l : Fin 128) : broadcastTo S128x128 x broadcasts_S1x128_S128x128 (ix2 i l) = x (ix2 0 l) :=
  broadcastTo_apply _ _ _ _ fun a => match a with | ⟨0, _⟩ => rfl | ⟨1, _⟩ => rfl

/-- A chunk of a table. -/
theorem win_apply (C : S128x16384.Idx → EReal) (r : ℕ) (i l : Fin 128) : win (F := Ideal) C r (ix2 i l) = C (ix2 i (col r l)) := rfl
/-- Clipping, entry by entry. -/
theorem clip_apply (x : FVec Ideal S128x128 .f32) (y : S128x128.Idx) : clip x y = clipE (x y) := rfl

/-- A chunk's squared distances. -/
theorem qCh_apply (r : ℕ) (i l : Fin 128) : qCh K r (ix2 i l) = qv K i (col r l) := by
  unfold qCh sqd
  rw [subf_apply, addf_apply, mulf_apply, col_apply, shapeCast_self, rowv_apply]
  rfl
/-- Being within the threshold, in a chunk. -/
theorem near_apply (r : ℕ) (i l : Fin 128) : near (qCh K r) (ix2 i l) = BitVec.ofBool (decide (qv K i (col r l) ≤ thr)) := by
  show Ideal.cmp .ole (qCh K r (ix2 i l)) (Named.named (F := Ideal) κ "q_thresh" (φ := .f32) 0x3F23D70B#32) = _
  rw [qCh_apply, lit_thr]
  rfl
/-- A chunk's cosines, or minus three outside. -/
theorem eCh_apply (r : ℕ) (i l : Fin 128) : eCh K r (ix2 i l) = ev K i (col r l) := by
  show Scalar.select (near (qCh K r) (ix2 i l)) (clip (win K.C r) (ix2 i l)) (Ideal.ofBits .f32 0xC0400000#32) = _
  rw [near_apply, sel_dec, lit_m3]
  rfl

/-- A clipped cosine is above minus three. -/
theorem cv_gt (i : Fin 128) (j : Fin 16384) : ((-3 : ℝ) : EReal) < cv K i j := by
  obtain ⟨r, e, h, -⟩ := clipE_real (K.C (ix2 i j))
  unfold cv
  rw [e]
  exact EReal.coe_lt_coe_iff.2 (by linarith)
/-- What the sweep compares is above minus four. -/
theorem ev_gt (i : Fin 128) (j : Fin 16384) : ((-4 : ℝ) : EReal) < ev K i j := by
  have h : ((-4 : ℝ) : EReal) < ((-3 : ℝ) : EReal) := EReal.coe_lt_coe_iff.2 (by norm_num)
  unfold ev
  split
  · exact h.trans (cv_gt K i j)
  · exact h

/-- The column word of a chunk's lane. -/
theorem colw (r : ℕ) (w : BitVec 32) (hw : w = BitVec.ofNat 32 r) (i l : Fin 128) :
    (addi (iota .tc S128x128 32 [1] iota_S128x128_d1_w32) (broadcast S128x128 (Scalar.muli w 128#32))) (ix2 i l) = BitVec.ofNat 32 (128 * r + l.val) := by
  subst hw
  show iota .tc S128x128 32 [1] iota_S128x128_d1_w32 (ix2 i l) + BitVec.ofNat 32 r * 128#32 = _
  have e : iota .tc S128x128 32 [1] iota_S128x128_d1_w32 (ix2 i l) = BitVec.ofNat 32 l.val := by
    show BitVec.ofNat 32 (0 * 128 + l.val) = _
    rw [Nat.zero_mul, Nat.zero_add]
  rw [e, show (128#32 : BitVec 32) = BitVec.ofNat 32 128 from rfl, ← BitVec.ofNat_mul, ← BitVec.ofNat_add]
  congr 1
  omega

/-- A lane of the sweep after `r` chunks: the first greatest of its columns so far. -/
theorem sweep_lane (i l : Fin 128) (r : ℕ) (hr : 0 < r) : ∃ s < r, mSt K r (ix2 i l) = ev K i (col s l) ∧ iSt K r (ix2 i l) = BitVec.ofNat 32 (128 * s + l.val)
    ∧ qSt K r (ix2 i l) = qv K i (col s l) ∧ ∀ s' < r, ev K i (col s' l) ≤ ev K i (col s l) ∧ (s' < s → ev K i (col s' l) < ev K i (col s l)) := by
  have key : ∀ r, mSt K (r + 1) (ix2 i l) = (if mSt K r (ix2 i l) < ev K i (col r l) then ev K i (col r l) else mSt K r (ix2 i l))
      ∧ iSt K (r + 1) (ix2 i l) = (if mSt K r (ix2 i l) < ev K i (col r l) then BitVec.ofNat 32 (128 * r + l.val) else iSt K r (ix2 i l))
      ∧ qSt K (r + 1) (ix2 i l) = (if mSt K r (ix2 i l) < ev K i (col r l) then qv K i (col r l) else qSt K r (ix2 i l)) := by
    intro r
    have hb : beats (mSt K r) (eCh K r) (ix2 i l) = BitVec.ofBool (decide (mSt K r (ix2 i l) < ev K i (col r l))) := by
      rw [← eCh_apply]; rfl
    refine ⟨?_, ?_, ?_⟩
    · show Scalar.select (beats (mSt K r) (eCh K r) (ix2 i l)) (eCh K r (ix2 i l)) (mSt K r (ix2 i l)) = _
      rw [hb, sel_dec, eCh_apply]
    · show Scalar.select (beats (mSt K r) (eCh K r) (ix2 i l)) ((addi (iota .tc S128x128 32 [1] iota_S128x128_d1_w32) (broadcast S128x128 (Scalar.muli (BitVec.ofNat 32 r) 128#32))) (ix2 i l)) (iSt K r (ix2 i l)) = _
      rw [hb, sel_dec, colw r _ rfl]
    · show Scalar.select (beats (mSt K r) (eCh K r) (ix2 i l)) (qCh K r (ix2 i l)) (qSt K r (ix2 i l)) = _
      rw [hb, sel_dec, qCh_apply]
  induction r with
  | zero => exact absurd hr (lt_irrefl _)
  | succ r ih =>
    obtain ⟨k1, k2, k3⟩ := key r
    rcases Nat.eq_zero_or_pos r with rfl | hr'
    · have h0 : mSt K 0 (ix2 i l) < ev K i (col 0 l) := by
        show Ideal.ofBits .f32 0xC0800000#32 < _
        rw [lit_m4]; exact ev_gt K i _
      rw [if_pos h0] at k1 k2 k3
      refine ⟨0, Nat.one_pos, k1, k2, k3, fun s' hs' => ?_⟩
      obtain rfl : s' = 0 := by omega
      exact ⟨le_rfl, fun h => absurd h (lt_irrefl _)⟩
    · obtain ⟨s, hs, h1, h2, h3, h4⟩ := ih hr'
      rw [h1] at k1 k2 k3
      by_cases hb : ev K i (col s l) < ev K i (col r l)
      · rw [if_pos hb] at k1 k2 k3
        refine ⟨r, Nat.lt_succ_self r, k1, k2, k3, fun s' hs' => ?_⟩
        rcases Nat.lt_succ_iff_lt_or_eq.1 hs' with h | rfl
        · exact ⟨(h4 s' h).1.trans hb.le, fun _ => (h4 s' h).1.trans_lt hb⟩
        · exact ⟨le_rfl, fun h => absurd h (lt_irrefl _)⟩
      · rw [if_neg hb] at k1 k2 k3
        refine ⟨s, hs.trans (Nat.lt_succ_self r), k1, k2.trans h2, k3.trans h3, fun s' hs' => ?_⟩
        rcases Nat.lt_succ_iff_lt_or_eq.1 hs' with h | rfl
        · exact h4 s' h
        · exact ⟨not_lt.1 hb, fun h => absurd (hs.trans h) (lt_irrefl _)⟩

/-! ### Row reductions -/

/-- Where a term of a row's fold lies. -/
theorem lift_row (i : Fin 128) (k : Fin 128) : reduces_S128x128_S128.lift (ix1 i) k = ix2 i k := by
  funext a
  match a with
  | ⟨0, _⟩ => rfl
  | ⟨1, _⟩ => rfl
/-- A vector stood up as a column. -/
theorem cast_col {α : Type} (x : S128.Idx → α) (i : Fin 128) : shapeCast S128x1 x shapeCasts_S128_S128x1 (ix2 i 0) = x (ix1 i) :=
  shapeCast_apply _ _ _ _ (by rw [Shape.rowMajor_val_one, Shape.rowMajor_val_two]; show i.val = i.val * 1 + 0; omega)

/-- The maximum of a row's lanes. -/
theorem maxOf_apply (x : FVec Ideal S128x128 .f32) (i : Fin 128) : maxOf x (ix2 i 0) = Finset.univ.fold max ⊥ fun l : Fin 128 => x (ix2 i l) := by
  unfold maxOf
  rw [cast_col]
  refine (Ideal.multiReduction_maximumf_single x _ _ _ rfl _).trans ?_
  show Finset.univ.fold max (Ideal.ofBits .f32 0xFF800000#32) _ = _
  rw [lit_bot]
  exact Finset.fold_congr fun l _ => congrArg x (lift_row i l)
/-- The minimum of a row's lanes. -/
theorem minOf_apply (w : IVec S128x128 32) (i : Fin 128) : minOf w (ix2 i 0) = Finset.univ.fold IntOp.minsi 2147483647#32 fun l : Fin 128 => w (ix2 i l) := by
  unfold minOf
  rw [cast_col]
  refine (multiReductionI_eq_fold .minsi w _ _ rfl _).trans ?_
  rw [Shape.Reduces.fold_filter_drop_single]
  exact Finset.fold_congr fun l _ => congrArg w (lift_row i l)
/-- The sum of a row's lanes. -/
theorem cntOf_apply (w : IVec S128x128 32) (i : Fin 128) : cntOf w (ix2 i 0) = ∑ l : Fin 128, w (ix2 i l) := by
  unfold cntOf
  rw [cast_col]
  refine (congrFun (multiReductionI_eq_reduceFold .add w _ _ rfl) _).trans ?_
  show reduceFold reduces_S128x128_S128 (· + ·) (0#32 : BitVec 32) w (ix1 i) = _
  rw [reduceFold_add_eq_sum, show (0#32 : BitVec 32) = 0 from rfl, zero_add, Shape.Reduces.sum_filter_drop_single]
  exact Finset.sum_congr rfl fun l _ => congrArg w (lift_row i l)

/-- A row's count. -/
theorem count_eq (i : Fin 128) : cntOf (nSt K 128) (ix2 i 0) = tally fun j => qv K i j ≤ thr := by
  have h : ∀ r (l : Fin 128), nSt K r (ix2 i l) = ∑ s ∈ Finset.range r, if qv K i (col s l) ≤ thr then 1#32 else 0#32 := by
    intro r l
    induction r with
    | zero => rfl
    | succ r ih =>
      rw [Finset.sum_range_succ, ← ih]
      show nSt K r (ix2 i l) + Scalar.select (near (qCh K r) (ix2 i l)) 1#32 0#32 = _
      rw [near_apply, sel_dec]
  rw [cntOf_apply]
  unfold tally
  rw [← sum_cols]
  exact Finset.sum_congr rfl fun l _ => h 128 l

/-! ### From lanes to a row -/

/-- The first column that attains the greatest of the lanes' values. -/
theorem pick_eq {E : Fin 16384 → EReal} {j : Fin 16384} (hj : Best E j) (m : FVec Ideal S128x128 .f32) (w : IVec S128x128 32) (i : Fin 128)
    (s : Fin 128 → ℕ) (hs : ∀ l, s l < 128) (hm : ∀ l, m (ix2 i l) = E (col (s l) l)) (hw : ∀ l, w (ix2 i l) = BitVec.ofNat 32 (128 * s l + l.val))
    (hb : ∀ l, ∀ s' < 128, E (col s' l) ≤ E (col (s l) l) ∧ (s' < s l → E (col s' l) < E (col (s l) l))) :
    maxOf m (ix2 i 0) = E j ∧ pick m w (ix2 i 0) = BitVec.ofNat 32 j.val := by
  have hl := lane_best hj (hs (laneOf j)) (hb (laneOf j))
  have hmax : maxOf m (ix2 i 0) = E j := by
    rw [maxOf_apply, fold_max_eq _ (laneOf j) fun l => by rw [hm, hm, hl]; exact hj.1 _, hm, hl]
  refine ⟨hmax, ?_⟩
  unfold pick
  rw [minOf_apply, fold_minsi_eq _ (fun l => if E (col (s l) l) = E j then 128 * s l + l.val else 16384) _ _ (laneOf j) _]
  · beta_reduce
    rw [hl, if_pos rfl, ← col_val (hs _), hl]
  · intro l
    show Scalar.select (Ideal.cmp .oeq (m (ix2 i l)) (broadcastTo S128x128 (maxOf m) broadcasts_S128x1_S128x128 (ix2 i l))) (w (ix2 i l)) 16384#32 = _
    rw [col_apply, hmax, hm, hw]
    show Scalar.select (BitVec.ofBool (decide (E (col (s l) l) = E j))) _ _ = _
    rw [sel_dec]
    split <;> rfl
  · intro l
    have := hs l
    have := l.isLt
    beta_reduce
    split <;> omega
  · intro l
    beta_reduce
    rw [hl, if_pos rfl, ← col_val (hs _), hl]
    split
    · next h =>
      rw [← col_val (hs l)]
      exact hj.le_of_eq h
    · exact j.isLt.le

/-- The squared distance at the column found, up to what the distance sees. -/
theorem quo_eq (w : IVec S128x128 32) (q : FVec Ideal S128x128 .f32) (ix : IVec S128x1 32) (i : Fin 128) (j : Fin 16384) (x : EReal)
    (hix : ix (ix2 i 0) = BitVec.ofNat 32 j.val) (hj : w (ix2 i (laneOf j)) = BitVec.ofNat 32 j.val) (hq : q (ix2 i (laneOf j)) = x)
    (hw : ∀ l, l ≠ laneOf j → w (ix2 i l) ≠ BitVec.ofNat 32 j.val) :
    max (quo w ix q (ix2 i 0)) (Ideal.ofBits .f32 0x00000000#32) = max x (Ideal.ofBits .f32 0x00000000#32) := by
  have hv : ∀ l, (select (cmpi .eq w (broadcastTo S128x128 ix broadcasts_S128x1_S128x128)) q (broadcast S128x128 (Scalar.ofBits (F := Ideal) .f32 0xBF800000#32))) (ix2 i l)
      = if w (ix2 i l) = BitVec.ofNat 32 j.val then q (ix2 i l) else ((-1 : ℝ) : EReal) := by
    intro l
    show Scalar.select (IntOp.cmpi .eq (w (ix2 i l)) (broadcastTo S128x128 ix broadcasts_S128x1_S128x128 (ix2 i l))) (q (ix2 i l)) (Ideal.ofBits .f32 0xBF800000#32) = _
    rw [colI_apply, hix, lit_m1]
    show Scalar.select (BitVec.ofBool (w (ix2 i l) == BitVec.ofNat 32 j.val)) _ _ = _
    rw [sel_ofBool]
    simp only [beq_iff_eq]
  unfold quo
  rw [maxOf_apply, lit_0, fold_max_quo _ (laneOf j) fun l hl => by rw [hv, if_neg (hw l hl)], hv, if_pos hj, hq]

/-- Words of columns in other lanes differ. -/
theorem word_ne {s : ℕ} (hs : s < 128) (l : Fin 128) (j : Fin 16384) (hl : l ≠ laneOf j) : BitVec.ofNat 32 (128 * s + l.val) ≠ BitVec.ofNat 32 j.val := by
  intro h
  have h' := congrArg BitVec.toNat h
  have := l.isLt
  have := j.isLt
  rw [BitVec.toNat_ofNat, BitVec.toNat_ofNat, Nat.mod_eq_of_lt (by omega), Nat.mod_eq_of_lt (by omega)] at h'
  refine hl (Fin.ext ?_)
  show l.val = j.val % 128
  omega

/-- The sweep's answer in a row. -/
theorem sweep_row (i : Fin 128) {j : Fin 16384} (hj : Best (ev K i) j) : maxOf (mSt K 128) (ix2 i 0) = ev K i j
    ∧ pick (mSt K 128) (iSt K 128) (ix2 i 0) = BitVec.ofNat 32 j.val
    ∧ max (quo (iSt K 128) (pick (mSt K 128) (iSt K 128)) (qSt K 128) (ix2 i 0)) (Ideal.ofBits .f32 0x00000000#32) = max (qv K i j) (Ideal.ofBits .f32 0x00000000#32) := by
  choose s hs hm hi hq hb using fun l => sweep_lane K i l 128 (by decide)
  obtain ⟨h1, h2⟩ := pick_eq hj (mSt K 128) (iSt K 128) i s hs hm hi hb
  have hl := lane_best hj (hs (laneOf j)) (hb (laneOf j))
  refine ⟨h1, h2, quo_eq _ _ _ i j _ h2 ?_ ?_ fun l hne => ?_⟩
  · rw [hi, ← col_val (hs _), hl]
  · rw [hq, hl]
  · rw [hi]; exact word_ne (hs l) l j hne

/-- The recovery's answer in a row whose sweep found nothing within the radius. -/
theorem recover_row (i : Fin 128) {j : Fin 16384} (hj : Best (cv K i) j) (hany : anyOf K (ix2 i 0) = 0#1) : top2 K (ix2 i 0) = cv K i j
    ∧ minOf (jSt (top2 K) K.C 128) (ix2 i 0) = BitVec.ofNat 32 j.val
    ∧ max (quo (jSt (top2 K) K.C 128) (minOf (jSt (top2 K) K.C 128)) (sSt (top2 K) K 128) (ix2 i 0)) (Ideal.ofBits .f32 0x00000000#32) = max (qv K i j) (Ideal.ofBits .f32 0x00000000#32) := by
  have hdiv : j.val / 128 < 128 := by have := j.isLt; omega
  -- the greatest cosine
  have hacc : ∀ r (l : Fin 128), (∀ s < r, cv K i (col s l) ≤ accSt K.C r (ix2 i l)) ∧ accSt K.C r (ix2 i l) ≤ cv K i j := by
    intro r l
    induction r with
    | zero =>
      refine ⟨fun s hs => absurd hs (Nat.not_lt_zero s), ?_⟩
      show Ideal.ofBits .f32 0xC0800000#32 ≤ _
      rw [lit_m4]
      exact ((EReal.coe_lt_coe_iff.2 (by norm_num) : ((-4 : ℝ) : EReal) < ((-3 : ℝ) : EReal)).trans (cv_gt K i j)).le
    | succ r ih =>
      have e : accSt K.C (r + 1) (ix2 i l) = max (accSt K.C r (ix2 i l)) (cv K i (col r l)) := rfl
      rw [e]
      refine ⟨fun s hs => ?_, max_le ih.2 (hj.1 _)⟩
      rcases Nat.lt_succ_iff_lt_or_eq.1 hs with h | rfl
      · exact (ih.1 s h).trans (le_max_left _ _)
      · exact le_max_right _ _
  have hle : ∀ l, accSt K.C 128 (ix2 i l) ≤ accSt K.C 128 (ix2 i (laneOf j)) := fun l =>
    (hacc 128 l).2.trans (by have := (hacc 128 (laneOf j)).1 _ hdiv; rwa [col_div] at this)
  have htop : top2 K (ix2 i 0) = cv K i j := by
    unfold top2 topOf
    rw [select_apply, hany, select_zero, maxOf_apply, fold_max_eq _ (laneOf j) hle]
    exact le_antisymm (hacc 128 _).2 (by have := (hacc 128 (laneOf j)).1 _ hdiv; rwa [col_div] at this)
  -- the first column of each lane that attains it
  have hlane : ∀ r ≤ 128, ∀ l, (∃ s < r, cv K i (col s l) = cv K i j ∧ jSt (top2 K) K.C r (ix2 i l) = BitVec.ofNat 32 (128 * s + l.val)
        ∧ sSt (top2 K) K r (ix2 i l) = qv K i (col s l) ∧ ∀ s' < s, cv K i (col s' l) ≠ cv K i j)
      ∨ (jSt (top2 K) K.C r (ix2 i l) = 16384#32 ∧ ∀ s' < r, cv K i (col s' l) ≠ cv K i j) := by
    intro r hr l
    induction r with
    | zero => exact .inr ⟨rfl, fun s hs => absurd hs (Nat.not_lt_zero s)⟩
    | succ r ih =>
      have hh : hits (top2 K) (jSt (top2 K) K.C r) (win K.C r) (ix2 i l)
          = BitVec.ofBool (decide (cv K i (col r l) = cv K i j ∧ jSt (top2 K) K.C r (ix2 i l) = 16384#32)) := by
        show IntOp.andi (Ideal.cmp .oeq (clip (win K.C r) (ix2 i l)) (broadcastTo S128x128 (top2 K) broadcasts_S128x1_S128x128 (ix2 i l))) (IntOp.cmpi .eq (jSt (top2 K) K.C r (ix2 i l)) 16384#32) = _
        rw [col_apply, htop]
        show IntOp.andi (BitVec.ofBool (decide (cv K i (col r l) = cv K i j))) (BitVec.ofBool (jSt (top2 K) K.C r (ix2 i l) == 16384#32)) = _
        by_cases h1 : cv K i (col r l) = cv K i j <;> by_cases h2 : jSt (top2 K) K.C r (ix2 i l) = 16384#32
        · rw [h2, decide_eq_true h1, decide_eq_true ⟨h1, rfl⟩]; rfl
        · rw [beq_eq_false_iff_ne.2 h2, decide_eq_true h1, decide_eq_false fun h => h2 h.2]; rfl
        · rw [h2, decide_eq_false h1, decide_eq_false fun h => h1 h.1]; rfl
        · rw [beq_eq_false_iff_ne.2 h2, decide_eq_false h1, decide_eq_false fun h => h1 h.1]; rfl
      have ej : jSt (top2 K) K.C (r + 1) (ix2 i l) = if cv K i (col r l) = cv K i j ∧ jSt (top2 K) K.C r (ix2 i l) = 16384#32 then BitVec.ofNat 32 (128 * r + l.val) else jSt (top2 K) K.C r (ix2 i l) := by
        show Scalar.select (hits (top2 K) (jSt (top2 K) K.C r) (win K.C r) (ix2 i l)) ((addi (iota .tc S128x128 32 [1] iota_S128x128_d1_w32) (broadcast S128x128 (Scalar.muli (Scf.iv 0#32 1#32 r) 128#32))) (ix2 i l)) (jSt (top2 K) K.C r (ix2 i l)) = _
        rw [hh, sel_dec, colw r _ (by unfold Scf.iv; rw [BitVec.zero_add, BitVec.mul_one])]
      have es : sSt (top2 K) K (r + 1) (ix2 i l) = if cv K i (col r l) = cv K i j ∧ jSt (top2 K) K.C r (ix2 i l) = 16384#32 then qv K i (col r l) else sSt (top2 K) K r (ix2 i l) := by
        show Scalar.select (hits (top2 K) (jSt (top2 K) K.C r) (win K.C r) (ix2 i l)) (qCh K r (ix2 i l)) (sSt (top2 K) K r (ix2 i l)) = _
        rw [hh, sel_dec, qCh_apply]
      rcases ih (by omega) with ⟨s, hs, h1, h2, h3, h4⟩ | ⟨h2, h4⟩
      · have hne : ¬(cv K i (col r l) = cv K i j ∧ jSt (top2 K) K.C r (ix2 i l) = 16384#32) := by
          rintro ⟨-, h⟩
          rw [h2] at h
          have h' := congrArg BitVec.toNat h
          have := l.isLt
          rw [BitVec.toNat_ofNat, Nat.mod_eq_of_lt (by omega)] at h'
          have : (16384#32 : BitVec 32).toNat = 16384 := by decide
          omega
        rw [if_neg hne] at ej es
        exact .inl ⟨s, hs.trans (Nat.lt_succ_self r), h1, ej.trans h2, es.trans h3, h4⟩
      · by_cases hc : cv K i (col r l) = cv K i j
        · rw [if_pos ⟨hc, h2⟩] at ej es
          exact .inl ⟨r, Nat.lt_succ_self r, hc, ej, es, h4⟩
        · rw [if_neg fun h => hc h.1] at ej
          refine .inr ⟨ej.trans h2, fun s' hs' => ?_⟩
          rcases Nat.lt_succ_iff_lt_or_eq.1 hs' with h | rfl
          · exact h4 s' h
          · exact hc
  -- the lane of the answer
  have hown : jSt (top2 K) K.C 128 (ix2 i (laneOf j)) = BitVec.ofNat 32 j.val ∧ sSt (top2 K) K 128 (ix2 i (laneOf j)) = qv K i j := by
    rcases hlane 128 le_rfl (laneOf j) with ⟨s, hs, h1, h2, h3, h4⟩ | ⟨-, h4⟩
    · have e : col s (laneOf j) = j := by
        have hge := hj.le_of_eq h1
        have hle' : s ≤ j.val / 128 := not_lt.1 fun hlt => h4 _ hlt (by rw [col_div])
        have hv := col_val hs (laneOf j)
        have hge' : j.val ≤ (col s (laneOf j)).val := hge
        have hlv : (laneOf j).val = j.val % 128 := rfl
        apply Fin.ext
        omega
      rw [h2, h3, ← col_val hs, e]
      exact ⟨rfl, rfl⟩
    · exact absurd (by rw [col_div]) (h4 _ hdiv)
  have hmin : minOf (jSt (top2 K) K.C 128) (ix2 i 0) = BitVec.ofNat 32 j.val := by
    choose n hn hn1 hn2 using fun l => show ∃ n ≤ 16384, jSt (top2 K) K.C 128 (ix2 i l) = BitVec.ofNat 32 n ∧ j.val ≤ n from by
      rcases hlane 128 le_rfl l with ⟨s, hs, h1, h2, -, -⟩ | ⟨h2, -⟩
      · have := l.isLt
        exact ⟨128 * s + l.val, by omega, h2, by rw [← col_val hs]; exact hj.le_of_eq h1⟩
      · exact ⟨16384, le_rfl, h2, j.isLt.le⟩
    have e : n (laneOf j) = j.val := by
      have h := (hn1 (laneOf j)).symm.trans hown.1
      have h' := congrArg BitVec.toNat h
      have := hn (laneOf j)
      have := j.isLt
      rwa [BitVec.toNat_ofNat, BitVec.toNat_ofNat, Nat.mod_eq_of_lt (by omega), Nat.mod_eq_of_lt (by omega)] at h'
    rw [minOf_apply, fold_minsi_eq _ n hn1 hn (laneOf j) fun l => by rw [e]; exact hn2 l, e]
  refine ⟨htop, hmin, quo_eq _ _ _ i j _ hmin hown.1 hown.2 fun l hne => ?_⟩
  rcases hlane 128 le_rfl l with ⟨s, hs, -, h2, -, -⟩ | ⟨h2, -⟩
  · rw [h2]; exact word_ne hs l j hne
  · rw [h2]
    intro h
    have h' := congrArg BitVec.toNat h
    have := j.isLt
    rw [BitVec.toNat_ofNat, BitVec.toNat_ofNat, Nat.mod_eq_of_lt (by omega), Nat.mod_eq_of_lt (by omega)] at h'
    omega

/-! ### A row's answer -/

/-- What the answer is greatest in: the cosines within the radius if there is one, else all. -/
def goal (i : Fin 128) (j : Fin 16384) : EReal := open Classical in if ∃ k, qv K i k ≤ thr then ev K i j else cv K i j

/-- Whether a row has a candidate within the threshold. -/
theorem anyOf_apply (i : Fin 128) : anyOf K (ix2 i 0) = open Classical in BitVec.ofBool (decide (∃ k, qv K i k ≤ thr)) := by
  classical
  have e : anyOf K (ix2 i 0) = BitVec.ofBool ((0#32 : BitVec 32).slt (cntOf (nSt K 128) (ix2 i 0))) := by unfold anyOf; rfl
  rw [e, count_eq]
  have hp := tally_pos fun j => qv K i j ≤ thr
  generalize (tally fun j => qv K i j ≤ thr) = w at hp ⊢
  rw [← decide_eq_decide.2 hp]
  have e0 : (0#32 : BitVec 32).toInt = 0 := rfl
  refine congrArg BitVec.ofBool (Bool.eq_iff_iff.2 ?_)
  rw [BitVec.slt_iff_toInt_lt, decide_eq_true_iff, e0]

/-- The guard's word when the least count is not positive. -/
theorem flag_of_le (w : BitVec 32) (h : w.toInt ≤ 0) : Scalar.cmpi .ne (Scalar.extui (Scalar.cmpi .sle w 0#32) : BitVec 32) 0#32 = 1#1 := by
  have hw : Scalar.cmpi .sle w 0#32 = 1#1 := by
    show BitVec.ofBool (w.sle 0#32) = 1#1
    rw [BitVec.sle_iff_toInt_le.2 (show w.toInt ≤ (0#32 : BitVec 32).toInt from h)]
    rfl
  rw [hw]
  rfl

/-- When no row lacks a candidate within the radius, every row has one. -/
theorem some_of_lacks (h : lacks K ≠ 1#1) (i : Fin 128) : ∃ k, qv K i k ≤ thr := by
  by_contra hno
  apply h
  have hc : (cntOf (nSt K 128) (ix2 i 0)).toInt ≤ 0 := by
    rw [count_eq]
    exact not_lt.1 fun hp => hno ((tally_pos _).1 hp)
  have hm : ∃ f : Fin 128 → BitVec 32, f i = cntOf (nSt K 128) (ix2 i 0)
      ∧ extractAt ![0, 0] (k1_pay3 (cntOf (nSt K 128))) inpos_S1x1_p0_0 = Finset.univ.fold IntOp.minsi 2147483647#32 f := by
    refine ⟨fun l => shapeCast S1x128 (shapeCast S128 (cntOf (nSt K 128)) shapeCasts_S128x1_S128) shapeCasts_S128_S1x128 (ix2 0 l), ?_, ?_⟩
    · beta_reduce
      rw [shapeCast_apply _ shapeCasts_S128_S1x128 (ix2 0 i) (ix1 i) (by rw [Shape.rowMajor_val_one, Shape.rowMajor_val_two]; show i.val = 0 * 128 + i.val; omega),
        shapeCast_apply _ shapeCasts_S128x1_S128 (ix1 i) (ix2 i 0) (by rw [Shape.rowMajor_val_one, Shape.rowMajor_val_two]; show i.val * 1 + 0 = i.val; omega)]
    · show k1_pay3 (cntOf (nSt K 128)) (ix2 0 0) = _
      unfold k1_pay3
      rw [shapeCast_apply _ shapeCasts_S1_S1x1 (ix2 0 0) (ix1 0) (by rw [Shape.rowMajor_val_one, Shape.rowMajor_val_two]; rfl)]
      refine (multiReductionI_eq_fold .minsi _ _ _ rfl _).trans ?_
      rw [Shape.Reduces.fold_filter_drop_single]
      refine Finset.fold_congr fun l _ => ?_
      show (shapeCast S1x128 _ _) (reduces_S1x128_S1.lift (ix1 0) l) = _
      congr 1
      funext a
      match a with
      | ⟨0, _⟩ => rfl
      | ⟨1, _⟩ => rfl
  obtain ⟨f, hf, e⟩ := hm
  have h1 := (fold_minsi Finset.univ f).1 i (Finset.mem_univ _)
  rw [hf] at h1
  unfold lacks
  rw [e]
  generalize Finset.univ.fold IntOp.minsi 2147483647#32 f = w at h1
  exact flag_of_le w (h1.trans hc)

/-- A row's cosine, column and squared distance. -/
theorem row_answer (i : Fin 128) {j : Fin 16384} (hj : Best (goal K i) j) : ansM K (ix2 i 0) = cv K i j
    ∧ ansI K (ix2 i 0) = BitVec.ofNat 32 j.val
    ∧ max (ansQ K (ix2 i 0)) (Ideal.ofBits .f32 0x00000000#32) = max (qv K i j) (Ideal.ofBits .f32 0x00000000#32) := by
  classical
  by_cases hany : ∃ k, qv K i k ≤ thr
  · have hE : goal K i = ev K i := by funext k; unfold goal; exact if_pos hany
    rw [hE] at hj
    obtain ⟨h1, h2, h3⟩ := sweep_row K i hj
    have hcv : ev K i j = cv K i j := by
      obtain ⟨k, hk⟩ := hany
      have hk' := hj.1 k
      unfold ev at hk' ⊢
      rw [if_pos hk] at hk'
      by_cases hjn : qv K i j ≤ thr
      · rw [if_pos hjn]
      · rw [if_neg hjn] at hk'
        exact absurd (cv_gt K i k) (not_lt.2 hk')
    rw [hcv] at h1
    unfold ansM ansI ansQ
    by_cases hg : lacks K = 1#1
    · rw [if_pos hg, if_pos hg, if_pos hg]
      have ha : anyOf K (ix2 i 0) = 1#1 := by rw [anyOf_apply, decide_eq_true hany]; rfl
      simp only [select_apply, ha, select_one]
      exact ⟨h1, h2, h3⟩
    · rw [if_neg hg, if_neg hg, if_neg hg]
      exact ⟨h1, h2, h3⟩
  · have hE : goal K i = cv K i := by funext k; unfold goal; exact if_neg hany
    rw [hE] at hj
    have hg : lacks K = 1#1 := by
      by_contra hg
      exact hany (some_of_lacks K hg i)
    have ha : anyOf K (ix2 i 0) = 0#1 := by rw [anyOf_apply, decide_eq_false hany]; rfl
    unfold ansM ansI ansQ
    rw [if_pos hg, if_pos hg, if_pos hg]
    simp only [select_apply, ha, select_zero]
    exact recover_row K i hj ha

/-- The angle of a row. -/
theorem angle_row (m : FVec Ideal S128x1 .f32) (i : Fin 128) (x : EReal) (h : m (ix2 i 0) = clipE x) : angle m (ix2 i 0) = Ideal.acos (clipE x) := by
  obtain ⟨r, e, h1, h2⟩ := clipE_real x
  show Ideal.ofBits .f32 0x40000000#32 * Ideal.atan2 (Ideal.sqrt (Ideal.ofBits .f32 0x3F800000#32 - m (ix2 i 0) * m (ix2 i 0))) (Ideal.ofBits .f32 0x3F800000#32 + m (ix2 i 0)) = _
  rw [h, e, lit_1, lit_2, two_atan2 r h1 h2]
/-- The distance of a row. -/
theorem dist_row (q : FVec Ideal S128x1 .f32) (i : Fin 128) (x : EReal)
    (h : max (q (ix2 i 0)) (Ideal.ofBits .f32 0x00000000#32) = max x (Ideal.ofBits .f32 0x00000000#32)) : dist q (ix2 i 0) = distE x := by
  show Ideal.sqrt (max (q (ix2 i 0)) (Ideal.ofBits .f32 0x00000000#32) + Ideal.ofBits .f32 0x2B8CBCCC#32) = _
  rw [h]
  rfl

end Cert.Proof

end
-- ==== Proof.Own.Terms.lean ====
module

public import proofs.«01_k».proof.Proof.Own.Best

@[expose] public section

noncomputable section

namespace Cert.Proof

open Idealize.ShloMosaic

/-! ## The scalar terms both programs compute, over the extended reals -/

/-- A component of a vector divided by its length plus a small constant. -/
def unitE (v : Fin 3 → EReal) (a : Fin 3) : EReal := Ideal.div (v a) (Ideal.sqrt (∑ b, v b * v b) + Ideal.ofBits .f32 0x322BCC77#32)
/-- The cosine between two directions, before it is clipped. -/
def cosE (v w : Fin 3 → EReal) : EReal := ∑ a, unitE v a * unitE w a
/-- The squared distance of two points in its expanded form. -/
def sqE (o p : Fin 3 → EReal) : EReal := ((∑ a, o a * o a) + ∑ a, p a * p a) - Ideal.ofBits .f32 0x40000000#32 * ∑ a, o a * p a

end Cert.Proof

end
-- ==== Proof.Own.PointForm.lean ====
module

public import proofs.«01_k».proof.Proof.Own.Rows
public import proofs.«01_k».proof.Proof.Own.Terms
public import Idealize.ShloMosaic.Lib.MatmulPlain
public import Idealize.ShloMosaic.Lib.Pipeline.Value

@[expose] public section

set_option maxRecDepth 65536

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## What a point of the main region reads, entry by entry -/

section
variable {s : Shape} (x y : FVec Ideal s .f32) (j : s.Idx)
/-- A quotient, entry by entry. -/
theorem div_at : divf x y j = Ideal.div (x j) (y j) := rfl
/-- A root, entry by entry. -/
theorem sqrt_at : sqrt x j = Ideal.sqrt (x j) := rfl
/-- A sum, entry by entry. -/
theorem add_at : addf x y j = x j + y j := rfl
/-- A product, entry by entry. -/
theorem mul_at : mulf x y j = x j * y j := rfl
end

/-- Three columns side by side. -/
theorem three_cols (x0 x1 x2 : FVec Ideal S128x1 .f32) (i : Fin 128) (a : Fin 3) :
    concatenate S128x3 1 [⟨S128x1, x0⟩, ⟨S128x1, x1⟩, ⟨S128x1, x2⟩] concatenates_S128x1_S128x1_S128x1_S128x3_d1 (ix2 i a) = (![x0, x1, x2] a) (ix2 i 0) := by
  match a with
  | ⟨0, _⟩ =>
    exact concatenate_apply_piece (t := S128x3) 1 [⟨S128x1, x0⟩, ⟨S128x1, x1⟩, ⟨S128x1, x2⟩] concatenates_S128x1_S128x1_S128x1_S128x3_d1 _ 0 (by simp) S128x1 x0 rfl rfl 0 rfl (ix2 i 0)
      (fun b hb => match b with | ⟨0, _⟩ => rfl | ⟨1, _⟩ => absurd rfl hb) rfl
  | ⟨1, _⟩ =>
    exact concatenate_apply_piece (t := S128x3) 1 [⟨S128x1, x0⟩, ⟨S128x1, x1⟩, ⟨S128x1, x2⟩] concatenates_S128x1_S128x1_S128x1_S128x3_d1 _ 1 (by simp) S128x1 x1 rfl rfl 1 rfl (ix2 i 0)
      (fun b hb => match b with | ⟨0, _⟩ => rfl | ⟨1, _⟩ => absurd rfl hb) rfl
  | ⟨2, _⟩ =>
    exact concatenate_apply_piece (t := S128x3) 1 [⟨S128x1, x0⟩, ⟨S128x1, x1⟩, ⟨S128x1, x2⟩] concatenates_S128x1_S128x1_S128x1_S128x3_d1 _ 2 (by simp) S128x1 x2 rfl rfl 2 rfl (ix2 i 0)
      (fun b hb => match b with | ⟨0, _⟩ => rfl | ⟨1, _⟩ => absurd rfl hb) rfl

/-- One column cut out of the poses. -/
theorem slice_col (X : FVec Ideal S128x16 .f32) (n : ℕ) (h : S128x16.Slices ![0, n] S128x1) (i : Fin 128) (k : Fin 16) (hk : k.val = n) :
    extractStridedSlice S128x1 ![0, n] X h (ix2 i 0) = X (ix2 i k) :=
  extractStridedSlice_apply _ _ _ _ _ fun b => match b with
    | ⟨0, _⟩ => (Nat.zero_add _).symm
    | ⟨1, _⟩ => hk

/-- The sum along a row of three. -/
theorem sum_row (x : FVec Ideal S128x3 .f32) (i : Fin 128) :
    shapeCast S128x1 (multiReduction .add [1] S128 x 0x00000000#32 reduces_S128x3_S128 (.inl rfl) rfl) shapeCasts_S128_S128x1 (ix2 i 0) = ∑ a : Fin 3, x (ix2 i a) := by
  rw [shapeCast_apply _ shapeCasts_S128_S128x1 (ix2 i 0) (ix1 i) (by
    rw [Shape.rowMajor_val_one, Shape.rowMajor_val_two]; show i.val = i.val * 1 + 0; omega)]
  refine (Ideal.multiReduction_add_single x _ reduces_S128x3_S128 _ rfl (ix1 i)).trans ?_
  refine Finset.sum_congr rfl fun k _ => congrArg x ?_
  funext a
  match a with
  | ⟨0, _⟩ => rfl
  | ⟨1, _⟩ => rfl

/-- The sum along a column of three. -/
theorem sum_column (x : FVec Ideal S3x16384 .f32) (j : Fin 16384) :
    shapeCast S1x16384 (multiReduction .add [0] S16384 x 0x00000000#32 reduces_S3x16384_S16384 (.inl rfl) rfl) shapeCasts_S16384_S1x16384 (ix2 0 j) = ∑ a : Fin 3, x (ix2 a j) := by
  rw [shapeCast_apply _ shapeCasts_S16384_S1x16384 (ix2 0 j) (ix1 j) (by
    rw [Shape.rowMajor_val_one, Shape.rowMajor_val_two]; show j.val = 0 * 16384 + j.val; omega)]
  refine (Ideal.multiReduction_add_single x _ reduces_S3x16384_S16384 _ rfl (ix1 j)).trans ?_
  refine Finset.sum_congr rfl fun k _ => congrArg x ?_
  funext a
  match a with
  | ⟨0, _⟩ => rfl
  | ⟨1, _⟩ => rfl

/-- The third column of a target's rotation, from its row of sixteen. -/
def axisRow (X : FVec Ideal S128x16 .f32) (i : Fin 128) (a : Fin 3) : EReal := X (ix2 i ⟨4 * a.val + 2, by omega⟩)
/-- Its origin. -/
def orgRow (X : FVec Ideal S128x16 .f32) (i : Fin 128) (a : Fin 3) : EReal := X (ix2 i ⟨4 * a.val + 3, by omega⟩)

/-- The poses as loaded. -/
theorem pay13_eq (X : FVec Ideal S128x16 .f32) : k1_pay13 (F := Ideal) X = X := shapeCast_self _ _

/-- The three columns of a pose's viewing direction. -/
theorem axis_cols (X : FVec Ideal S128x16 .f32) (i : Fin 128) (a : Fin 3) :
    concatenate S128x3 1 [⟨S128x1, extractStridedSlice S128x1 ![0, 2] (k1_pay13 (F := Ideal) X) slices_S128x16_o0_2_S128x1⟩,
      ⟨S128x1, extractStridedSlice S128x1 ![0, 6] (k1_pay13 (F := Ideal) X) slices_S128x16_o0_6_S128x1⟩,
      ⟨S128x1, extractStridedSlice S128x1 ![0, 10] (k1_pay13 (F := Ideal) X) slices_S128x16_o0_10_S128x1⟩] concatenates_S128x1_S128x1_S128x1_S128x3_d1 (ix2 i a) = axisRow X i a := by
  rw [three_cols, pay13_eq]
  match a with
  | ⟨0, _⟩ => exact slice_col X 2 slices_S128x16_o0_2_S128x1 i ⟨2, by decide⟩ rfl
  | ⟨1, _⟩ => exact slice_col X 6 slices_S128x16_o0_6_S128x1 i ⟨6, by decide⟩ rfl
  | ⟨2, _⟩ => exact slice_col X 10 slices_S128x16_o0_10_S128x1 i ⟨10, by decide⟩ rfl

/-- A pose's origin. -/
theorem pay15_apply (X : FVec Ideal S128x16 .f32) (i : Fin 128) (a : Fin 3) : k1_pay15 (F := Ideal) X (ix2 i a) = orgRow X i a := by
  unfold k1_pay15
  rw [three_cols, pay13_eq]
  match a with
  | ⟨0, _⟩ => exact slice_col X 3 slices_S128x16_o0_3_S128x1 i ⟨3, by decide⟩ rfl
  | ⟨1, _⟩ => exact slice_col X 7 slices_S128x16_o0_7_S128x1 i ⟨7, by decide⟩ rfl
  | ⟨2, _⟩ => exact slice_col X 11 slices_S128x16_o0_11_S128x1 i ⟨11, by decide⟩ rfl

/-- Its squared length. -/
theorem pay16_apply (X : FVec Ideal S128x16 .f32) (i : Fin 128) : k1_pay16 (F := Ideal) X (ix2 i 0) = ∑ a, orgRow X i a * orgRow X i a := by
  unfold k1_pay16
  rw [sum_row]
  exact Finset.sum_congr rfl fun a _ => by rw [mul_at, pay15_apply]

/-- Rows divided by their length plus the constant. -/
theorem unit_rows (v : FVec Ideal S128x3 .f32) (i : Fin 128) (a : Fin 3) :
    divf v (broadcastTo S128x3 (addf (sqrt (shapeCast S128x1 (multiReduction .add [1] S128 (mulf v v) 0x00000000#32 reduces_S128x3_S128 (.inl rfl) rfl) shapeCasts_S128_S128x1))
      (broadcast S128x1 (Scalar.ofBits .f32 0x322BCC77#32))) broadcasts_S128x1_S128x3) (ix2 i a) = unitE (fun b => v (ix2 i b)) a := by
  rw [div_at, broadcastTo_apply _ broadcasts_S128x1_S128x3 (ix2 i a) (ix2 i 0) fun b => match b with | ⟨0, _⟩ => rfl | ⟨1, _⟩ => rfl]
  rw [add_at, sqrt_at, sum_row]
  rfl

/-- A pose's normalised direction. -/
theorem pay14_apply (X : FVec Ideal S128x16 .f32) (i : Fin 128) (a : Fin 3) : k1_pay14 (F := Ideal) X (ix2 i a) = unitE (axisRow X i) a := by
  refine (unit_rows _ i a).trans ?_
  exact congrArg (unitE · a) (funext fun b => axis_cols X i b)

/-- A table of inner products, entry by entry. -/
theorem table_apply (v : FVec Ideal S128x3 .f32) (B : ℕ → FVec Ideal S3x1024 .f32) (i : Fin 128) (j : Fin 16384) :
    table v B (ix2 i j) = ∑ a : Fin 3, v (ix2 i a) * B (j.val / 1024) (ix2 a ⟨j.val % 1024, Nat.mod_lt _ (by decide)⟩) := by
  refine (Ideal.matmul_plain_apply none v (B (j.val / 1024)) _ i ⟨j.val % 1024, Nat.mod_lt _ (by decide)⟩).trans ?_
  refine (congrArg (· + _) ?_).trans (zero_add _)
  exact Ideal.ofBits_zero_f32

/-- A column of the directions' table, from its block. -/
theorem blkX0_apply (X : FVec Ideal S3x16384 .f32) (a : Fin 3) (j : Fin 16384) :
    blkX0 X (j.val / 1024) (ix2 a ⟨j.val % 1024, Nat.mod_lt _ (by decide)⟩) = X (ix2 a j) := by
  unfold blkX0
  refine congrArg (fun k => X (ix2 a k)) (Fin.ext ?_)
  show (1024 * (j.val / 1024) + j.val % 1024) % 16384 = j.val
  rw [Nat.div_add_mod]
  exact Nat.mod_eq_of_lt j.isLt

/-- A column of the origins' table, from its block. -/
theorem blkX1_apply (X : FVec Ideal S4x16384 .f32) (a : Fin 3) (j : Fin 16384) :
    blkX1 X (j.val / 1024) (ix2 a ⟨j.val % 1024, Nat.mod_lt _ (by decide)⟩) = X (ix2 (a.castLE (by decide)) j) := by
  unfold blkX1
  refine congrArg (fun k => X (ix2 (a.castLE (by decide)) k)) (Fin.ext ?_)
  show (1024 * (j.val / 1024) + j.val % 1024) % 16384 = j.val
  rw [Nat.div_add_mod]
  exact Nat.mod_eq_of_lt j.isLt

/-! ## The rows of a point, in the scalar terms -/

/-- What the main region finds in its two tables, from the candidates' directions `D` and origins `P`. -/
structure Tables (X0 : FVec Ideal S3x16384 .f32) (X1 : FVec Ideal S4x16384 .f32) (D P : Fin 16384 → Fin 3 → EReal) : Prop where
  dir : ∀ a j, X0 (ix2 a j) = unitE (D j) a
  org : ∀ (a : Fin 3) j, X1 (ix2 (a.castLE (by decide)) j) = P j a
  sq : ∀ j, X1 (ix2 3 j) = ∑ a, P j a * P j a

variable {X0 : FVec Ideal S3x16384 .f32} {X1 : FVec Ideal S4x16384 .f32} {D P : Fin 16384 → Fin 3 → EReal}

/-- A point's clipped cosine, as a formula. -/
theorem Tables.cv (h : Tables X0 X1 D P) (X2 : FVec Ideal S128x16 .f32) (i : Fin 128) (j : Fin 16384) :
    Cert.Proof.cv (readsOf X0 X1 X2) i j = clipE (cosE (axisRow X2 i) (D j)) := by
  refine congrArg clipE ?_
  show table (k1_pay14 X2) (blkX0 X0) (ix2 i j) = _
  rw [table_apply]
  unfold cosE
  exact Finset.sum_congr rfl fun a _ => by rw [pay14_apply, blkX0_apply, h.dir]

/-- A point's squared distance, as a formula. -/
theorem Tables.qv (h : Tables X0 X1 D P) (X2 : FVec Ideal S128x16 .f32) (i : Fin 128) (j : Fin 16384) :
    Cert.Proof.qv (readsOf X0 X1 X2) i j = sqE (orgRow X2 i) (P j) := by
  show (k1_pay16 X2 (ix2 i 0) + X1 (ix2 3 j)) - Ideal.ofBits .f32 0x40000000#32 * table (k1_pay15 X2) (blkX1 X1) (ix2 i j) = _
  rw [table_apply, pay16_apply, h.sq]
  have e : (∑ a : Fin 3, k1_pay15 X2 (ix2 i a) * blkX1 X1 (j.val / 1024) (ix2 a ⟨j.val % 1024, Nat.mod_lt _ (by decide)⟩)) = ∑ a, orgRow X2 i a * P j a :=
    Finset.sum_congr rfl fun a _ => (show k1_pay15 X2 (ix2 i a) * blkX1 X1 (j.val / 1024) (ix2 a ⟨j.val % 1024, Nat.mod_lt _ (by decide)⟩) = orgRow X2 i a * P j a by
      rw [pay15_apply, blkX1_apply, h.org])
  rw [e]
  rfl

/-- Three blocks of three columns side by side. -/
theorem three_blocks (x0 x1 x2 : FVec Ideal S128x3 .f32) (i : Fin 128) (a b : Fin 3) :
    concatenate S128x9 1 [⟨S128x3, x0⟩, ⟨S128x3, x1⟩, ⟨S128x3, x2⟩] concatenates_S128x3_S128x3_S128x3_S128x9_d1 (ix2 i ⟨3 * a.val + b.val, by omega⟩) = (![x0, x1, x2] a) (ix2 i b) := by
  match a with
  | ⟨0, _⟩ =>
    exact concatenate_apply_piece (t := S128x9) 1 [⟨S128x3, x0⟩, ⟨S128x3, x1⟩, ⟨S128x3, x2⟩] concatenates_S128x3_S128x3_S128x3_S128x9_d1 _ 0 (by simp) S128x3 x0 rfl rfl 0 rfl (ix2 i b)
      (fun c hc => match c with | ⟨0, _⟩ => rfl | ⟨1, _⟩ => absurd rfl hc) (by show 0 + b.val = 3 * 0 + b.val; omega)
  | ⟨1, _⟩ =>
    exact concatenate_apply_piece (t := S128x9) 1 [⟨S128x3, x0⟩, ⟨S128x3, x1⟩, ⟨S128x3, x2⟩] concatenates_S128x3_S128x3_S128x3_S128x9_d1 _ 1 (by simp) S128x3 x1 rfl rfl 3 rfl (ix2 i b)
      (fun c hc => match c with | ⟨0, _⟩ => rfl | ⟨1, _⟩ => absurd rfl hc) (by show 3 + b.val = 3 * 1 + b.val; omega)
  | ⟨2, _⟩ =>
    exact concatenate_apply_piece (t := S128x9) 1 [⟨S128x3, x0⟩, ⟨S128x3, x1⟩, ⟨S128x3, x2⟩] concatenates_S128x3_S128x3_S128x3_S128x9_d1 _ 2 (by simp) S128x3 x2 rfl rfl 6 rfl (ix2 i b)
      (fun c hc => match c with | ⟨0, _⟩ => rfl | ⟨1, _⟩ => absurd rfl hc) (by show 6 + b.val = 3 * 2 + b.val; omega)

/-- Three columns cut out of the poses. -/
theorem slice_block (X : FVec Ideal S128x16 .f32) (n : ℕ) (h : S128x16.Slices ![0, n] S128x3) (i : Fin 128) (b : Fin 3) (k : Fin 16) (hk : k.val = n + b.val) :
    extractStridedSlice S128x3 ![0, n] X h (ix2 i b) = X (ix2 i k) :=
  extractStridedSlice_apply _ _ _ _ _ fun c => match c with
    | ⟨0, _⟩ => (Nat.zero_add _).symm
    | ⟨1, _⟩ => hk

/-- The nine entries of a target's rotation, from its row of sixteen. -/
theorem nine_apply (X : FVec Ideal S128x16 .f32) (i : Fin 128) (a b : Fin 3) :
    nine (F := Ideal) X (ix2 i ⟨3 * a.val + b.val, by omega⟩) = X (ix2 i ⟨4 * a.val + b.val, by omega⟩) := by
  unfold nine k1_pay1 k1_pay1142 k1_pay1143
  rw [pay13_eq]
  refine (three_blocks _ _ _ i a b).trans ?_
  match a with
  | ⟨0, _⟩ => exact slice_block X 0 slices_S128x16_o0_0_S128x3 i b ⟨4 * 0 + b.val, by omega⟩ (by show 4 * 0 + b.val = 0 + b.val; omega)
  | ⟨1, _⟩ => exact slice_block X 4 slices_S128x16_o0_4_S128x3 i b ⟨4 * 1 + b.val, by omega⟩ (by show 4 * 1 + b.val = 4 + b.val; omega)
  | ⟨2, _⟩ => exact slice_block X 8 slices_S128x16_o0_8_S128x3 i b ⟨4 * 2 + b.val, by omega⟩ (by show 4 * 2 + b.val = 8 + b.val; omega)

end Cert.Proof

end
-- ==== Proof.Own.Made.lean ====
module

public import proofs.«01_k».proof.Proof.Own.PointForm
public import Idealize.ShloMosaic.Lib.Pipeline.ValueKit

@[expose] public section

set_option maxRecDepth 65536

noncomputable section

namespace Cert.Proof

open Cert.KernelIdeal Cert.KernelIdeal.Gen

open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The two tables the first region makes -/

/-- A load of a whole buffer reads it whole. -/
theorem whole_load {M : Memref sig .tc .vmem S3x16384 .f32} (h : M.IsWhole) (X : S3x16384.Idx → EReal) :
    View.readAt (Elt Ideal) M.view (Rect.unit (s := S3x16384) ![0, 0] S3x16384.size inb_S3x16384_S3x16384_0_0).toLoadRect (h.unread X) = X := by
  funext y
  rw [View.readAt_apply, h.read_unread]
  congr 1
  funext a
  apply Fin.ext
  match a with
  | ⟨0, _⟩ => show 0 + 1 * (y 0).val = (y 0).val; omega
  | ⟨1, _⟩ => show 0 + 1 * (y 1).val = (y 1).val; omega

section
variable (c : Dev nD) (X0 X1 : S3x16384.Idx → EReal)

/-- The first table holds the normalised directions. -/
theorem made_dir : (made (F := Ideal) c X0 X1).1 = k0_pay1 (F := Ideal) X0 := by
  unfold made prep
  dsimp only
  rw [View.read_writes_junk_eq_canon]
  delta prep.sl.H3_1
  rw [View.canon_unit_zero zero2]
  rw [whole_load]

/-- The first three rows of the second table are the origins. -/
theorem made_org (a : Fin 3) (j : Fin 16384) : (made (F := Ideal) c X0 X1).2 (ix2 (a.castLE (by decide)) j) = X1 (ix2 a j) := by
  unfold made prep
  dsimp only
  rw [View.read_writes_junk_eq_canon]
  refine (View.canon_cons_of_not_mem _ _ ?_).trans ?_
  · rw [Rect.mem_set_unit]
    intro hm
    have h0 := (hm 0).1
    have h1 : 3 ≤ a.val := h0
    exact absurd a.isLt (by omega)
  rw [show (ix2 (a.castLE (by decide)) j : S4x16384.Idx) = (Rect.unit (s := S4x16384) ![0, 0] S3x16384.size inb_S4x16384_S3x16384_0_0).emb (ix2 a j) from by
    funext b; apply Fin.ext
    match b with
    | ⟨0, _⟩ => show a.val = 0 + 1 * a.val; omega
    | ⟨1, _⟩ => show j.val = 0 + 1 * j.val; omega]
  refine (View.canon_cons_emb (Rect.unit (s := S4x16384) ![0, 0] S3x16384.size inb_S4x16384_S3x16384_0_0) _ _ _).trans ?_
  refine (congrArg (fun z => k0_pay2 (F := Ideal) z (ix2 a j)) (whole_load _ X1)).trans ?_
  show shapeCast S3x16384 X1 _ (ix2 a j) = _
  rw [shapeCast_self]

/-- Its fourth row is their squared lengths. -/
theorem made_sq (j : Fin 16384) : (made (F := Ideal) c X0 X1).2 (ix2 3 j) = ∑ a, X1 (ix2 a j) * X1 (ix2 a j) := by
  unfold made prep
  dsimp only
  rw [View.read_writes_junk_eq_canon]
  rw [show (ix2 3 j : S4x16384.Idx) = (Rect.unit (s := S4x16384) ![3, 0] S1x16384.size inb_S4x16384_S1x16384_3_0).emb (ix2 0 j) from by
    funext b; apply Fin.ext
    match b with
    | ⟨0, _⟩ => rfl
    | ⟨1, _⟩ => show j.val = 0 + 1 * j.val; omega]
  refine (View.canon_cons_emb (Rect.unit (s := S4x16384) ![3, 0] S1x16384.size inb_S4x16384_S1x16384_3_0) _ _ _).trans ?_
  refine (congrArg (fun z => k0_pay3 (F := Ideal) z (ix2 0 j)) (whole_load _ X1)).trans ?_
  unfold k0_pay3 k0_pay2
  dsimp only
  rw [sum_column]
  refine Finset.sum_congr rfl fun a _ => ?_
  rw [mul_at, shapeCast_self]

/-- A direction divided by its length plus the constant. -/
theorem pay1_apply (a : Fin 3) (j : Fin 16384) : k0_pay1 (F := Ideal) X0 (ix2 a j) = unitE (fun b => X0 (ix2 b j)) a := by
  unfold k0_pay1
  dsimp only
  rw [div_at, broadcastTo_apply _ _ _ (ix2 0 j) (by intro b; match b with | ⟨0, _⟩ => rfl | ⟨1, _⟩ => rfl), add_at, sqrt_at, sum_column, shapeCast_self]
  rfl

/-- The two tables, as the second region needs them. -/
theorem made_tables (D P : Fin 16384 → Fin 3 → EReal) (hD : ∀ a j, X0 (ix2 a j) = D j a) (hP : ∀ a j, X1 (ix2 a j) = P j a) :
    Tables (made (F := Ideal) c X0 X1).1 (made (F := Ideal) c X0 X1).2 D P where
  dir a j := by rw [made_dir, pay1_apply]; simp only [hD]
  org a j := by rw [made_org, hP]
  sq j := by rw [made_sq]; simp only [hP]
end

end Cert.Proof

end
-- ==== Proof.Own.Arrays.lean ====
module

public import proofs.«01_k».proof.Proof.Own.Made
public import proofs.«01_k».proof.Proof.Own.Launched
public import Idealize.ShloMosaic.Lib.Pipeline.ValueKit

@[expose] public section

set_option maxRecDepth 65536

noncomputable section

namespace Cert.Proof

open Cert.KernelIdeal Cert.KernelIdeal.Gen

open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The arrays between the regions, entry by entry -/

variable (m : (ℓ : Loc nD τ sig) → Buf (Elt Ideal) ℓ) (c : Dev nD)

/-- The rotations of the candidates. -/
abbrev argR : FVec Ideal S16384x3x3 .f32 := m ((c.tc : Thread nD τ).loc main_arg0)
/-- Their origins. -/
abbrev argT : FVec Ideal S16384x3 .f32 := m ((c.tc : Thread nD τ).loc main_arg1)
/-- The poses. -/
abbrev argP : FVec Ideal S1024x4x4 .f32 := m ((c.tc : Thread nD τ).loc main_arg2)

/-- The first region's directions: the third columns of the rotations, transposed. -/
theorem V1_v2 : (V1 m c (Proc.devRef .tc main_v2) : FVec Ideal S3x16384 .f32)
    = transpose S3x16384 [1, 0] (shapeCast S16384x3 (extractStridedSlice S16384x3x1 ![0, 0, 2] (argR m c) slices_S16384x3x3_S16384x3x1_0_0_2) shapeCasts_S16384x3x1_S16384x3) transposes_S16384x3_S3x16384_1_0 := by
  rfl
/-- Its origins, transposed. -/
theorem V1_v3 : (V1 m c (Proc.devRef .tc main_v3) : FVec Ideal S3x16384 .f32) = transpose S3x16384 [1, 0] (argT m c) transposes_S16384x3_S3x16384_1_0 := by
  rfl
/-- The poses as rows of sixteen. -/
theorem V1_v4 : (V1 m c (Proc.devRef .tc main_v4) : FVec Ideal S1024x16 .f32) = shapeCast S1024x16 (argP m c) shapeCasts_S1024x4x4_S1024x16 := by
  rfl

/-- A candidate's direction, by coordinate. -/
theorem dirs_apply (a : Fin 3) (j : Fin 16384) : (V1 m c (Proc.devRef .tc main_v2) : FVec Ideal S3x16384 .f32) (ix2 a j) = argR m c (ix3 j a 2) := by
  rw [V1_v2]
  rw [transpose_apply _ _ _ _ (ix2 j a) (by intro b; match b with | ⟨0, _⟩ => rfl | ⟨1, _⟩ => rfl)]
  rw [shapeCast_apply _ _ (ix2 j a) (ix3 j a 0) (by rw [Shape.rowMajor_val_two, Shape.rowMajor_val_three]; show (j.val * 3 + a.val) * 1 + 0 = j.val * 3 + a.val; omega)]
  exact extractStridedSlice_apply _ _ _ (ix3 j a 0) (ix3 j a 2) (by intro b; match b with | ⟨0, _⟩ => exact (Nat.zero_add _).symm | ⟨1, _⟩ => exact (Nat.zero_add _).symm | ⟨2, _⟩ => rfl)
/-- A candidate's origin, by coordinate. -/
theorem origins_apply (a : Fin 3) (j : Fin 16384) : (V1 m c (Proc.devRef .tc main_v3) : FVec Ideal S3x16384 .f32) (ix2 a j) = argT m c (ix2 j a) := by
  rw [V1_v3]
  exact transpose_apply _ _ _ _ (ix2 j a) (by intro b; match b with | ⟨0, _⟩ => rfl | ⟨1, _⟩ => rfl)
/-- A pose's entry in its row. -/
theorem poses_apply (g : Fin 1024) (a b : Fin 4) :
    (V1 m c (Proc.devRef .tc main_v4) : FVec Ideal S1024x16 .f32) (ix2 g ⟨4 * a.val + b.val, by omega⟩) = argP m c (ix3 g a b) := by
  rw [V1_v4]
  refine shapeCast_apply _ _ _ (ix3 g a b) ?_
  rw [Shape.rowMajor_val_two, Shape.rowMajor_val_three]
  show (g.val * 4 + a.val) * 4 + b.val = g.val * 16 + (4 * a.val + b.val)
  omega

/-! ### What the first region leaves -/

/-- Which block window 0 of region 0 takes at a point: always the whole array. -/
theorem index0_0 : ∀ t : Fin cfg0.N, win0_0.index t = ![0, 0] := (by decide +kernel : ∀ t : Fin grid0.N, win0_0.index t = ![0, 0])
/-- Which block window 1 of region 0 takes at a point: always the whole array. -/
theorem index0_1 : ∀ t : Fin cfg0.N, win0_1.index t = ![0, 0] := (by decide +kernel : ∀ t : Fin grid0.N, win0_1.index t = ![0, 0])
/-- Which block window 0 of region 1 takes at a point: always the whole array. -/
theorem index1_0 : ∀ t : Fin cfg1.N, win1_0.index t = ![0, 0] := (by decide +kernel : ∀ t : Fin grid1.N, win1_0.index t = ![0, 0])
/-- Which block window 1 of region 1 takes at a point: always the whole array. -/
theorem index1_1 : ∀ t : Fin cfg1.N, win1_1.index t = ![0, 0] := (by decide +kernel : ∀ t : Fin grid1.N, win1_1.index t = ![0, 0])
/-- Which block window 2 of region 1 takes at a point: the point's own rows. -/
theorem index1_2 : ∀ t : Fin cfg1.N, win1_2.index t = ![t.val, 0] := (by decide +kernel : ∀ t : Fin grid1.N, win1_2.index t = ![t.val, 0])
/-- Which block window 3 of region 1 takes at a point: the point's own rows. -/
theorem index1_3 : ∀ t : Fin cfg1.N, win1_3.index t = ![t.val, 0] := (by decide +kernel : ∀ t : Fin grid1.N, win1_3.index t = ![t.val, 0])
/-- Which block window 4 of region 1 takes at a point: the point's own rows. -/
theorem index1_4 : ∀ t : Fin cfg1.N, win1_4.index t = ![t.val, 0] := (by decide +kernel : ∀ t : Fin grid1.N, win1_4.index t = ![t.val, 0])
/-- Which block window 5 of region 1 takes at a point: the point's own rows. -/
theorem index1_5 : ∀ t : Fin cfg1.N, win1_5.index t = ![t.val, 0] := (by decide +kernel : ∀ t : Fin grid1.N, win1_5.index t = ![t.val, 0])

variable (V : Dev nD → Valuation τ sig (Elt Ideal))

/-- The first region reads the whole array of directions. -/
theorem blk0_0 (t : Fin cfg0.N) : blk0 V c 0 t = (V c (Proc.devRef .tc main_v2) : FVec Ideal S3x16384 .f32) := by
  funext y
  unfold blk0
  blk_ext [index0_0 t]
/-- And the whole array of origins. -/
theorem blk0_1 (t : Fin cfg0.N) : blk0 V c 1 t = (V c (Proc.devRef .tc main_v3) : FVec Ideal S3x16384 .f32) := by
  funext y
  unfold blk0
  blk_ext [index0_1 t]
/-- The second region reads the whole table of directions. -/
theorem blk1_0 (t : Fin cfg1.N) : blk1 V c 0 t = (V c (Proc.devRef .tc main_v5_0) : FVec Ideal S3x16384 .f32) := by
  funext y
  unfold blk1
  blk_ext [index1_0 t]
/-- And the whole table of origins. -/
theorem blk1_1 (t : Fin cfg1.N) : blk1 V c 1 t = (V c (Proc.devRef .tc main_v5_1) : FVec Ideal S4x16384 .f32) := by
  funext y
  unfold blk1
  blk_ext [index1_1 t]
/-- A point of it reads its own 128 poses. -/
theorem blk1_2 (t : Fin cfg1.N) (i : Fin 128) (k : Fin 16) (g : Fin 1024) (hg : g.val = 128 * t.val + i.val) :
    (blk1 V c 2 t : FVec Ideal S128x16 .f32) (ix2 i k) = (V c (Proc.devRef .tc main_v4) : FVec Ideal S1024x16 .f32) (ix2 g k) := by
  unfold blk1
  blk_ext [index1_2 t, hg]
  show t.val * 128 + i.val = 128 * t.val + i.val
  omega

/-- The first region's point leaves the table of directions. -/
theorem after0_2 (t : Fin cfg0.N) : (dat0 V c).after 2 t = (made (F := Ideal) c (blk0 V c 0 t) (blk0 V c 1 t)).1 := by dsimp only [dat0]
/-- And the table of origins. -/
theorem after0_3 (t : Fin cfg0.N) : (dat0 V c).after 3 t = (made (F := Ideal) c (blk0 V c 0 t) (blk0 V c 1 t)).2 := by dsimp only [dat0]
/-- A point of the second region leaves its floating rows. -/
theorem after1_3 (t : Fin cfg1.N) : (dat1 V c).after 3 t = found3 (F := Ideal) c t (blk1 V c 0 t) (blk1 V c 1 t) (blk1 V c 2 t) := by dsimp only [dat1]
/-- Its chosen candidates. -/
theorem after1_4 (t : Fin cfg1.N) : (dat1 V c).after 4 t = found4 (F := Ideal) c t (blk1 V c 0 t) (blk1 V c 1 t) (blk1 V c 2 t) := by dsimp only [dat1]
/-- And its counts. -/
theorem after1_5 (t : Fin cfg1.N) : (dat1 V c).after 5 t = found5 (F := Ideal) c t (blk1 V c 0 t) (blk1 V c 1 t) (blk1 V c 2 t) := by dsimp only [dat1]

/-- The first region's first array is the table of directions. -/
theorem mid_0 : (mid m c (Proc.devRef .tc main_v5_0) : FVec Ideal S3x16384 .f32)
    = (made (F := Ideal) c (V1 m c (Proc.devRef .tc main_v2)) (V1 m c (Proc.devRef .tc main_v3))).1 := by
  unfold mid
  refine (Pipeline.afterRegion_arr (dat0 (V1 m) c) (V1 m c) winFacts0.arr_inj 2).trans ?_
  refine (dat0 (V1 m) c).arrAt_eq_of_after_last 2 t0_0 (by decide +kernel) _ fun j => ?_
  blk_simp
  refine (congrFun (after0_2 c (V1 m) t0_0) j).trans ?_
  rw [blk0_0, blk0_1]
/-- Its second is the table of origins. -/
theorem mid_1 : (mid m c (Proc.devRef .tc main_v5_1) : FVec Ideal S4x16384 .f32)
    = (made (F := Ideal) c (V1 m c (Proc.devRef .tc main_v2)) (V1 m c (Proc.devRef .tc main_v3))).2 := by
  unfold mid
  refine (Pipeline.afterRegion_arr (dat0 (V1 m) c) (V1 m c) winFacts0.arr_inj 3).trans ?_
  refine (dat0 (V1 m) c).arrAt_eq_of_after_last 3 t0_0 (by decide +kernel) _ fun j => ?_
  blk_simp
  refine (congrFun (after0_3 c (V1 m) t0_0) j).trans ?_
  rw [blk0_0, blk0_1]

/-! ### What the second region finds -/

/-- Its tables. -/
theorem tables (t : Fin cfg1.N) : Tables (blk1 (V2 m (outs0 m)) c 0 t) (blk1 (V2 m (outs0 m)) c 1 t)
    (fun j a => argR m c (ix3 j a 2)) (fun j a => argT m c (ix2 j a)) := by
  rw [blk1_0, blk1_1, V2_0, V2_1]
  have h := made_tables c (V1 m c (Proc.devRef .tc main_v2)) (V1 m c (Proc.devRef .tc main_v3)) (fun j a => argR m c (ix3 j a 2)) (fun j a => argT m c (ix2 j a))
    (dirs_apply m c) (origins_apply m c)
  rw [← mid_0, ← mid_1] at h
  exact h
/-- Its poses. -/
theorem pose (t : Fin cfg1.N) (i : Fin 128) (a b : Fin 4) (g : Fin 1024) (hg : g.val = 128 * t.val + i.val) :
    (blk1 (V2 m (outs0 m)) c 2 t : FVec Ideal S128x16 .f32) (ix2 i ⟨4 * a.val + b.val, by omega⟩) = argP m c (ix3 g a b) := by
  rw [blk1_2 c _ t i _ g hg, V2_of m (outs0 m) c main_v4 (by decide)]
  exact poses_apply m c g a b

/-! ### What the second region leaves -/

/-- An entry of a matrix's index by its two coordinates. -/
theorem two (n k : ℕ) (y : Shape.Idx ⟨2, ![n, k]⟩) : ∃ (a : Fin n) (b : Fin k), y = ix2 a b :=
  ⟨y 0, y 1, by funext d; match d with | ⟨0, _⟩ => rfl | ⟨1, _⟩ => rfl⟩

/-- Where an entry of a point's block lies in the array. -/
theorem place1_3 (t : Fin cfg1.N) (i : Fin 128) (k : Fin 11) (g : Fin 1024) (hg : g.val = 128 * t.val + i.val) :
    ((cfg1.win 3).blk t).view.emb (ix2 i k : S128x11.Idx) = (ix2 g k : S1024x11.Idx) := by
  blk_ext [index1_3 t, hg]
  show t.val * 128 + i.val = 128 * t.val + i.val
  omega
/-- The array that holds every point's block, whatever the points leave. -/
theorem whole1_3 (dat : Dat τ (Elt Ideal) Unit ℕ (UR sig nD τ) ℕ cfg1 c) (f : Fin cfg1.N → S128x11.Idx → EReal) (hf : ∀ t, dat.after 3 t = f t) (G : FVec Ideal S1024x11 .f32)
    (h : ∀ (t : Fin cfg1.N) (i : Fin 128) (k : Fin 11) (g : Fin 1024), g.val = 128 * t.val + i.val → f t (ix2 i k) = G (ix2 g k)) :
    dat.arrAt 3 cfg1.N = G := by
  have h' (t : Fin cfg1.N) (y : S128x11.Idx) : f t y = G (((cfg1.win 3).blk t).view.emb y) := by
    obtain ⟨i, k, rfl⟩ := two _ _ y
    have ht : t.val < 8 := t.isLt
    rw [place1_3 t i k ⟨128 * t.val + i.val, by have := i.isLt; omega⟩ rfl]
    exact h t i k _ rfl
  refine dat.arrAt_eq_of_covers 3 G (by decide +kernel) fun t _ y => ?_
  blk_simp
  exact (congrFun (hf t) y).trans (h' t y)
/-- The floating array after the second region, from its rows. -/
theorem last_0 (G : FVec Ideal S1024x11 .f32) (h : ∀ (t : Fin cfg1.N) (i : Fin 128) (k : Fin 11) (g : Fin 1024), g.val = 128 * t.val + i.val →
      found3 (F := Ideal) c t (blk1 (V2 m (outs0 m)) c 0 t) (blk1 (V2 m (outs0 m)) c 1 t) (blk1 (V2 m (outs0 m)) c 2 t) (ix2 i k) = G (ix2 g k)) :
    (last m c (Proc.devRef .tc main_v6_0) : FVec Ideal S1024x11 .f32) = G := by
  unfold last
  refine (Pipeline.afterRegion_arr (dat1 (V2 m (outs0 m)) c) (V2 m (outs0 m) c) winFacts1.arr_inj 3).trans ?_
  exact whole1_3 c _ _ (fun t => after1_3 c (V2 m (outs0 m)) t) G h

/-- Where an entry of a point's block lies in the array. -/
theorem place1_4 (t : Fin cfg1.N) (i : Fin 128) (k : Fin 1) (g : Fin 1024) (hg : g.val = 128 * t.val + i.val) :
    ((cfg1.win 4).blk t).view.emb (ix2 i k : S128x1.Idx) = (ix2 g k : S1024x1.Idx) := by
  blk_ext [index1_4 t, hg]
  show t.val * 128 + i.val = 128 * t.val + i.val
  omega
/-- The array that holds every point's block, whatever the points leave. -/
theorem whole1_4 (dat : Dat τ (Elt Ideal) Unit ℕ (UR sig nD τ) ℕ cfg1 c) (f : Fin cfg1.N → S128x1.Idx → BitVec 32) (hf : ∀ t, dat.after 4 t = f t) (G : IVec S1024x1 32)
    (h : ∀ (t : Fin cfg1.N) (i : Fin 128) (k : Fin 1) (g : Fin 1024), g.val = 128 * t.val + i.val → f t (ix2 i k) = G (ix2 g k)) :
    dat.arrAt 4 cfg1.N = G := by
  have h' (t : Fin cfg1.N) (y : S128x1.Idx) : f t y = G (((cfg1.win 4).blk t).view.emb y) := by
    obtain ⟨i, k, rfl⟩ := two _ _ y
    have ht : t.val < 8 := t.isLt
    rw [place1_4 t i k ⟨128 * t.val + i.val, by have := i.isLt; omega⟩ rfl]
    exact h t i k _ rfl
  refine dat.arrAt_eq_of_covers 4 G (by decide +kernel) fun t _ y => ?_
  blk_simp
  exact (congrFun (hf t) y).trans (h' t y)
/-- The candidates' array, from its rows. -/
theorem last_1 (G : IVec S1024x1 32) (h : ∀ (t : Fin cfg1.N) (i : Fin 128) (k : Fin 1) (g : Fin 1024), g.val = 128 * t.val + i.val →
      found4 (F := Ideal) c t (blk1 (V2 m (outs0 m)) c 0 t) (blk1 (V2 m (outs0 m)) c 1 t) (blk1 (V2 m (outs0 m)) c 2 t) (ix2 i k) = G (ix2 g k)) :
    (last m c (Proc.devRef .tc main_v6_1) : IVec S1024x1 32) = G := by
  unfold last
  refine (Pipeline.afterRegion_arr (dat1 (V2 m (outs0 m)) c) (V2 m (outs0 m) c) winFacts1.arr_inj 4).trans ?_
  exact whole1_4 c _ _ (fun t => after1_4 c (V2 m (outs0 m)) t) G h

/-- Where an entry of a point's block lies in the array. -/
theorem place1_5 (t : Fin cfg1.N) (i : Fin 128) (k : Fin 1) (g : Fin 1024) (hg : g.val = 128 * t.val + i.val) :
    ((cfg1.win 5).blk t).view.emb (ix2 i k : S128x1.Idx) = (ix2 g k : S1024x1.Idx) := by
  blk_ext [index1_5 t, hg]
  show t.val * 128 + i.val = 128 * t.val + i.val
  omega
/-- The array that holds every point's block, whatever the points leave. -/
theorem whole1_5 (dat : Dat τ (Elt Ideal) Unit ℕ (UR sig nD τ) ℕ cfg1 c) (f : Fin cfg1.N → S128x1.Idx → BitVec 32) (hf : ∀ t, dat.after 5 t = f t) (G : IVec S1024x1 32)
    (h : ∀ (t : Fin cfg1.N) (i : Fin 128) (k : Fin 1) (g : Fin 1024), g.val = 128 * t.val + i.val → f t (ix2 i k) = G (ix2 g k)) :
    dat.arrAt 5 cfg1.N = G := by
  have h' (t : Fin cfg1.N) (y : S128x1.Idx) : f t y = G (((cfg1.win 5).blk t).view.emb y) := by
    obtain ⟨i, k, rfl⟩ := two _ _ y
    have ht : t.val < 8 := t.isLt
    rw [place1_5 t i k ⟨128 * t.val + i.val, by have := i.isLt; omega⟩ rfl]
    exact h t i k _ rfl
  refine dat.arrAt_eq_of_covers 5 G (by decide +kernel) fun t _ y => ?_
  blk_simp
  exact (congrFun (hf t) y).trans (h' t y)
/-- The counts' array, from its rows. -/
theorem last_2 (G : IVec S1024x1 32) (h : ∀ (t : Fin cfg1.N) (i : Fin 128) (k : Fin 1) (g : Fin 1024), g.val = 128 * t.val + i.val →
      found5 (F := Ideal) c t (blk1 (V2 m (outs0 m)) c 0 t) (blk1 (V2 m (outs0 m)) c 1 t) (blk1 (V2 m (outs0 m)) c 2 t) (ix2 i k) = G (ix2 g k)) :
    (last m c (Proc.devRef .tc main_v6_2) : IVec S1024x1 32) = G := by
  unfold last
  refine (Pipeline.afterRegion_arr (dat1 (V2 m (outs0 m)) c) (V2 m (outs0 m) c) winFacts1.arr_inj 5).trans ?_
  exact whole1_5 c _ _ (fun t => after1_5 c (V2 m (outs0 m)) t) G h

end Cert.Proof

end
-- ==== Proof.Own.Columns.lean ====
module

public import proofs.«01_k».proof.Proof.Own.PointForm

@[expose] public section

set_option maxRecDepth 65536

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## A point's floating result, column by column -/

variable (K : Reads Ideal) (X2 : FVec Ideal S128x16 .f32) (i : Fin 128)

/-- The first column is the angle. -/
theorem rowsOut_0 : rowsOut K X2 (ix2 i 0) = angle (ansM K) (ix2 i 0) := by
  unfold rowsOut
  exact concatenate_apply_piece (t := S128x11) 1 [⟨S128x1, angle (ansM K)⟩, ⟨S128x1, dist (ansQ K)⟩, ⟨S128x9, nine X2⟩]
    concatenates_S128x1_S128x1_S128x9_S128x11_d1 _ 0 (by simp) S128x1 (angle (ansM K)) rfl rfl 0 rfl (ix2 i 0)
    (fun b hb => match b with | ⟨0, _⟩ => rfl | ⟨1, _⟩ => absurd rfl hb) rfl
/-- The second is the distance. -/
theorem rowsOut_1 : rowsOut K X2 (ix2 i 1) = dist (ansQ K) (ix2 i 0) := by
  unfold rowsOut
  exact concatenate_apply_piece (t := S128x11) 1 [⟨S128x1, angle (ansM K)⟩, ⟨S128x1, dist (ansQ K)⟩, ⟨S128x9, nine X2⟩]
    concatenates_S128x1_S128x1_S128x9_S128x11_d1 _ 1 (by simp) S128x1 (dist (ansQ K)) rfl rfl 1 rfl (ix2 i 0)
    (fun b hb => match b with | ⟨0, _⟩ => rfl | ⟨1, _⟩ => absurd rfl hb) rfl
/-- The other nine are the rotation. -/
theorem rowsOut_2 (k : Fin 9) : rowsOut K X2 (ix2 i ⟨2 + k.val, by omega⟩) = nine X2 (ix2 i k) := by
  unfold rowsOut
  exact concatenate_apply_piece (t := S128x11) 1 [⟨S128x1, angle (ansM K)⟩, ⟨S128x1, dist (ansQ K)⟩, ⟨S128x9, nine X2⟩]
    concatenates_S128x1_S128x1_S128x9_S128x11_d1 _ 2 (by simp) S128x9 (nine X2) rfl rfl 2 rfl (ix2 i k)
    (fun b hb => match b with | ⟨0, _⟩ => rfl | ⟨1, _⟩ => absurd rfl hb) rfl

/-- A column of the floating result: the angle, the distance, or an entry of the rotation. -/
theorem columns (k : Fin 11) : k = 0 ∨ k = 1 ∨ ∃ a b : Fin 3, k = ⟨2 + (3 * a.val + b.val), by omega⟩ := by
  by_cases h0 : k.val = 0
  · exact .inl (Fin.ext h0)
  by_cases h1 : k.val = 1
  · exact .inr (.inl (Fin.ext h1))
  refine .inr (.inr ⟨⟨(k.val - 2) / 3, by omega⟩, ⟨(k.val - 2) % 3, Nat.mod_lt _ (by decide)⟩, Fin.ext ?_⟩)
  show k.val = 2 + (3 * ((k.val - 2) / 3) + (k.val - 2) % 3)
  omega

end Cert.Proof

end
-- ==== Proof.Own.RefRows.lean ====
module

public import proofs.«01_k».proof.Proof.Own.RefRun
public import proofs.«01_k».proof.Proof.Own.Best
public import Idealize.ShloMosaic.Lib.ValueIdx
public import Idealize.ShloMosaic.Lib.Pipeline.Value

@[expose] public section

set_option maxRecDepth 65536

noncomputable section

namespace Cert.Proof.Ref

open Cert.ReferenceIdeal Cert.ReferenceIdeal.Gen
open Idealize.ShloMosaic Idealize.ShloMosaic.TcCoe Idealize.ShloMosaic.StableHlo Idealize.SL.Sem
open Idealize.ShloMosaic.ValueIdx

/-! ## The reference's rows, over the extended reals -/

/-- A choice by a decided bit. -/
theorem selR_dec {α : Type} (p : Prop) [Decidable p] (x y : α) : Scalar.select (BitVec.ofBool (decide p)) x y = if p then x else y := by
  by_cases h : p <;> simp [h] <;> rfl

/-- A column spread along its rows. -/
theorem colR_apply {α : Type} (x : S1024x1.Idx → α) (i : Fin 1024) (k : Fin 16384) :
    broadcastInDim S1024x16384 ![0, 1] bcast_S1024x1_S1024x16384_0_1 x (ix2 i k) = x (ix2 i 0) :=
  broadcastInDim_apply _ _ _ _ _ fun a => match a with | ⟨0, _⟩ => rfl | ⟨1, _⟩ => rfl
/-- A vector stood up as a column. -/
theorem upR_apply {α : Type} (x : S1024.Idx → α) (i : Fin 1024) :
    broadcastInDim S1024x1 ![0] bcast_S1024_S1024x1_0 x (ix2 i 0) = x (ix1 i) :=
  broadcastInDim_apply _ _ _ _ _ fun a => match a with | ⟨0, _⟩ => rfl
/-- A row spread down its columns. -/
theorem rowR_apply {α : Type} (x : S1x16384.Idx → α) (i : Fin 1024) (k : Fin 16384) :
    broadcastInDim S1024x16384 ![0, 1] bcast_S1x16384_S1024x16384_0_1 x (ix2 i k) = x (ix2 0 k) :=
  broadcastInDim_apply _ _ _ _ _ fun a => match a with | ⟨0, _⟩ => rfl | ⟨1, _⟩ => rfl
/-- A vector laid as a row. -/
theorem upC_apply {α : Type} (x : S16384.Idx → α) (k : Fin 16384) :
    broadcastInDim S1x16384 ![1] bcast_S16384_S1x16384_1 x (ix2 0 k) = x (ix1 k) :=
  broadcastInDim_apply _ _ _ _ _ fun a => match a with | ⟨0, _⟩ => rfl

/-- The rows are folded. -/
theorem reduces_rows : S1024x16384.Reduces [1] S1024 := by decide
/-- Where a term of a row's fold lies. -/
theorem lift_rows (i : Fin 1024) (k : Fin 16384) : reduces_rows.lift (ix1 i) k = ix2 i k := by
  funext a
  match a with
  | ⟨0, _⟩ => rfl
  | ⟨1, _⟩ => rfl

/-- A conjunction, entry by entry. -/
theorem andi_at {s : Shape} {w : ℕ} (x y : IVec s w) (j : s.Idx) : andi x y j = IntOp.andi (x j) (y j) := rfl
/-- A negation, entry by entry. -/
theorem noti_at {s : Shape} {w : ℕ} (x : IVec s w) (j : s.Idx) : noti x j = ~~~(x j) := rfl
/-- A disjunction of bits. -/
theorem ori_bool (a b : Bool) : IntOp.ori (BitVec.ofBool a) (BitVec.ofBool b) = BitVec.ofBool (a || b) := by revert a b; decide
/-- A conjunction of bits. -/
theorem andi_bool (a b : Bool) : IntOp.andi (BitVec.ofBool a) (BitVec.ofBool b) = BitVec.ofBool (a && b) := by revert a b; decide
/-- A choice by a bit. -/
theorem selR_bool {α : Type} (b : Bool) (x y : α) : Scalar.select (BitVec.ofBool b) x y = if b then x else y := by cases b <;> rfl

/-- The threshold. -/
def thrR : EReal := ((1475739569874923725 / 2305843009213693952 : ℝ) : EReal)

variable (c q : FVec Ideal S1024x16384 .f32)

/-- A distance, from its square. -/
theorem dists_apply (i : Fin 1024) (k : Fin 16384) : dists q (ix2 i k) = distE (q (ix2 i k)) := rfl
/-- Being within the radius, from the square. -/
theorem within_apply (i : Fin 1024) (k : Fin 16384) : within (dists q) (ix2 i k) = BitVec.ofBool (decide (q (ix2 i k) ≤ thrR)) := by
  show BitVec.ofBool (decide (dists q (ix2 i k) ≤ Ideal.ofBits .f32 0x3F4CCCCD#32)) = _
  rw [dists_apply, decide_eq_decide.2 (dist_le_iff _)]
  rfl

/-- The count of a row. -/
theorem howMany_apply (i : Fin 1024) : howMany (within (dists q)) (ix1 i) = tally fun k => q (ix2 i k) ≤ thrR := by
  unfold howMany
  rw [Host.reduce_eq_fold_single IntOp.addi _ _ _ reduces_rows]
  show Finset.univ.fold (fun x y : BitVec 32 => x + y) 0#32 _ = _
  rw [show (0#32 : BitVec 32) = 0 from rfl]
  refine (Finset.fold_congr fun k _ => ?_ : _ = Finset.univ.fold (fun x y : BitVec 32 => x + y) 0 fun k : Fin 16384 => if q (ix2 i k) ≤ thrR then 1#32 else 0#32).trans ?_
  · show BitVec.setWidth 32 (within (dists q) (reduces_rows.lift (ix1 i) k)) = _
    rw [show reduces_rows.lift (ix1 i) k = ix2 i k from lift_rows i k, within_apply]
    by_cases h : q (ix2 i k) ≤ thrR
    · rw [decide_eq_true h, if_pos h]; rfl
    · rw [decide_eq_false h, if_neg h]; rfl
  · unfold tally
    rw [Finset.sum_eq_fold]

open Classical in
/-- What is set aside: outside the radius, where the row has something within. -/
theorem aside_apply (i : Fin 1024) (k : Fin 16384) :
    aside (within (dists q)) (ix2 i k) = BitVec.ofBool (decide ((∃ k, q (ix2 i k) ≤ thrR) ∧ ¬q (ix2 i k) ≤ thrR)) := by
  have hany : Host.reduce IntOp.ori (within (dists q)) (constantI S_ 1 0#1) reducesTo_S1024x16384_S1024_d1 h_S_ (ix1 i)
      = BitVec.ofBool (decide (∃ k, q (ix2 i k) ≤ thrR)) := by
    rw [Host.reduce_eq_fold_single IntOp.ori _ _ _ reduces_rows]
    show Finset.univ.fold IntOp.ori 0#1 _ = _
    have h := fold_ori (Finset.univ : Finset (Fin 16384)) (within (dists q) ∘ reduces_rows.lift (ix1 i))
    have h' : (∃ k ∈ (Finset.univ : Finset (Fin 16384)), (within (dists q) ∘ reduces_rows.lift (ix1 i)) k = 1#1) ↔ ∃ k, q (ix2 i k) ≤ thrR := by
      refine exists_congr fun k => ?_
      show k ∈ Finset.univ ∧ within (dists q) (reduces_rows.lift (ix1 i) k) = 1#1 ↔ _
      rw [lift_rows, within_apply]
      by_cases hk : q (ix2 i k) ≤ thrR <;> simp [hk]
    replace h := h.trans h'
    by_cases he : ∃ k, q (ix2 i k) ≤ thrR
    · rw [decide_eq_true he]; exact h.2 he
    · rw [decide_eq_false he]; exact eq_zero_of_ne_one fun h1 => he (h.1 h1)
  unfold aside
  rw [andi_at, noti_at, colR_apply, upR_apply, hany, within_apply]
  by_cases h1 : ∃ k, q (ix2 i k) ≤ thrR <;> by_cases h2 : q (ix2 i k) ≤ thrR
  · rw [decide_eq_true h1, decide_eq_true h2, decide_eq_false fun h => h.2 h2]; rfl
  · rw [decide_eq_true h1, decide_eq_false h2, decide_eq_true ⟨h1, h2⟩]; rfl
  · rw [decide_eq_false h1, decide_eq_true h2, decide_eq_false fun h => h1 h.1]; rfl
  · rw [decide_eq_false h1, decide_eq_false h2, decide_eq_false fun h => h1 h.1]; rfl

open Classical in
/-- A masked entry. -/
theorem masked_apply (x : FVec Ideal S1024x16384 .f32) (i : Fin 1024) (k : Fin 16384) : masked (aside (within (dists q))) x (ix2 i k)
    = if (∃ k, q (ix2 i k) ≤ thrR) ∧ ¬q (ix2 i k) ≤ thrR then ((10000 : ℝ) : EReal) else x (ix2 i k) := by
  show Scalar.select (aside (within (dists q)) (ix2 i k)) (Ideal.ofBits .f32 0x461C4000#32) (x (ix2 i k)) = _
  rw [aside_apply, selR_dec, lit_far]

/-! ### The chosen place -/

/-- What the choice is greatest in. -/
def goalR (i : Fin 1024) (j : Fin 16384) : EReal := open Classical in
  if ∃ k, q (ix2 i k) ≤ thrR then (if q (ix2 i j) ≤ thrR then c (ix2 i j) else ((-3 : ℝ) : EReal)) else c (ix2 i j)

/-- The angle falls as the cosine rises. -/
theorem arccos_anti {r s : ℝ} (hr : -1 < r) (hr' : r < 1) (hs : -1 < s) (hs' : s < 1) : r < s ↔ Real.arccos s < Real.arccos r :=
  ⟨fun h => Real.arccos_lt_arccos hr.le h hs'.le, fun h => not_le.1 fun hle => absurd h (not_lt.2 (Real.arccos_le_arccos hle))⟩

/-- Masked angles. -/
abbrev tm : FVec Ideal S1024x16384 .f32 := masked (aside (within (dists q))) (Host.acos c)

section
variable (hc : ∀ y, ∃ x, c y = clipE x)
include hc

/-- A clipped cosine is a real strictly between minus one and one. -/
theorem c_real (y : S1024x16384.Idx) : ∃ r : ℝ, c y = (r : EReal) ∧ -1 < r ∧ r < 1 := by
  obtain ⟨x, e⟩ := hc y
  rw [e]
  exact clipE_real x

/-- Its angle is real. -/
theorem acos_c (y : S1024x16384.Idx) {r : ℝ} (e : c y = (r : EReal)) (h1 : -1 < r) (h2 : r < 1) : Host.acos (F := Ideal) (φ := .f32) c y = ((Real.arccos r : ℝ) : EReal) := by
  show Ideal.acos (c y) = _
  rw [e, Ideal.acos_coe, if_pos ⟨h1.le, h2.le⟩]

/-- The masked angle falls as the goal rises. -/
theorem tm_anti (i : Fin 1024) (j k : Fin 16384) : goalR c q i j < goalR c q i k ↔ tm c q (ix2 i k) < tm c q (ix2 i j) := by
  classical
  obtain ⟨r, er, r1, r2⟩ := c_real c hc (ix2 i j)
  obtain ⟨s, es, s1, s2⟩ := c_real c hc (ix2 i k)
  have hpi : Real.pi < 10000 := by linarith [Real.pi_le_four]
  have ar : Real.arccos r < 10000 := (Real.arccos_le_pi r).trans_lt hpi
  have hs : Real.arccos s < 10000 := (Real.arccos_le_pi s).trans_lt hpi
  unfold tm goalR
  rw [masked_apply, masked_apply, acos_c c hc _ er r1 r2, acos_c c hc _ es s1 s2, er, es]
  by_cases hany : ∃ k, q (ix2 i k) ≤ thrR
  · rw [if_pos hany, if_pos hany]
    by_cases hj : q (ix2 i j) ≤ thrR <;> by_cases hk : q (ix2 i k) ≤ thrR
    · rw [if_pos hj, if_pos hk, if_neg fun h => h.2 hk, if_neg fun h => h.2 hj, EReal.coe_lt_coe_iff, EReal.coe_lt_coe_iff]
      exact arccos_anti r1 r2 s1 s2
    · rw [if_pos hj, if_neg hk, if_pos ⟨hany, hk⟩, if_neg fun h => h.2 hj, EReal.coe_lt_coe_iff, EReal.coe_lt_coe_iff]
      exact ⟨fun h => by linarith, fun h => by linarith⟩
    · rw [if_neg hj, if_pos hk, if_neg fun h => h.2 hk, if_pos ⟨hany, hj⟩, EReal.coe_lt_coe_iff, EReal.coe_lt_coe_iff]
      exact ⟨fun _ => hs, fun _ => by linarith⟩
    · rw [if_neg hj, if_neg hk, if_pos ⟨hany, hk⟩, if_pos ⟨hany, hj⟩, EReal.coe_lt_coe_iff, EReal.coe_lt_coe_iff]
      exact ⟨fun h => absurd h (lt_irrefl _), fun h => absurd h (lt_irrefl _)⟩
  · rw [if_neg hany, if_neg hany, if_neg fun h => hany h.1, if_neg fun h => hany h.1, EReal.coe_lt_coe_iff, EReal.coe_lt_coe_iff]
    exact arccos_anti r1 r2 s1 s2

/-- A masked angle is finite. -/
theorem tm_lt_top (i : Fin 1024) (j : Fin 16384) : tm c q (ix2 i j) < ⊤ := by
  classical
  obtain ⟨r, er, r1, r2⟩ := c_real c hc (ix2 i j)
  unfold tm
  rw [masked_apply, acos_c c hc _ er r1 r2]
  split <;> exact EReal.coe_lt_top _

omit hc in
/-- The search's step keeps the lesser of two pairs. -/
theorem reducer_least (a b : EReal × BitVec 32) : (reducer_argmin_f32_i32 (F := Ideal) a b = a ∨ reducer_argmin_f32_i32 (F := Ideal) a b = b)
    ∧ lexLe (reducer_argmin_f32_i32 (F := Ideal) a b) a ∧ lexLe (reducer_argmin_f32_i32 (F := Ideal) a b) b := by
  obtain ⟨x, v⟩ := a
  obtain ⟨y, w⟩ := b
  have e : reducer_argmin_f32_i32 (F := Ideal) (x, v) (y, w)
      = (Scalar.select (IntOp.ori (BitVec.ofBool (decide (x < y))) (BitVec.ofBool (decide (x ≠ x)))) x y,
        Scalar.select (IntOp.ori (IntOp.ori (BitVec.ofBool (decide (x < y))) (BitVec.ofBool (decide (x ≠ x)))) (IntOp.andi (BitVec.ofBool (decide (x = y))) (BitVec.ofBool (v.slt w)))) v w) := rfl
  have e' : reducer_argmin_f32_i32 (F := Ideal) (x, v) (y, w) = (if x < y then x else y, if x < y ∨ (x = y ∧ v.slt w) then v else w) := by
    rw [e, decide_eq_false (fun h => h rfl : ¬x ≠ x), ori_bool, andi_bool, ori_bool, selR_bool, selR_bool]
    simp
  rw [e']
  unfold lexLe
  rcases lt_trichotomy x y with h | h | h
  · rw [if_pos h, if_pos (.inl h)]
    exact ⟨.inl rfl, .inr ⟨rfl, le_rfl⟩, .inl h⟩
  · subst h
    rw [if_neg (lt_irrefl x)]
    by_cases hs : v.slt w
    · rw [if_pos (.inr ⟨rfl, hs⟩)]
      exact ⟨.inl rfl, .inr ⟨rfl, le_rfl⟩, .inr ⟨rfl, (BitVec.slt_iff_toInt_lt.1 hs).le⟩⟩
    · have hs' : w.toInt ≤ v.toInt := not_lt.1 fun hl => hs (BitVec.slt_iff_toInt_lt.2 hl)
      rw [if_neg fun h => h.elim (lt_irrefl x) fun h => hs h.2]
      exact ⟨.inr rfl, .inr ⟨rfl, hs'⟩, .inr ⟨rfl, le_rfl⟩⟩
  · rw [if_neg (not_lt.2 h.le), if_neg fun h' => h'.elim (fun h' => not_lt.2 h.le h') fun h' => h.ne' h'.1]
    exact ⟨.inr rfl, .inl h, .inr ⟨rfl, le_rfl⟩⟩

end

/-- A choice along an axis by a body that keeps the lesser pair: the initial pair or one along the axis, and not above any. -/
theorem arg_least {s t u : Shape} {a : Fin s.rank} (f : EReal × BitVec 32 → EReal × BitVec 32 → EReal × BitVec 32)
    (hf : ∀ a b, (f a b = a ∨ f a b = b) ∧ lexLe (f a b) a ∧ lexLe (f a b) b) (x : FVec Ideal s .f32) (y : IVec s 32) (ix : FVec Ideal u .f32) (iy : IVec u 32)
    (h' : s.ReducesTo [a] t) (h : s.Reduces [a] t) (hu : 0 < u.numel) (j : t.Idx) :
    (Host.argReduce (F := Ideal) (φ := .f32) f x y ix iy h' hu j = (ix (Shape.Idx.first hu), iy (Shape.Idx.first hu))
      ∨ ∃ k, Host.argReduce (F := Ideal) (φ := .f32) f x y ix iy h' hu j = (x (h.lift j k), y (h.lift j k)))
    ∧ ∀ k, lexLe (Host.argReduce (F := Ideal) (φ := .f32) f x y ix iy h' hu j) (x (h.lift j k), y (h.lift j k)) := by
  rw [Ideal.argReduce_eq_reduce2, Host.reduce2_eq_foldl_fiber]
  obtain ⟨g1, -, g3⟩ := foldl_least f hf (Host.argReduceFiber x y h' j) (ix (Shape.Idx.first hu), iy (Shape.Idx.first hu))
  refine ⟨g1.imp id fun g => ?_, fun k => g3 _ ?_⟩
  · unfold Host.argReduceFiber at g
    obtain ⟨n, hn, e⟩ := List.mem_map.1 g
    have hd := of_decide_eq_true (List.mem_filter.1 hn).2
    rw [Shape.ReducesTo.drop_eq_drop h' h] at hd
    refine ⟨(s.rowMajor.symm n) a, ?_⟩
    have e2 : h.lift j ((s.rowMajor.symm n) a) = s.rowMajor.symm n := by rw [← hd]; exact h.lift_drop _
    rw [e2]
    exact e.symm
  · unfold Host.argReduceFiber
    refine List.mem_map.2 ⟨s.rowMajor (h.lift j k), List.mem_filter.2 ⟨List.mem_finRange _, decide_eq_true ?_⟩, ?_⟩
    · rw [Equiv.symm_apply_apply, Shape.ReducesTo.drop_eq_drop h' h]
      exact h.drop_lift _ _
    · rw [Equiv.symm_apply_apply]

end Cert.Proof.Ref

end
-- ==== Proof.Own.RefLeast.lean ====
module

public import proofs.«01_k».proof.Proof.Own.RefRun
public import proofs.«01_k».proof.Proof.Own.Best
public import proofs.«01_k».proof.Proof.Own.RefRows
public import Idealize.ShloMosaic.Lib.ValueIdx
public import Idealize.ShloMosaic.Lib.Pipeline.Value

@[expose] public section

set_option maxRecDepth 65536

noncomputable section

namespace Cert.Proof.Ref

open Cert.ReferenceIdeal Cert.ReferenceIdeal.Gen
open Idealize.ShloMosaic Idealize.ShloMosaic.TcCoe Idealize.ShloMosaic.StableHlo Idealize.SL.Sem
open Idealize.ShloMosaic.ValueIdx

/-! ## The place of the least entry of a row -/

variable (c q : FVec Ideal S1024x16384 .f32)

/-- The place of an entry in its row. -/
theorem iota_row (i : Fin 1024) (k : Fin 16384) : iotaInDim S1024x16384 32 1 (ix2 i k) = BitVec.ofNat 32 k.val := rfl

/-- The search starts from infinity and place zero. -/
theorem start_pair : ((constant (F := Ideal) S_ .f32 0x7F800000#32) (Shape.Idx.first h_S_), (constantI S_ 32 0#32) (Shape.Idx.first h_S_)) = ((⊤ : EReal), 0#32) :=
  congrArg (·, 0#32) lit_top

/-- A search's place is the second part of a fold over pairs. -/
theorem arg_pair {s t u : Shape} {a : Fin s.rank} (f : EReal × BitVec 32 → EReal × BitVec 32 → EReal × BitVec 32)
    (hf : ∀ a b, (f a b = a ∨ f a b = b) ∧ lexLe (f a b) a ∧ lexLe (f a b) b) (x : FVec Ideal s .f32) (y : IVec s 32) (ix : FVec Ideal u .f32) (iy : IVec u 32)
    (h' : s.ReducesTo [a] t) (h : s.Reduces [a] t) (hu : 0 < u.numel) (j : t.Idx) :
    ∃ p : EReal × BitVec 32, (Host.argReduce (F := Ideal) (φ := .f32) f x y ix iy h' hu j).2 = p.2
      ∧ (p = (ix (Shape.Idx.first hu), iy (Shape.Idx.first hu)) ∨ ∃ k, p = (x (h.lift j k), y (h.lift j k))) ∧ ∀ k, lexLe p (x (h.lift j k), y (h.lift j k)) :=
  ⟨_, rfl, arg_least f hf x y ix iy h' h hu j⟩

/-- An entry of a row. -/
theorem entry_row (x : FVec Ideal S1024x16384 .f32) (i : Fin 1024) (k : Fin 16384) :
    ((x (reduces_rows.lift (ix1 i) k), iotaInDim S1024x16384 32 1 (reduces_rows.lift (ix1 i) k)) : EReal × BitVec 32) = (x (ix2 i k), BitVec.ofNat 32 k.val) :=
  (congrArg (fun n => ((x n, iotaInDim S1024x16384 32 1 n) : EReal × BitVec 32)) (lift_rows i k)).trans (congrArg (Prod.mk _) (iota_row i k))

/-- The chosen places as one search. -/
theorem least_eq {F : FTy → Type} [FloatOps F] (x : FVec F S1024x16384 .f32)  : least x = fun j =>
  (Host.argReduce reducer_argmin_f32_i32 x (iotaInDim S1024x16384 32 1) (constant S_ .f32 0x7F800000#32) (constantI S_ 32 0#32)
    reducesTo_S1024x16384_S1024_d1 h_S_ j).2 := by
  delta least
  with_reducible rfl

/-- The chosen place comes with its value, a fold over the row. -/
theorem least_pair (x : FVec Ideal S1024x16384 .f32) (i : Fin 1024) : ∃ p : EReal × BitVec 32, least x (ix1 i) = p.2
    ∧ (p = (⊤, 0#32) ∨ ∃ k : Fin 16384, p = (x (ix2 i k), BitVec.ofNat 32 k.val)) ∧ ∀ k : Fin 16384, lexLe p (x (ix2 i k), BitVec.ofNat 32 k.val) := by
  obtain ⟨p, e, g1, g3⟩ := arg_pair (reducer_argmin_f32_i32 (F := Ideal)) reducer_least x (iotaInDim S1024x16384 32 1) (constant (F := Ideal) S_ .f32 0x7F800000#32) (constantI S_ 32 0#32)
    reducesTo_S1024x16384_S1024_d1 reduces_rows h_S_ (ix1 i)
  have e' : least x (ix1 i) = p.2 := by
    rw [least_eq]
    exact e
  clear e
  exact ⟨p, e', g1.imp (fun h => h.trans start_pair) fun ⟨k, hk⟩ => ⟨k, hk.trans (entry_row x i k)⟩, fun k => (entry_row x i k) ▸ g3 k⟩

/-- The first least entry is found when its value is below the start. -/
theorem least_first (x : FVec Ideal S1024x16384 .f32) (i : Fin 1024) (j : Fin 16384) (b1 : ∀ k, x (ix2 i j) ≤ x (ix2 i k)) (b2 : ∀ k < j, x (ix2 i j) < x (ix2 i k))
    (ht : x (ix2 i j) < ⊤) : least x (ix1 i) = BitVec.ofNat 32 j.val := by
  obtain ⟨p, e, g1, g3⟩ := least_pair x i
  rw [e]
  have hjp := g3 j
  rcases g1 with rfl | ⟨k, rfl⟩
  · exact absurd ht (not_lt.2 (hjp.elim (fun h => le_of_lt h) fun h => le_of_eq h.1))
  · show BitVec.ofNat 32 k.val = _
    have hk := k.isLt
    have hj := j.isLt
    rcases hjp with h | ⟨h, h2⟩
    · exact absurd (b1 k) (not_le.2 h)
    · have h2' : (BitVec.ofNat 32 k.val).toInt ≤ (BitVec.ofNat 32 j.val).toInt := h2
      rw [toInt_small (n := k.val) (by omega), toInt_small (n := j.val) (by omega)] at h2'
      rcases lt_or_eq_of_le (show k.val ≤ j.val by omega) with hlt | heq
      · exact absurd h (b2 k hlt).ne'
      · rw [heq]

/-- The chosen place is the first greatest one. -/
theorem least_apply (hc : ∀ y, ∃ x, c y = clipE x) (i : Fin 1024) {j : Fin 16384} (hj : Best (goalR c q i) j) : least (tm c q) (ix1 i) = BitVec.ofNat 32 j.val := by
  obtain ⟨b1, b2⟩ := hj.of_anti (T := fun k => tm c q (ix2 i k)) fun j k => tm_anti c q hc i j k
  exact least_first _ i j b1 b2 (tm_lt_top c q hc i j)

end Cert.Proof.Ref

end
-- ==== Proof.Own.RefTaken.lean ====
module

public import proofs.«01_k».proof.Proof.Own.RefRun
public import proofs.«01_k».proof.Proof.Own.Best
public import proofs.«01_k».proof.Proof.Own.RefRows
public import Idealize.ShloMosaic.Lib.ValueIdx
public import Idealize.ShloMosaic.Lib.Pipeline.Value

@[expose] public section

set_option maxRecDepth 65536

noncomputable section

namespace Cert.Proof.Ref

open Cert.ReferenceIdeal Cert.ReferenceIdeal.Gen
open Idealize.ShloMosaic Idealize.ShloMosaic.TcCoe Idealize.ShloMosaic.StableHlo Idealize.SL.Sem
open Idealize.ShloMosaic.ValueIdx

/-! ### What is taken there -/

/-- The gather reads its row at the start, clamped to the table. -/
theorem gather_row (x : FVec Ideal S1024x16384 .f32) (st : IVec S1024x1x1 32) (i : Fin 1024) (j : Fin 16384)
    (h : st (ix3 i 0 0) = BitVec.ofNat 32 j.val) :
    Host.gather gather_S1024x16384_S1024x1x1_S1024x1_n_1_0_0_1_2_11 x st (ix2 i 0) = x (ix2 i j) := by
  unfold Host.gather
  refine congrArg x (funext fun a => Fin.ext ?_)
  match a with
  | ⟨0, _⟩ =>
    show gather_S1024x16384_S1024x1x1_S1024x1_n_1_0_0_1_2_11.start (ix2 i 0) st 0 + gather_S1024x16384_S1024x1x1_S1024x1_n_1_0_0_1_2_11.batchCoord (ix2 i 0) 0
      + gather_S1024x16384_S1024x1x1_S1024x1_n_1_0_0_1_2_11.offCoord (ix2 i 0) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    have hm : (0 : Fin 2) ∈ gather_S1024x16384_S1024x1x1_S1024x1_n_1_0_0_1_2_11.operandBatchingDims := List.mem_singleton.mpr rfl
    unfold GatherDims.batchCoord
    exact (dif_pos hm).trans rfl
  | ⟨1, _⟩ =>
    show min (st (gather_S1024x16384_S1024x1x1_S1024x1_n_1_0_0_1_2_11.siIdx (ix2 i 0) ⟨0, by decide⟩)).toInt.toNat 16383 = j.val
    have e : gather_S1024x16384_S1024x1x1_S1024x1_n_1_0_0_1_2_11.siIdx (ix2 i 0) ⟨0, by decide⟩ = ix3 i 0 0 := by
      funext b
      match b with
      | ⟨0, _⟩ => rfl
      | ⟨1, _⟩ => rfl
      | ⟨2, _⟩ => rfl
    rw [e, h, toInt_small (by have := j.isLt; omega)]
    have := j.isLt
    omega

/-- Where a chosen entry is taken from. -/
theorem start_apply (ix : IVec S1024x1 32) (i : Fin 1024) (j : Fin 16384) (h : ix (ix2 i 0) = BitVec.ofNat 32 j.val) :
    start ix (ix3 i 0 0) = BitVec.ofNat 32 j.val := by
  unfold start
  rw [shapeCast_apply _ shapeCasts_S1024x1_S1024x1x1 (ix3 i 0 0) (ix2 i 0) (by
    rw [Shape.rowMajor_val_two, Shape.rowMajor_val_three]; show i.val * 1 + 0 = (i.val * 1 + 0) * 1 + 0; omega)]
  show Scalar.select (BitVec.ofBool ((ix (ix2 i 0)).slt 0#32)) _ (ix (ix2 i 0)) = _
  have hs : (ix (ix2 i 0)).slt 0#32 = false := by
    rw [h, Bool.eq_false_iff]
    intro hlt
    have h' := BitVec.slt_iff_toInt_lt.1 hlt
    rw [toInt_small (n := j.val) (by have := j.isLt; omega)] at h'
    have e0 : (0#32 : BitVec 32).toInt = 0 := rfl
    omega
  rw [hs, h]
  rfl

/-- A conjunction of one bit. -/
theorem fold_unit (f : Fin 1 → BitVec 1) : Finset.univ.fold IntOp.andi 1#1 f = IntOp.andi (f default) 1#1 := by
  rw [Finset.univ_unique, Finset.fold_singleton]
/-- The bounds' bits are folded. -/
theorem reduces_unit : S1024x1x1.Reduces [2] S1024x1 := by decide

/-- Taking along a row gives the entry at the chosen place. -/
theorem taken_apply (x : FVec Ideal S1024x16384 .f32) (ix : IVec S1024 32) (i : Fin 1024) (j : Fin 16384) (h : ix (ix1 i) = BitVec.ofNat 32 j.val) :
    taken x ix (ix1 i) = x (ix2 i j) := by
  unfold taken
  have hs : start (broadcastInDim S1024x1 ![0] bcast_S1024_S1024x1_0 ix) (ix3 i 0 0) = BitVec.ofNat 32 j.val :=
    start_apply _ i j (by rw [upR_apply, h])
  generalize start (broadcastInDim S1024x1 ![0] bcast_S1024_S1024x1_0 ix) = st at hs
  rw [shapeCast_apply _ shapeCasts_S1024x1_S1024 (ix1 i) (ix2 i 0) (by
    rw [Shape.rowMajor_val_one, Shape.rowMajor_val_two]; show i.val * 1 + 0 = i.val; omega)]
  rw [select_apply, gather_row x st i j hs, Host.reduce_eq_fold_single IntOp.andi _ _ _ reduces_unit]
  have hin : Finset.univ.fold IntOp.andi 1#1 ((andi (cmpi .sge st (broadcastInDim S1024x1x1 ![] bcast_S_S1024x1x1 (constantI S_ 32 0#32)))
        (cmpi .sle st (broadcastInDim S1024x1x1 ![0, 1, 2] bcast_S1x1x1_S1024x1x1_0_1_2
          (broadcastInDim S1x1x1 ![2] bcast_S1_S1x1x1_2 (constantI S1 32 16383#32))))) ∘ reduces_unit.lift (ix2 i 0)) = 1#1 := by
    refine (fold_unit _).trans ?_
    have el : reduces_unit.lift (ix2 i 0) (default : Fin 1) = ix3 i 0 0 := by
      funext b
      match b with
      | ⟨0, _⟩ => rfl
      | ⟨1, _⟩ => rfl
      | ⟨2, _⟩ => rfl
    show IntOp.andi (IntOp.andi (BitVec.ofBool ((0#32 : BitVec 32).sle (st (reduces_unit.lift (ix2 i 0) (default : Fin 1))))) (BitVec.ofBool ((st (reduces_unit.lift (ix2 i 0) (default : Fin 1))).sle 16383#32))) 1#1 = 1#1
    rw [el, hs]
    have hj := j.isLt
    have e1 : (0#32 : BitVec 32).sle (BitVec.ofNat 32 j.val) = true := BitVec.sle_iff_toInt_le.2 (by
      rw [toInt_small (n := j.val) (by omega)]; show (0 : ℤ) ≤ _; omega)
    have e2 : (BitVec.ofNat 32 j.val).sle 16383#32 = true := BitVec.sle_iff_toInt_le.2 (by
      rw [toInt_small (n := j.val) (by omega)]; show _ ≤ (16383 : ℤ); omega)
    rw [e1, e2]
    rfl
  exact (congrArg (fun b => Scalar.select b _ _) hin).trans (select_one _ _)

end Cert.Proof.Ref

end
-- ==== Proof.Own.RefAnswer.lean ====
module

public import proofs.«01_k».proof.Proof.Own.RefRun
public import proofs.«01_k».proof.Proof.Own.Best
public import proofs.«01_k».proof.Proof.Own.RefLeast
public import proofs.«01_k».proof.Proof.Own.RefTaken
public import Idealize.ShloMosaic.Lib.ValueIdx
public import Idealize.ShloMosaic.Lib.Pipeline.Value

@[expose] public section

set_option maxRecDepth 65536

noncomputable section

namespace Cert.Proof.Ref

open Cert.ReferenceIdeal Cert.ReferenceIdeal.Gen
open Idealize.ShloMosaic Idealize.ShloMosaic.TcCoe Idealize.ShloMosaic.StableHlo Idealize.SL.Sem
open Idealize.ShloMosaic.ValueIdx

/-! ## What a row of the reference comes to -/

variable (c q : FVec Ideal S1024x16384 .f32)

/-- A row of the reference. -/
theorem row_ref (hc : ∀ y, ∃ x, c y = clipE x) (i : Fin 1024) {j : Fin 16384} (hj : Best (goalR c q i) j) :
    least (tm c q) (ix1 i) = BitVec.ofNat 32 j.val ∧ taken (tm c q) (least (tm c q)) (ix1 i) = Ideal.acos (c (ix2 i j))
      ∧ taken (masked (aside (within (dists q))) (dists q)) (least (tm c q)) (ix1 i) = distE (q (ix2 i j)) := by
  classical
  have h := least_apply c q hc i hj
  have hn : ¬((∃ k, q (ix2 i k) ≤ thrR) ∧ ¬q (ix2 i j) ≤ thrR) := by
    rintro ⟨⟨k, hk⟩, hnj⟩
    have h1 := hj.1 k
    unfold goalR at h1
    have hany : ∃ k, q (ix2 i k) ≤ thrR := ⟨k, hk⟩
    rw [if_pos hany, if_pos hany, if_pos hk, if_neg hnj] at h1
    obtain ⟨r, er, r1, -⟩ := c_real c hc (ix2 i k)
    rw [er, EReal.coe_le_coe_iff] at h1
    linarith
  refine ⟨h, ?_, ?_⟩
  · rw [taken_apply _ _ i j h]
    unfold tm
    rw [masked_apply, if_neg hn]
    rfl
  · rw [taken_apply _ _ i j h, masked_apply, if_neg hn, dists_apply]

end Cert.Proof.Ref

end
-- ==== Proof.Own.RefForm.lean ====
module

public import proofs.«01_k».proof.Proof.Own.RefRun
public import proofs.«01_k».proof.Proof.Own.RefRows
public import proofs.«01_k».proof.Proof.Own.Terms
public import Idealize.ShloMosaic.Lib.StackMember
public import Idealize.ShloMosaic.Lib.ValueIdx
public import Idealize.ShloMosaic.Lib.Pipeline.Value

@[expose] public section

set_option maxRecDepth 65536

noncomputable section

namespace Cert.Proof.Ref

open Cert.ReferenceIdeal Cert.ReferenceIdeal.Gen
open Idealize.ShloMosaic Idealize.ShloMosaic.TcCoe Idealize.ShloMosaic.StableHlo Idealize.SL.Sem
open Idealize.ShloMosaic.ValueIdx

/-! ## The reference's tables, entry by entry -/

/-- A pose's viewing direction. -/
theorem axisT_apply (P : FVec Ideal S1024x4x4 .f32) (i : Fin 1024) (a : Fin 3) : axisT P (ix2 i a) = P (ix3 i (a.castLE (by decide)) 2) := by
  unfold axisT rot
  rw [shapeCast_apply _ shapeCasts_S1024x3x1_S1024x3 (ix2 i a) (ix3 i a 0) (by
    rw [Shape.rowMajor_val_two, Shape.rowMajor_val_three]; show (i.val * 3 + a.val) * 1 + 0 = i.val * 3 + a.val; omega)]
  refine (extractStridedSlice_apply _ _ _ _ (ix3 i a 2) fun b => ?_).trans (extractStridedSlice_apply _ _ _ _ _ fun b => ?_)
  · match b with
    | ⟨0, _⟩ => exact (Nat.zero_add _).symm
    | ⟨1, _⟩ => exact (Nat.zero_add _).symm
    | ⟨2, _⟩ => rfl
  · match b with
    | ⟨0, _⟩ => exact (Nat.zero_add _).symm
    | ⟨1, _⟩ => exact (Nat.zero_add _).symm
    | ⟨2, _⟩ => rfl

/-- A pose's origin. -/
theorem orgT_apply (P : FVec Ideal S1024x4x4 .f32) (i : Fin 1024) (a : Fin 3) : orgT P (ix2 i a) = P (ix3 i (a.castLE (by decide)) 3) := by
  unfold orgT
  rw [shapeCast_apply _ shapeCasts_S1024x3x1_S1024x3 (ix2 i a) (ix3 i a 0) (by
    rw [Shape.rowMajor_val_two, Shape.rowMajor_val_three]; show (i.val * 3 + a.val) * 1 + 0 = i.val * 3 + a.val; omega)]
  refine extractStridedSlice_apply _ _ _ _ _ fun b => ?_
  match b with
  | ⟨0, _⟩ => exact (Nat.zero_add _).symm
  | ⟨1, _⟩ => exact (Nat.zero_add _).symm
  | ⟨2, _⟩ => rfl

/-- A candidate's viewing direction. -/
theorem axisC_apply (R : FVec Ideal S16384x3x3 .f32) (j : Fin 16384) (a : Fin 3) : axisC R (ix2 j a) = R (ix3 j a 2) := by
  unfold axisC
  rw [shapeCast_apply _ shapeCasts_S16384x3x1_S16384x3 (ix2 j a) (ix3 j a 0) (by
    rw [Shape.rowMajor_val_two, Shape.rowMajor_val_three]; show (j.val * 3 + a.val) * 1 + 0 = j.val * 3 + a.val; omega)]
  refine extractStridedSlice_apply _ _ _ _ _ fun b => ?_
  match b with
  | ⟨0, _⟩ => exact (Nat.zero_add _).symm
  | ⟨1, _⟩ => exact (Nat.zero_add _).symm
  | ⟨2, _⟩ => rfl

/-- The poses' rows are summed. -/
theorem reduces_T : S1024x3.Reduces [1] S1024 := by decide
/-- The candidates' rows are summed. -/
theorem reduces_C : S16384x3.Reduces [1] S16384 := by decide
/-- Where a term of a pose's sum lies. -/
theorem lift_T (i : Fin 1024) (k : Fin 3) : reduces_T.lift (ix1 i) k = ix2 i k := by
  funext a
  match a with
  | ⟨0, _⟩ => rfl
  | ⟨1, _⟩ => rfl
/-- Where a term of a candidate's sum lies. -/
theorem lift_C (i : Fin 16384) (k : Fin 3) : reduces_C.lift (ix1 i) k = ix2 i k := by
  funext a
  match a with
  | ⟨0, _⟩ => rfl
  | ⟨1, _⟩ => rfl

/-- A sum along a pose's row. -/
theorem sum_T (x : FVec Ideal S1024x3 .f32) (i : Fin 1024) :
    Host.reduceAdd x (constant (F := Ideal) S_ .f32 0x00000000#32) reducesTo_S1024x3_S1024_d1 h_S_ (ix1 i) = ∑ a : Fin 3, x (ix2 i a) := by
  show Ideal.hostReduceAdd reducesTo_S1024x3_S1024_d1 x (Ideal.ofBits .f32 0x00000000#32) (ix1 i) = _
  refine (Ideal.hostReduceAdd_single reducesTo_S1024x3_S1024_d1 reduces_T x _ (ix1 i)).trans ?_
  rw [Ideal.ofBits_zero_f32, zero_add]
  exact Finset.sum_congr rfl fun k _ => congrArg x (lift_T i k)

/-- A sum along a candidate's row. -/
theorem sum_C (x : FVec Ideal S16384x3 .f32) (i : Fin 16384) :
    Host.reduceAdd x (constant (F := Ideal) S_ .f32 0x00000000#32) reducesTo_S16384x3_S16384_d1 h_S_ (ix1 i) = ∑ a : Fin 3, x (ix2 i a) := by
  show Ideal.hostReduceAdd reducesTo_S16384x3_S16384_d1 x (Ideal.ofBits .f32 0x00000000#32) (ix1 i) = _
  refine (Ideal.hostReduceAdd_single reducesTo_S16384x3_S16384_d1 reduces_C x _ (ix1 i)).trans ?_
  rw [Ideal.ofBits_zero_f32, zero_add]
  exact Finset.sum_congr rfl fun k _ => congrArg x (lift_C i k)

section
variable {s : Shape} (x y : FVec Ideal s .f32) (j : s.Idx)
/-- A quotient, entry by entry. -/
theorem hdiv_at : Host.divf x y j = Ideal.div (x j) (y j) := rfl
/-- A root, entry by entry. -/
theorem hsqrt_at : Host.sqrt x j = Ideal.sqrt (x j) := rfl
/-- A sum, entry by entry. -/
theorem add_at : addf x y j = x j + y j := rfl
/-- A difference, entry by entry. -/
theorem sub_at : subf x y j = x j - y j := rfl
/-- A product, entry by entry. -/
theorem mul_at : mulf x y j = x j * y j := rfl
end

/-- A vector stood up as a column. -/
theorem upper_C {α : Type} (x : S16384.Idx → α) (i : Fin 16384) : broadcastInDim S16384x1 ![0] bcast_S16384_S16384x1_0 x (ix2 i 0) = x (ix1 i) :=
  broadcastInDim_apply _ _ _ _ _ fun b => match b with | ⟨0, _⟩ => rfl

/-- A pose's normalised direction. -/
theorem unitT_apply (x : FVec Ideal S1024x3 .f32) (i : Fin 1024) (a : Fin 3) : unitT x (ix2 i a) = unitE (fun b => x (ix2 i b)) a := by
  unfold unitT unitE
  rw [hdiv_at, broadcastInDim_apply _ bcast_S1024x1_S1024x3_0_1 _ (ix2 i a) (ix2 i 0) fun b => match b with | ⟨0, _⟩ => rfl | ⟨1, _⟩ => rfl]
  rw [add_at, hsqrt_at, upR_apply, sum_T]
  rfl

/-- A candidate's normalised direction. -/
theorem unitC_apply (x : FVec Ideal S16384x3 .f32) (i : Fin 16384) (a : Fin 3) : unitC x (ix2 i a) = unitE (fun b => x (ix2 i b)) a := by
  unfold unitC unitE
  rw [hdiv_at, broadcastInDim_apply _ bcast_S16384x1_S16384x3_0_1 _ (ix2 i a) (ix2 i 0) fun b => match b with | ⟨0, _⟩ => rfl | ⟨1, _⟩ => rfl]
  rw [add_at, hsqrt_at, upper_C, sum_C]
  rfl

/-- The inner product of a pose and a candidate. -/
theorem product_apply (d : FVec Ideal S1024x3 .f32) (e : FVec Ideal S16384x3 .f32) (i : Fin 1024) (j : Fin 16384) :
    Host.dotGeneral dot_S1024x3_S3x16384_S1024x16384_1_0_0_1_n_n none d (transpose S3x16384 [1, 0] e transposes_S16384x3_S3x16384_1_0) (ix2 i j)
      = ∑ a : Fin 3, d (ix2 i a) * e (ix2 j a) := by
  refine (StackMember.dotGeneral_plain_apply none d (transpose S3x16384 [1, 0] e transposes_S16384x3_S3x16384_1_0) i j).trans ?_
  refine Finset.sum_congr rfl fun a _ => congrArg (d (ix2 i a) * ·) ?_
  exact transpose_apply _ e _ _ (ix2 j a) fun b => match b with | ⟨0, _⟩ => rfl | ⟨1, _⟩ => rfl

/-- Their clipped cosine. -/
theorem cosines_apply (d : FVec Ideal S1024x3 .f32) (e : FVec Ideal S16384x3 .f32) (i : Fin 1024) (j : Fin 16384) :
    cosines d e (ix2 i j) = clipE (∑ a : Fin 3, d (ix2 i a) * e (ix2 j a)) := by
  rw [← product_apply d e i j]
  rfl

/-- Their squared distance. -/
theorem squares_apply (o : FVec Ideal S1024x3 .f32) (T : FVec Ideal S16384x3 .f32) (i : Fin 1024) (j : Fin 16384) :
    squares o T (ix2 i j) = sqE (fun a => o (ix2 i a)) fun a => T (ix2 j a) := by
  unfold squares sqE
  rw [sub_at, add_at, mul_at, product_apply, colR_apply, upR_apply, sum_T, rowR_apply, upC_apply, sum_C]
  rfl

/-- A clipped cosine of the reference. -/
theorem ref_cos (P : FVec Ideal S1024x4x4 .f32) (R : FVec Ideal S16384x3x3 .f32) (i : Fin 1024) (j : Fin 16384) :
    cosines (unitT (axisT P)) (unitC (axisC R)) (ix2 i j) = clipE (cosE (fun a => P (ix3 i (a.castLE (by decide)) 2)) fun a => R (ix3 j a 2)) := by
  rw [cosines_apply]
  unfold cosE
  congr 1
  refine Finset.sum_congr rfl fun a _ => ?_
  rw [unitT_apply, unitC_apply]
  simp only [axisT_apply, axisC_apply]
/-- A squared distance of the reference. -/
theorem ref_sq (P : FVec Ideal S1024x4x4 .f32) (T : FVec Ideal S16384x3 .f32) (i : Fin 1024) (j : Fin 16384) :
    squares (orgT P) T (ix2 i j) = sqE (fun a => P (ix3 i (a.castLE (by decide)) 3)) fun a => T (ix2 j a) := by
  rw [squares_apply]
  simp only [orgT_apply]

end Cert.Proof.Ref

end
-- ==== Proof.Own.RefResult.lean ====
module

public import proofs.«01_k».proof.Proof.Own.RefRun
public import proofs.«01_k».proof.Proof.Own.Best
public import proofs.«01_k».proof.Proof.Own.RefAnswer
public import proofs.«01_k».proof.Proof.Own.RefForm
public import Idealize.ShloMosaic.Lib.ValueIdx
public import Idealize.ShloMosaic.Lib.Pipeline.Value

@[expose] public section

set_option maxRecDepth 65536

noncomputable section

namespace Cert.Proof.Ref

open Cert.ReferenceIdeal Cert.ReferenceIdeal.Gen
open Idealize.ShloMosaic Idealize.ShloMosaic.TcCoe Idealize.ShloMosaic.StableHlo Idealize.SL.Sem
open Idealize.ShloMosaic.ValueIdx

/-! ## The reference's results, entry by entry -/

section
variable (a d : FVec Ideal S1024 .f32) (R : FVec Ideal S1024x3x3 .f32) (g : Fin 1024)

/-- The first column is the angle. -/
theorem joined_0 : joined a d R (ix2 g 0) = a (ix1 g) := by
  unfold joined
  refine (concatenate_apply_piece (t := S1024x11) 1 [⟨S1024x1, broadcastInDim S1024x1 ![0] bcast_S1024_S1024x1_0 a⟩, ⟨S1024x1, broadcastInDim S1024x1 ![0] bcast_S1024_S1024x1_0 d⟩, ⟨S1024x9, shapeCast S1024x9 R shapeCasts_S1024x3x3_S1024x9⟩]
    concatenates_S1024x1_S1024x1_S1024x9_S1024x11_d1 _ 0 (by simp) S1024x1 (broadcastInDim S1024x1 ![0] bcast_S1024_S1024x1_0 a) rfl rfl 0 rfl (ix2 g 0)
    (fun b hb => match b with | ⟨0, _⟩ => rfl | ⟨1, _⟩ => absurd rfl hb) rfl).trans ?_
  exact upR_apply a g
/-- The second is the distance. -/
theorem joined_1 : joined a d R (ix2 g 1) = d (ix1 g) := by
  unfold joined
  refine (concatenate_apply_piece (t := S1024x11) 1 [⟨S1024x1, broadcastInDim S1024x1 ![0] bcast_S1024_S1024x1_0 a⟩, ⟨S1024x1, broadcastInDim S1024x1 ![0] bcast_S1024_S1024x1_0 d⟩, ⟨S1024x9, shapeCast S1024x9 R shapeCasts_S1024x3x3_S1024x9⟩]
    concatenates_S1024x1_S1024x1_S1024x9_S1024x11_d1 _ 1 (by simp) S1024x1 (broadcastInDim S1024x1 ![0] bcast_S1024_S1024x1_0 d) rfl rfl 1 rfl (ix2 g 0)
    (fun b hb => match b with | ⟨0, _⟩ => rfl | ⟨1, _⟩ => absurd rfl hb) rfl).trans ?_
  exact upR_apply d g
/-- The other nine are the rotation. -/
theorem joined_2 (k l : Fin 3) : joined a d R (ix2 g ⟨2 + (3 * k.val + l.val), by omega⟩) = R (ix3 g k l) := by
  unfold joined
  refine (concatenate_apply_piece (t := S1024x11) 1 [⟨S1024x1, broadcastInDim S1024x1 ![0] bcast_S1024_S1024x1_0 a⟩, ⟨S1024x1, broadcastInDim S1024x1 ![0] bcast_S1024_S1024x1_0 d⟩, ⟨S1024x9, shapeCast S1024x9 R shapeCasts_S1024x3x3_S1024x9⟩]
    concatenates_S1024x1_S1024x1_S1024x9_S1024x11_d1 _ 2 (by simp) S1024x9 (shapeCast S1024x9 R shapeCasts_S1024x3x3_S1024x9) rfl rfl 2 rfl (ix2 g ⟨3 * k.val + l.val, by omega⟩)
    (fun b hb => match b with | ⟨0, _⟩ => rfl | ⟨1, _⟩ => absurd rfl hb) rfl).trans ?_
  refine shapeCast_apply _ _ _ (ix3 g k l) ?_
  rw [Shape.rowMajor_val_two, Shape.rowMajor_val_three]
  show (g.val * 3 + k.val) * 3 + l.val = g.val * 9 + (3 * k.val + l.val)
  omega
end

variable (R : FVec Ideal S16384x3x3 .f32) (T : FVec Ideal S16384x3 .f32) (P : FVec Ideal S1024x4x4 .f32)

/-- The clipped cosines of all pairs. -/
def allC : FVec Ideal S1024x16384 .f32 := cosines (unitT (axisT P)) (unitC (axisC R))
/-- The squared distances of all pairs. -/
def allQ : FVec Ideal S1024x16384 .f32 := squares (orgT P) T

/-- The clipped cosine of a pair, as a formula. -/
theorem allC_apply (g : Fin 1024) (j : Fin 16384) : allC R P (ix2 g j) = clipE (cosE (fun a => P (ix3 g (a.castLE (by decide)) 2)) fun a => R (ix3 j a 2)) := ref_cos P R g j
/-- The squared distance of a pair, as a formula. -/
theorem allQ_apply (g : Fin 1024) (j : Fin 16384) : allQ T P (ix2 g j) = sqE (fun a => P (ix3 g (a.castLE (by decide)) 3)) fun a => T (ix2 j a) := ref_sq P T g j

/-- The masked angles, from the cosines and squares. -/
theorem resTm_eq : resTm R T P = tm (allC R P) (allQ T P) := by unfold resTm resT resD tm allC allQ; rfl
/-- The masked distances, from the squares. -/
theorem resDm_eq : resDm T P = masked (aside (within (dists (allQ T P)))) (dists (allQ T P)) := by unfold resDm resD allQ; rfl
/-- The chosen places, from the cosines and squares. -/
theorem resI_eq : resI R T P = least (tm (allC R P) (allQ T P)) := by unfold resI; rw [resTm_eq]
/-- The counts, from the squares. -/
theorem resN_eq : resN T P = howMany (within (dists (allQ T P))) := by unfold resN resD allQ; rfl
/-- The floating result, from the cosines and squares. -/
theorem resO_eq : resO R T P = joined (taken (tm (allC R P) (allQ T P)) (least (tm (allC R P) (allQ T P))))
    (taken (masked (aside (within (dists (allQ T P)))) (dists (allQ T P))) (least (tm (allC R P) (allQ T P)))) (rot P) := by
  unfold resO
  rw [resI_eq, resTm_eq, resDm_eq]

/-- Each cosine is clipped. -/
theorem allC_clip (y : S1024x16384.Idx) : ∃ x, allC R P y = clipE x :=
  ⟨_, (congrArg (allC R P) (show y = ix2 (y 0) (y 1) by funext b; match b with | ⟨0, _⟩ => rfl | ⟨1, _⟩ => rfl)).trans (allC_apply R P (y 0) (y 1))⟩

section
variable (g : Fin 1024) {j : Fin 16384} (hj : Best (goalR (allC R P) (allQ T P) g) j)
include hj
/-- A row's chosen place. -/
theorem resI_row : resI R T P (ix1 g) = BitVec.ofNat 32 j.val := by
  rw [resI_eq]; exact (row_ref _ _ (allC_clip R P) g hj).1
/-- A row's angle. -/
theorem resO_angle : resO R T P (ix2 g 0) = Ideal.acos (allC R P (ix2 g j)) := by
  rw [resO_eq, joined_0]; exact (row_ref _ _ (allC_clip R P) g hj).2.1
/-- A row's distance. -/
theorem resO_dist : resO R T P (ix2 g 1) = distE (allQ T P (ix2 g j)) := by
  rw [resO_eq, joined_1]; exact (row_ref _ _ (allC_clip R P) g hj).2.2
end
/-- A row's rotation. -/
theorem resO_rot (g : Fin 1024) (k l : Fin 3) : resO R T P (ix2 g ⟨2 + (3 * k.val + l.val), by omega⟩) = P (ix3 g (k.castLE (by decide)) (l.castLE (by decide))) := by
  rw [resO_eq, joined_2]
  unfold rot
  exact extractStridedSlice_apply _ _ _ _ _ fun b => match b with
    | ⟨0, _⟩ => (Nat.zero_add _).symm
    | ⟨1, _⟩ => (Nat.zero_add _).symm
    | ⟨2, _⟩ => (Nat.zero_add _).symm
/-- A row's count. -/
theorem resN_row (g : Fin 1024) : resN T P (ix1 g) = tally fun k => allQ T P (ix2 g k) ≤ thrR := by
  rw [resN_eq]; exact howMany_apply (allQ T P) g

end Cert.Proof.Ref

end
-- ==== Proof.Own.Points.lean ====
module

public import proofs.«01_k».proof.Proof.Own.Arrays
public import proofs.«01_k».proof.Proof.Own.Columns
public import proofs.«01_k».proof.Proof.Own.RefResult

@[expose] public section

set_option maxRecDepth 65536

noncomputable section

namespace Cert.Proof

open Cert.KernelIdeal Cert.KernelIdeal.Gen

open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## A point's rows are the reference's -/

/-- The place of a pose's entry in its row. -/
def poseAt (a b : Fin 4) : Fin 16 := ⟨4 * a.val + b.val, by omega⟩

section
variable (X0 : FVec Ideal S3x16384 .f32) (X1 : FVec Ideal S4x16384 .f32) (X2 : FVec Ideal S128x16 .f32)
    (R : FVec Ideal S16384x3x3 .f32) (T : FVec Ideal S16384x3 .f32) (P : FVec Ideal S1024x4x4 .f32)
    (h : Tables X0 X1 (fun j a => R (ix3 j a 2)) (fun j a => T (ix2 j a))) (i : Fin 128) (g : Fin 1024)
    (hX : ∀ a b : Fin 4, X2 (ix2 i (poseAt a b)) = P (ix3 g a b))
include h hX

/-- A point's clipped cosine is the reference's. -/
theorem cv_ref (j : Fin 16384) : cv (readsOf X0 X1 X2) i j = Ref.allC R P (ix2 g j) := by
  rw [h.cv, Ref.allC_apply]
  refine congrArg (fun v => clipE (cosE v _)) (funext fun a => ?_)
  exact hX (a.castLE (by decide)) 2
/-- So is its squared distance. -/
theorem qv_ref (j : Fin 16384) : qv (readsOf X0 X1 X2) i j = Ref.allQ T P (ix2 g j) := by
  rw [h.qv, Ref.allQ_apply]
  refine congrArg (fun v => sqE v _) (funext fun a => ?_)
  exact hX (a.castLE (by decide)) 3
/-- So is what the choice is greatest in. -/
theorem goal_ref : goal (readsOf X0 X1 X2) i = Ref.goalR (Ref.allC R P) (Ref.allQ T P) g := by
  funext j
  unfold goal Ref.goalR ev
  simp only [cv_ref X0 X1 X2 R T P h i g hX, qv_ref X0 X1 X2 R T P h i g hX]
  rfl

/-- The chosen candidates agree. -/
theorem ansI_ref : ansI (readsOf X0 X1 X2) (ix2 i 0) = Ref.resI R T P (ix1 g) := by
  obtain ⟨j, hj⟩ := exists_best (goal (readsOf X0 X1 X2) i)
  rw [(row_answer _ i hj).2.1, Ref.resI_row R T P g (goal_ref X0 X1 X2 R T P h i g hX ▸ hj)]
/-- The counts agree. -/
theorem count_ref : cntOf (nSt (readsOf X0 X1 X2) 128) (ix2 i 0) = Ref.resN T P (ix1 g) := by
  rw [count_eq, Ref.resN_row]
  unfold tally
  refine Finset.sum_congr rfl fun j _ => ?_
  simp only [qv_ref X0 X1 X2 R T P h i g hX]
  rfl
/-- The floating columns agree. -/
theorem rows_ref (k : Fin 11) : rowsOut (readsOf X0 X1 X2) X2 (ix2 i k) = Ref.resO R T P (ix2 g k) := by
  obtain ⟨j, hj⟩ := exists_best (goal (readsOf X0 X1 X2) i)
  have hj' : Best (Ref.goalR (Ref.allC R P) (Ref.allQ T P) g) j := goal_ref X0 X1 X2 R T P h i g hX ▸ hj
  obtain ⟨hm, -, hq⟩ := row_answer _ i hj
  rcases columns k with rfl | rfl | ⟨a, b, rfl⟩
  · rw [rowsOut_0, Ref.resO_angle R T P g hj', ← cv_ref X0 X1 X2 R T P h i g hX j]
    exact angle_row _ i _ hm
  · rw [rowsOut_1, Ref.resO_dist R T P g hj', ← qv_ref X0 X1 X2 R T P h i g hX j]
    exact dist_row _ i _ hq
  · rw [Ref.resO_rot]
    refine (rowsOut_2 _ _ _ ⟨3 * a.val + b.val, by omega⟩).trans ((nine_apply X2 i a b).trans ?_)
    exact hX (a.castLE (by decide)) (b.castLE (by decide))
end

end Cert.Proof

end
-- ==== Proof.Own.Equation.lean ====
module

public import proofs.«01_k».proof.Defs
public import proofs.«01_k».proof.Proof.Own.Points

@[expose] public section

set_option maxRecDepth 65536

noncomputable section

namespace Cert.Proof

open Cert.KernelIdeal Cert.KernelIdeal.Gen

open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The kernel's results are the reference's -/

section
variable (m : (ℓ : Loc nD τ sig) → Buf (Elt Ideal) ℓ) (c : Dev nD)

/-- The floating array after the second region. -/
theorem last_rows : (last m c (Proc.devRef .tc main_v6_0) : FVec Ideal S1024x11 .f32) = Ref.resO (argR m c) (argT m c) (argP m c) :=
  last_0 m c _ fun t i k g hg => by
    rw [found3_eq]
    exact rows_ref _ _ _ _ _ _ (tables m c t) i g (fun a b => pose m c t i a b g hg) k
/-- The candidates' array. -/
theorem last_places : (last m c (Proc.devRef .tc main_v6_1) : IVec S1024x1 32) = fun y => Ref.resI (argR m c) (argT m c) (argP m c) (ix1 (y 0)) :=
  last_1 m c _ fun t i k g hg => by
    obtain rfl : k = 0 := Subsingleton.elim _ _
    rw [found4_eq]
    exact ansI_ref _ _ _ _ _ _ (tables m c t) i g (fun a b => pose m c t i a b g hg)
/-- The counts' array. -/
theorem last_counts : (last m c (Proc.devRef .tc main_v6_2) : IVec S1024x1 32) = fun y => Ref.resN (argT m c) (argP m c) (ix1 (y 0)) :=
  last_2 m c _ fun t i k g hg => by
    obtain rfl : k = 0 := Subsingleton.elim _ _
    rw [found5_eq]
    exact count_ref _ _ _ _ _ _ (tables m c t) i g (fun a b => pose m c t i a b g hg)

/-- A column of whole numbers read as a vector. -/
theorem flat (f : S1024.Idx → BitVec 32) : shapeCast S1024 (fun y : S1024x1.Idx => f (ix1 (y 0))) shapeCasts_S1024x1_S1024 = f := by
  funext y
  obtain ⟨a, rfl⟩ : ∃ a : Fin 1024, y = ix1 a := ⟨y 0, by funext d; match d with | ⟨0, _⟩ => rfl⟩
  exact shapeCast_apply _ _ _ (ix2 a 0) (by rw [Shape.rowMajor_val_one, Shape.rowMajor_val_two]; show a.val * 1 + 0 = a.val; omega)

/-- The floating result. -/
theorem end_rows : (V4 m (outs m) c (Proc.devRef .tc main_v6_0) : FVec Ideal S1024x11 .f32) = Ref.resO (argR m c) (argT m c) (argP m c) := by
  rw [V4_of m (outs m) c main_v6_0 (by decide), V3_0]
  exact last_rows m c
/-- The candidates are the second array flattened. -/
theorem V4_places : (V4 m (outs m) c (Proc.devRef .tc main_v7) : IVec S1024 32)
    = shapeCast S1024 (V3 m (outs m) c (Proc.devRef .tc main_v6_1) : IVec S1024x1 32) shapeCasts_S1024x1_S1024 := by
  rfl
/-- The counts are the third array flattened. -/
theorem V4_counts : (V4 m (outs m) c (Proc.devRef .tc main_v8) : IVec S1024 32)
    = shapeCast S1024 (V3 m (outs m) c (Proc.devRef .tc main_v6_2) : IVec S1024x1 32) shapeCasts_S1024x1_S1024 := by
  rfl
/-- The candidates. -/
theorem end_places : (V4 m (outs m) c (Proc.devRef .tc main_v7) : IVec S1024 32) = Ref.resI (argR m c) (argT m c) (argP m c) := by
  rw [V4_places, V3_1]
  exact (congrArg (fun z => shapeCast S1024 z shapeCasts_S1024x1_S1024) (last_places m c)).trans (flat _)
/-- The counts. -/
theorem end_counts : (V4 m (outs m) c (Proc.devRef .tc main_v8) : IVec S1024 32) = Ref.resN (argT m c) (argP m c) := by
  rw [V4_counts, V3_2]
  exact (congrArg (fun z => shapeCast S1024 z shapeCasts_S1024x1_S1024) (last_counts m c)).trans (flat _)
end

/-- The kernel and the reference end with the same three results, whatever the arguments. -/
theorem equation : Cert.algebraic_KernelIdeal_ReferenceIdeal (hKernelIdeal := Cert.KernelIdeal.Gen.facts) (hReferenceIdeal := Cert.ReferenceIdeal.Gen.facts) := by
  intro m g m' g' _ hm
  refine ⟨fun c => Ref.resO (argR m c) (argT m c) (argP m c), fun c => Ref.resI (argR m c) (argT m c) (argP m c), fun c => Ref.resN (argT m c) (argP m c), ?_, ?_⟩
  · refine (θ_run (Cert.KernelIdeal.defs (F := Ideal)) _ _).mono (fun r h c => ?_) (run (F := Ideal) m g)
    have h := h.1 c
    exact ⟨(h main_v6_0 rfl).trans (end_rows m c), (h main_v7 rfl).trans (end_places m c), (h main_v8 rfl).trans (end_counts m c),
      (h main_arg0 rfl).trans (V4_main_arg0 m (outs m) c), (h main_arg1 rfl).trans (V4_main_arg1 m (outs m) c), (h main_arg2 rfl).trans (V4_main_arg2 m (outs m) c)⟩
  · refine (θ_run (Cert.ReferenceIdeal.defs (F := Ideal)) _ _).mono (fun r h c => ?_) (Ref.run (F := Ideal) m' g')
    obtain ⟨h0, h1, h2, ha0, ha1, ha2⟩ := h c
    obtain ⟨e0, e1, e2⟩ := hm c
    rw [e0, e1, e2] at h0 h1
    rw [e1, e2] at h2
    exact ⟨h0, h1, h2, ha0, ha1, ha2⟩

end Cert.Proof

end
-- ==== Proof.lean ====
/- The proof of the claim: the kernel's frame, the idealized kernel's frame, the reference's frame, the one idealization
that changed an operation, and the equation of the results. The pieces are proved in `Proof/Own`; this module joins
them. -/
module

public import proofs.«01_k».proof.Defs
public import proofs.«01_k».proof.Proof.Own.Frames
public import proofs.«01_k».proof.Proof.Own.Equation

@[expose] public section

noncomputable section

namespace Cert.Proof

open Idealize.ShloMosaic

theorem claim : Cert.Claim :=
  ⟨Cert.Kernel.Gen.facts, Cert.KernelIdeal.Gen.facts, Cert.ReferenceIdeal.Gen.facts, frameKernel, frameIdeal, frameRef,
    preserved, equation⟩

end Cert.Proof

end
